-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 512, 1024]⟩ ⟨3, ![128, 512, 1024]⟩ 0 32 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v76) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1024x512 : Shape := ⟨2, ![1024, 512]⟩
abbrev S512x128 : Shape := ⟨2, ![512, 128]⟩
abbrev S1024x2 : Shape := ⟨2, ![1024, 2]⟩
abbrev S4x512x1024 : Shape := ⟨3, ![4, 512, 1024]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_

variable [Facts]

def fn {F : FTy → Type} [FloatOps F] (main_arg0 : FVec F S1024x512 .f32) (main_arg1 : FVec F S512x128 .f32) (main_arg2 : IVec S1024x2 32) (main_arg3 : FVec F S4x512x1024 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  let main_v4 : FVec F S512x128 .f32 := Host.absf main_arg1
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  main_v8
-- ==== Pre_finite_ReferenceIdeal.lean ====
abbrev S1024x512 : Shape := ⟨2, ![1024, 512]⟩
abbrev S512x128 : Shape := ⟨2, ![512, 128]⟩
abbrev S1024x2 : Shape := ⟨2, ![1024, 2]⟩
abbrev S128x512x1024 : Shape := ⟨3, ![128, 512, 1024]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_

variable [Facts]

def fn {F : FTy → Type} [FloatOps F] (main_arg0 : FVec F S1024x512 .f32) (main_arg1 : FVec F S512x128 .f32) (main_arg2 : IVec S1024x2 32) (main_arg3 : FVec F S128x512x1024 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  let main_v4 : FVec F S512x128 .f32 := Host.absf main_arg1
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  main_v8
-- ==== Kernel.lean ====
abbrev S1024x512 : Shape := ⟨2, ![1024, 512]⟩
abbrev S512x128 : Shape := ⟨2, ![512, 128]⟩
abbrev S1024x2 : Shape := ⟨2, ![1024, 2]⟩
abbrev S4x512x1024 : Shape := ⟨3, ![4, 512, 1024]⟩
abbrev S1024x1024 : Shape := ⟨2, ![1024, 1024]⟩
abbrev S992x512 : Shape := ⟨2, ![992, 512]⟩
abbrev S5 : Shape := ⟨1, ![5]⟩
abbrev S_ : Shape := ⟨0, ![]⟩
abbrev S1024x128 : Shape := ⟨2, ![1024, 128]⟩
abbrev S1024 : Shape := ⟨1, ![1024]⟩
abbrev S1024x1 : Shape := ⟨2, ![1024, 1]⟩
abbrev S1x512x512 : Shape := ⟨3, ![1, 512, 512]⟩
abbrev S512x512 : Shape := ⟨2, ![512, 512]⟩
abbrev S1 : Shape := ⟨1, ![1]⟩
abbrev S256x512 : Shape := ⟨2, ![256, 512]⟩
abbrev S128x512 : Shape := ⟨2, ![128, 512]⟩
abbrev S64x512 : Shape := ⟨2, ![64, 512]⟩
abbrev S32x512 : Shape := ⟨2, ![32, 512]⟩

abbrev nBuf : Space → Nat
  | .hbm => 5
  | .vmem => 13
  | .smem => 0
  | _ => 0

abbrev bufTy : (tb : Table) → Fin (tcTables nBuf tb) → BufTy
  | .hbm, ⟨0, _⟩ => ⟨S1024x512, .f32⟩
  | .hbm, ⟨1, _⟩ => ⟨S512x128, .f32⟩
  | .hbm, ⟨2, _⟩ => ⟨S1024x2, .i32⟩
  | .hbm, ⟨3, _⟩ => ⟨S4x512x1024, .f32⟩
  | .hbm, ⟨4, _⟩ => ⟨S1024x1024, .f32⟩
  | .local _ .vmem, ⟨0, _⟩ => ⟨S1024x512, .f32⟩
  | .local _ .vmem, ⟨1, _⟩ => ⟨S512x128, .f32⟩
  | .local _ .vmem, ⟨2, _⟩ => ⟨S1024x2, .i32⟩
  | .local _ .vmem, ⟨3, _⟩ => ⟨S4x512x1024, .f32⟩
  | .local _ .vmem, ⟨4, _⟩ => ⟨S1024x1024, .f32⟩
  | .local _ .vmem, ⟨5, _⟩ => ⟨S992x512, .bf16⟩
  | .local _ .vmem, ⟨6, _⟩ => ⟨S992x512, .bf16⟩
  | .local _ .vmem, ⟨7, _⟩ => ⟨S992x512, .bf16⟩
  | .local _ .vmem, ⟨8, _⟩ => ⟨S992x512, .bf16⟩
  | .local _ .vmem, ⟨9, _⟩ => ⟨S992x512, .bf16⟩
  | .local _ .vmem, ⟨10, _⟩ => ⟨S992x512, .bf16⟩
  | .local _ .vmem, ⟨11, _⟩ => ⟨S992x512, .bf16⟩
  | .local _ .vmem, ⟨12, _⟩ => ⟨S992x512, .bf16⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 1 → Bool
  | ⟨0, _⟩ => false
  | _ => false

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  (ofTc nBuf bufTy 1 45 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_scratch5 : Ref sig .tc := ⟨.vmem, 10, rfl⟩
abbrev cc0_scratch6 : Ref sig .tc := ⟨.vmem, 11, rfl⟩
abbrev cc0_scratch7 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_26 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.xori v2 c1_i32_0
  let c1_i32_25 : BitVec 32 := 1#32
  let v34 : BitVec 32 := Scalar.muli v3 c1_i32_25
  let v35 : BitVec 32 := Scalar.addi c0_i32_26 v34
  v35.toNat
def k0_dev2 (d0 : Dev nD) : Nat :=
  let c0_i32_29 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v4 : BitVec 32 := Scalar.xori v2 c8_i32
  let c1_i32_28 : BitVec 32 := 1#32
  let v36 : BitVec 32 := Scalar.muli v4 c1_i32_28
  let v37 : BitVec 32 := Scalar.addi c0_i32_29 v36
  v37.toNat
def k0_dev3 (d0 : Dev nD) : Nat :=
  let c0_i32_32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v5 : BitVec 32 := Scalar.xori v2 c2_i32
  let c1_i32_31 : BitVec 32 := 1#32
  let v38 : BitVec 32 := Scalar.muli v5 c1_i32_31
  let v39 : BitVec 32 := Scalar.addi c0_i32_32 v38
  v39.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v6 : BitVec 32 := Scalar.xori v2 c4_i32
  let c1_i32_34 : BitVec 32 := 1#32
  let v40 : BitVec 32 := Scalar.muli v6 c1_i32_34
  let v41 : BitVec 32 := Scalar.addi c0_i32_35 v40
  v41.toNat
def k0_dev5 (d0 : Dev nD) : Nat :=
  let c0_i32_38 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v7 : BitVec 32 := Scalar.xori v2 c16_i32
  let c1_i32_37 : BitVec 32 := 1#32
  let v42 : BitVec 32 := Scalar.muli v7 c1_i32_37
  let v43 : BitVec 32 := Scalar.addi c0_i32_38 v42
  v43.toNat
def k0_off1 (d0 : Dev nD) : Fin 2 → Nat :=
  let c0_i32_85 : BitVec 32 := 0#32
  let c1_i32_84 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v13 : BitVec 32 := Scalar.shrui v2 c0_i32
  let c1_i32_6 : BitVec 32 := 1#32
  let v14 : BitVec 32 := Scalar.andi v13 c1_i32_6
  let v148 : BitVec 32 := Scalar.subi c1_i32_84 v14
  let c512_i32 : BitVec 32 := 512#32
  let v149 : BitVec 32 := Scalar.muli v148 c512_i32
  let v150 : BitVec 32 := Scalar.addi c0_i32_85 v149
  let v151 : Index := Scalar.indexCast v150
  let c0_86 : Index := 0#32
  ![v151.toNat, 0]
def k0_dev6 (d0 : Dev nD) : Nat :=
  let c0_i32_92 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.xori v2 c1_i32_0
  let c1_i32_91 : BitVec 32 := 1#32
  let v158 : BitVec 32 := Scalar.muli v3 c1_i32_91
  let v159 : BitVec 32 := Scalar.addi c0_i32_92 v158
  v159.toNat
def k0_off2 (d0 : Dev nD) : Fin 2 → Nat :=
  let c0_i32_117 : BitVec 32 := 0#32
  let c1_i32_115 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_14 : BitVec 32 := 3#32
  let v23 : BitVec 32 := Scalar.shrui v2 c3_i32_14
  let c1_i32_15 : BitVec 32 := 1#32
  let v24 : BitVec 32 := Scalar.andi v23 c1_i32_15
  let v184 : BitVec 32 := Scalar.subi c1_i32_115 v24
  let c512_i32_116 : BitVec 32 := 512#32
  let v185 : BitVec 32 := Scalar.muli v184 c512_i32_116
  let v186 : BitVec 32 := Scalar.addi c0_i32_117 v185
  let v187 : Index := Scalar.indexCast v186
  let c512_118 : Index := 512#32
  ![v187.toNat, 512]
def k0_dev7 (d0 : Dev nD) : Nat :=
  let c0_i32_124 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1 : BitVec 32 := 8#32
  let v8 : BitVec 32 := Scalar.xori v2 c8_i32_1
  let c1_i32_123 : BitVec 32 := 1#32
  let v194 : BitVec 32 := Scalar.muli v8 c1_i32_123
  let v195 : BitVec 32 := Scalar.addi c0_i32_124 v194
  v195.toNat
def k0_off3 (d0 : Dev nD) : Fin 2 → Nat :=
  let c0_i32_130 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v13 : BitVec 32 := Scalar.shrui v2 c0_i32
  let c1_i32_6 : BitVec 32 := 1#32
  let v14 : BitVec 32 := Scalar.andi v13 c1_i32_6
  let c512_i32_129 : BitVec 32 := 512#32
  let v202 : BitVec 32 := Scalar.muli v14 c512_i32_129
  let v203 : BitVec 32 := Scalar.addi c0_i32_130 v202
  let v212 : Index := Scalar.indexCast v203
  let c0_141 : Index := 0#32
  ![v212.toNat, 0]
def k0_off4 (d0 : Dev nD) : Fin 2 → Nat :=
  let c0_i32_130 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v13 : BitVec 32 := Scalar.shrui v2 c0_i32
  let c1_i32_6 : BitVec 32 := 1#32
  let v14 : BitVec 32 := Scalar.andi v13 c1_i32_6
  let c512_i32_129 : BitVec 32 := 512#32
  let v202 : BitVec 32 := Scalar.muli v14 c512_i32_129
  let v203 : BitVec 32 := Scalar.addi c0_i32_130 v202
  let c1_i32_145 : BitVec 32 := 1#32
  let c3_i32 : BitVec 32 := 3#32
  let v15 : BitVec 32 := Scalar.shrui v2 c3_i32
  let c1_i32_7 : BitVec 32 := 1#32
  let v16 : BitVec 32 := Scalar.andi v15 c1_i32_7
  let v220 : BitVec 32 := Scalar.subi c1_i32_145 v16
  let c256_i32 : BitVec 32 := 256#32
  let v221 : BitVec 32 := Scalar.muli v220 c256_i32
  let v222 : BitVec 32 := Scalar.addi v203 v221
  let v223 : Index := Scalar.indexCast v222
  let c0_146 : Index := 0#32
  ![v223.toNat, 0]
def k0_dev8 (d0 : Dev nD) : Nat :=
  let c0_i32_152 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v4 : BitVec 32 := Scalar.xori v2 c8_i32
  let c1_i32_151 : BitVec 32 := 1#32
  let v230 : BitVec 32 := Scalar.muli v4 c1_i32_151
  let v231 : BitVec 32 := Scalar.addi c0_i32_152 v230
  v231.toNat
def k0_off5 (d0 : Dev nD) : Fin 2 → Nat :=
  let c0_i32_132 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_14 : BitVec 32 := 3#32
  let v23 : BitVec 32 := Scalar.shrui v2 c3_i32_14
  let c1_i32_15 : BitVec 32 := 1#32
  let v24 : BitVec 32 := Scalar.andi v23 c1_i32_15
  let c512_i32_131 : BitVec 32 := 512#32
  let v204 : BitVec 32 := Scalar.muli v24 c512_i32_131
  let v205 : BitVec 32 := Scalar.addi c0_i32_132 v204
  let v244 : Index := Scalar.indexCast v205
  let c512_165 : Index := 512#32
  ![v244.toNat, 512]
def k0_off6 (d0 : Dev nD) : Fin 2 → Nat :=
  let c0_i32_132 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_14 : BitVec 32 := 3#32
  let v23 : BitVec 32 := Scalar.shrui v2 c3_i32_14
  let c1_i32_15 : BitVec 32 := 1#32
  let v24 : BitVec 32 := Scalar.andi v23 c1_i32_15
  let c512_i32_131 : BitVec 32 := 512#32
  let v204 : BitVec 32 := Scalar.muli v24 c512_i32_131
  let v205 : BitVec 32 := Scalar.addi c0_i32_132 v204
  let c1_i32_169 : BitVec 32 := 1#32
  let c0_i32_16 : BitVec 32 := 0#32
  let v25 : BitVec 32 := Scalar.shrui v2 c0_i32_16
  let c1_i32_17 : BitVec 32 := 1#32
  let v26 : BitVec 32 := Scalar.andi v25 c1_i32_17
  let v252 : BitVec 32 := Scalar.subi c1_i32_169 v26
  let c256_i32_170 : BitVec 32 := 256#32
  let v253 : BitVec 32 := Scalar.muli v252 c256_i32_170
  let v254 : BitVec 32 := Scalar.addi v205 v253
  let v255 : Index := Scalar.indexCast v254
  let c512_171 : Index := 512#32
  ![v255.toNat, 512]
def k0_dev9 (d0 : Dev nD) : Nat :=
  let c0_i32_177 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_2 : BitVec 32 := 1#32
  let v9 : BitVec 32 := Scalar.xori v2 c1_i32_2
  let c1_i32_176 : BitVec 32 := 1#32
  let v262 : BitVec 32 := Scalar.muli v9 c1_i32_176
  let v263 : BitVec 32 := Scalar.addi c0_i32_177 v262
  v263.toNat
def k0_off7 (d0 : Dev nD) : Fin 2 → Nat :=
  let c0_i32_130 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v13 : BitVec 32 := Scalar.shrui v2 c0_i32
  let c1_i32_6 : BitVec 32 := 1#32
  let v14 : BitVec 32 := Scalar.andi v13 c1_i32_6
  let c512_i32_129 : BitVec 32 := 512#32
  let v202 : BitVec 32 := Scalar.muli v14 c512_i32_129
  let v203 : BitVec 32 := Scalar.addi c0_i32_130 v202
  let c3_i32 : BitVec 32 := 3#32
  let v15 : BitVec 32 := Scalar.shrui v2 c3_i32
  let c1_i32_7 : BitVec 32 := 1#32
  let v16 : BitVec 32 := Scalar.andi v15 c1_i32_7
  let c256_i32_182 : BitVec 32 := 256#32
  let v270 : BitVec 32 := Scalar.muli v16 c256_i32_182
  let v271 : BitVec 32 := Scalar.addi v203 v270
  let v280 : Index := Scalar.indexCast v271
  let c0_192 : Index := 0#32
  ![v280.toNat, 0]
def k0_off8 (d0 : Dev nD) : Fin 2 → Nat :=
  let c0_i32_130 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v13 : BitVec 32 := Scalar.shrui v2 c0_i32
  let c1_i32_6 : BitVec 32 := 1#32
  let v14 : BitVec 32 := Scalar.andi v13 c1_i32_6
  let c512_i32_129 : BitVec 32 := 512#32
  let v202 : BitVec 32 := Scalar.muli v14 c512_i32_129
  let v203 : BitVec 32 := Scalar.addi c0_i32_130 v202
  let c3_i32 : BitVec 32 := 3#32
  let v15 : BitVec 32 := Scalar.shrui v2 c3_i32
  let c1_i32_7 : BitVec 32 := 1#32
  let v16 : BitVec 32 := Scalar.andi v15 c1_i32_7
  let c256_i32_182 : BitVec 32 := 256#32
  let v270 : BitVec 32 := Scalar.muli v16 c256_i32_182
  let v271 : BitVec 32 := Scalar.addi v203 v270
  let c1_i32_196 : BitVec 32 := 1#32
  let c1_i32_8 : BitVec 32 := 1#32
  let v17 : BitVec 32 := Scalar.shrui v2 c1_i32_8
  let c1_i32_9 : BitVec 32 := 1#32
  let v18 : BitVec 32 := Scalar.andi v17 c1_i32_9
  let v288 : BitVec 32 := Scalar.subi c1_i32_196 v18
  let c128_i32 : BitVec 32 := 128#32
  let v289 : BitVec 32 := Scalar.muli v288 c128_i32
  let v290 : BitVec 32 := Scalar.addi v271 v289
  let v291 : Index := Scalar.indexCast v290
  let c0_197 : Index := 0#32
  ![v291.toNat, 0]
def k0_dev10 (d0 : Dev nD) : Nat :=
  let c0_i32_202 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v5 : BitVec 32 := Scalar.xori v2 c2_i32
  let c1_i32_201 : BitVec 32 := 1#32
  let v298 : BitVec 32 := Scalar.muli v5 c1_i32_201
  let v299 : BitVec 32 := Scalar.addi c0_i32_202 v298
  v299.toNat
def k0_off9 (d0 : Dev nD) : Fin 2 → Nat :=
  let c0_i32_132 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_14 : BitVec 32 := 3#32
  let v23 : BitVec 32 := Scalar.shrui v2 c3_i32_14
  let c1_i32_15 : BitVec 32 := 1#32
  let v24 : BitVec 32 := Scalar.andi v23 c1_i32_15
  let c512_i32_131 : BitVec 32 := 512#32
  let v204 : BitVec 32 := Scalar.muli v24 c512_i32_131
  let v205 : BitVec 32 := Scalar.addi c0_i32_132 v204
  let c0_i32_16 : BitVec 32 := 0#32
  let v25 : BitVec 32 := Scalar.shrui v2 c0_i32_16
  let c1_i32_17 : BitVec 32 := 1#32
  let v26 : BitVec 32 := Scalar.andi v25 c1_i32_17
  let c256_i32_183 : BitVec 32 := 256#32
  let v272 : BitVec 32 := Scalar.muli v26 c256_i32_183
  let v273 : BitVec 32 := Scalar.addi v205 v272
  let v312 : Index := Scalar.indexCast v273
  let c512_214 : Index := 512#32
  ![v312.toNat, 512]
def k0_off10 (d0 : Dev nD) : Fin 2 → Nat :=
  let c0_i32_132 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_14 : BitVec 32 := 3#32
  let v23 : BitVec 32 := Scalar.shrui v2 c3_i32_14
  let c1_i32_15 : BitVec 32 := 1#32
  let v24 : BitVec 32 := Scalar.andi v23 c1_i32_15
  let c512_i32_131 : BitVec 32 := 512#32
  let v204 : BitVec 32 := Scalar.muli v24 c512_i32_131
  let v205 : BitVec 32 := Scalar.addi c0_i32_132 v204
  let c0_i32_16 : BitVec 32 := 0#32
  let v25 : BitVec 32 := Scalar.shrui v2 c0_i32_16
  let c1_i32_17 : BitVec 32 := 1#32
  let v26 : BitVec 32 := Scalar.andi v25 c1_i32_17
  let c256_i32_183 : BitVec 32 := 256#32
  let v272 : BitVec 32 := Scalar.muli v26 c256_i32_183
  let v273 : BitVec 32 := Scalar.addi v205 v272
  let c1_i32_218 : BitVec 32 := 1#32
  let c2_i32_18 : BitVec 32 := 2#32
  let v27 : BitVec 32 := Scalar.shrui v2 c2_i32_18
  let c1_i32_19 : BitVec 32 := 1#32
  let v28 : BitVec 32 := Scalar.andi v27 c1_i32_19
  let v320 : BitVec 32 := Scalar.subi c1_i32_218 v28
  let c128_i32_219 : BitVec 32 := 128#32
  let v321 : BitVec 32 := Scalar.muli v320 c128_i32_219
  let v322 : BitVec 32 := Scalar.addi v273 v321
  let v323 : Index := Scalar.indexCast v322
  let c512_220 : Index := 512#32
  ![v323.toNat, 512]
def k0_dev11 (d0 : Dev nD) : Nat :=
  let c0_i32_226 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_3 : BitVec 32 := 4#32
  let v10 : BitVec 32 := Scalar.xori v2 c4_i32_3
  let c1_i32_225 : BitVec 32 := 1#32
  let v330 : BitVec 32 := Scalar.muli v10 c1_i32_225
  let v331 : BitVec 32 := Scalar.addi c0_i32_226 v330
  v331.toNat
def k0_off11 (d0 : Dev nD) : Fin 2 → Nat :=
  let c0_i32_130 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v13 : BitVec 32 := Scalar.shrui v2 c0_i32
  let c1_i32_6 : BitVec 32 := 1#32
  let v14 : BitVec 32 := Scalar.andi v13 c1_i32_6
  let c512_i32_129 : BitVec 32 := 512#32
  let v202 : BitVec 32 := Scalar.muli v14 c512_i32_129
  let v203 : BitVec 32 := Scalar.addi c0_i32_130 v202
  let c3_i32 : BitVec 32 := 3#32
  let v15 : BitVec 32 := Scalar.shrui v2 c3_i32
  let c1_i32_7 : BitVec 32 := 1#32
  let v16 : BitVec 32 := Scalar.andi v15 c1_i32_7
  let c256_i32_182 : BitVec 32 := 256#32
  let v270 : BitVec 32 := Scalar.muli v16 c256_i32_182
  let v271 : BitVec 32 := Scalar.addi v203 v270
  let c1_i32_8 : BitVec 32 := 1#32
  let v17 : BitVec 32 := Scalar.shrui v2 c1_i32_8
  let c1_i32_9 : BitVec 32 := 1#32
  let v18 : BitVec 32 := Scalar.andi v17 c1_i32_9
  let c128_i32_231 : BitVec 32 := 128#32
  let v338 : BitVec 32 := Scalar.muli v18 c128_i32_231
  let v339 : BitVec 32 := Scalar.addi v271 v338
  let v348 : Index := Scalar.indexCast v339
  let c0_241 : Index := 0#32
  ![v348.toNat, 0]
def k0_off12 (d0 : Dev nD) : Fin 2 → Nat :=
  let c0_i32_130 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v13 : BitVec 32 := Scalar.shrui v2 c0_i32
  let c1_i32_6 : BitVec 32 := 1#32
  let v14 : BitVec 32 := Scalar.andi v13 c1_i32_6
  let c512_i32_129 : BitVec 32 := 512#32
  let v202 : BitVec 32 := Scalar.muli v14 c512_i32_129
  let v203 : BitVec 32 := Scalar.addi c0_i32_130 v202
  let c3_i32 : BitVec 32 := 3#32
  let v15 : BitVec 32 := Scalar.shrui v2 c3_i32
  let c1_i32_7 : BitVec 32 := 1#32
  let v16 : BitVec 32 := Scalar.andi v15 c1_i32_7
  let c256_i32_182 : BitVec 32 := 256#32
  let v270 : BitVec 32 := Scalar.muli v16 c256_i32_182
  let v271 : BitVec 32 := Scalar.addi v203 v270
  let c1_i32_8 : BitVec 32 := 1#32
  let v17 : BitVec 32 := Scalar.shrui v2 c1_i32_8
  let c1_i32_9 : BitVec 32 := 1#32
  let v18 : BitVec 32 := Scalar.andi v17 c1_i32_9
  let c128_i32_231 : BitVec 32 := 128#32
  let v338 : BitVec 32 := Scalar.muli v18 c128_i32_231
  let v339 : BitVec 32 := Scalar.addi v271 v338
  let c1_i32_245 : BitVec 32 := 1#32
  let c2_i32_10 : BitVec 32 := 2#32
  let v19 : BitVec 32 := Scalar.shrui v2 c2_i32_10
  let c1_i32_11 : BitVec 32 := 1#32
  let v20 : BitVec 32 := Scalar.andi v19 c1_i32_11
  let v356 : BitVec 32 := Scalar.subi c1_i32_245 v20
  let c64_i32 : BitVec 32 := 64#32
  let v357 : BitVec 32 := Scalar.muli v356 c64_i32
  let v358 : BitVec 32 := Scalar.addi v339 v357
  let v359 : Index := Scalar.indexCast v358
  let c0_246 : Index := 0#32
  ![v359.toNat, 0]
def k0_dev12 (d0 : Dev nD) : Nat :=
  let c0_i32_251 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v6 : BitVec 32 := Scalar.xori v2 c4_i32
  let c1_i32_250 : BitVec 32 := 1#32
  let v366 : BitVec 32 := Scalar.muli v6 c1_i32_250
  let v367 : BitVec 32 := Scalar.addi c0_i32_251 v366
  v367.toNat
def k0_off13 (d0 : Dev nD) : Fin 2 → Nat :=
  let c0_i32_132 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_14 : BitVec 32 := 3#32
  let v23 : BitVec 32 := Scalar.shrui v2 c3_i32_14
  let c1_i32_15 : BitVec 32 := 1#32
  let v24 : BitVec 32 := Scalar.andi v23 c1_i32_15
  let c512_i32_131 : BitVec 32 := 512#32
  let v204 : BitVec 32 := Scalar.muli v24 c512_i32_131
  let v205 : BitVec 32 := Scalar.addi c0_i32_132 v204
  let c0_i32_16 : BitVec 32 := 0#32
  let v25 : BitVec 32 := Scalar.shrui v2 c0_i32_16
  let c1_i32_17 : BitVec 32 := 1#32
  let v26 : BitVec 32 := Scalar.andi v25 c1_i32_17
  let c256_i32_183 : BitVec 32 := 256#32
  let v272 : BitVec 32 := Scalar.muli v26 c256_i32_183
  let v273 : BitVec 32 := Scalar.addi v205 v272
  let c2_i32_18 : BitVec 32 := 2#32
  let v27 : BitVec 32 := Scalar.shrui v2 c2_i32_18
  let c1_i32_19 : BitVec 32 := 1#32
  let v28 : BitVec 32 := Scalar.andi v27 c1_i32_19
  let c128_i32_232 : BitVec 32 := 128#32
  let v340 : BitVec 32 := Scalar.muli v28 c128_i32_232
  let v341 : BitVec 32 := Scalar.addi v273 v340
  let v380 : Index := Scalar.indexCast v341
  let c512_263 : Index := 512#32
  ![v380.toNat, 512]
def k0_off14 (d0 : Dev nD) : Fin 2 → Nat :=
  let c0_i32_132 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_14 : BitVec 32 := 3#32
  let v23 : BitVec 32 := Scalar.shrui v2 c3_i32_14
  let c1_i32_15 : BitVec 32 := 1#32
  let v24 : BitVec 32 := Scalar.andi v23 c1_i32_15
  let c512_i32_131 : BitVec 32 := 512#32
  let v204 : BitVec 32 := Scalar.muli v24 c512_i32_131
  let v205 : BitVec 32 := Scalar.addi c0_i32_132 v204
  let c0_i32_16 : BitVec 32 := 0#32
  let v25 : BitVec 32 := Scalar.shrui v2 c0_i32_16
  let c1_i32_17 : BitVec 32 := 1#32
  let v26 : BitVec 32 := Scalar.andi v25 c1_i32_17
  let c256_i32_183 : BitVec 32 := 256#32
  let v272 : BitVec 32 := Scalar.muli v26 c256_i32_183
  let v273 : BitVec 32 := Scalar.addi v205 v272
  let c2_i32_18 : BitVec 32 := 2#32
  let v27 : BitVec 32 := Scalar.shrui v2 c2_i32_18
  let c1_i32_19 : BitVec 32 := 1#32
  let v28 : BitVec 32 := Scalar.andi v27 c1_i32_19
  let c128_i32_232 : BitVec 32 := 128#32
  let v340 : BitVec 32 := Scalar.muli v28 c128_i32_232
  let v341 : BitVec 32 := Scalar.addi v273 v340
  let c1_i32_267 : BitVec 32 := 1#32
  let c1_i32_20 : BitVec 32 := 1#32
  let v29 : BitVec 32 := Scalar.shrui v2 c1_i32_20
  let c1_i32_21 : BitVec 32 := 1#32
  let v30 : BitVec 32 := Scalar.andi v29 c1_i32_21
  let v388 : BitVec 32 := Scalar.subi c1_i32_267 v30
  let c64_i32_268 : BitVec 32 := 64#32
  let v389 : BitVec 32 := Scalar.muli v388 c64_i32_268
  let v390 : BitVec 32 := Scalar.addi v341 v389
  let v391 : Index := Scalar.indexCast v390
  let c512_269 : Index := 512#32
  ![v391.toNat, 512]
def k0_dev13 (d0 : Dev nD) : Nat :=
  let c0_i32_275 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_4 : BitVec 32 := 2#32
  let v11 : BitVec 32 := Scalar.xori v2 c2_i32_4
  let c1_i32_274 : BitVec 32 := 1#32
  let v398 : BitVec 32 := Scalar.muli v11 c1_i32_274
  let v399 : BitVec 32 := Scalar.addi c0_i32_275 v398
  v399.toNat
def k0_off15 (d0 : Dev nD) : Fin 2 → Nat :=
  let c0_i32_130 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v13 : BitVec 32 := Scalar.shrui v2 c0_i32
  let c1_i32_6 : BitVec 32 := 1#32
  let v14 : BitVec 32 := Scalar.andi v13 c1_i32_6
  let c512_i32_129 : BitVec 32 := 512#32
  let v202 : BitVec 32 := Scalar.muli v14 c512_i32_129
  let v203 : BitVec 32 := Scalar.addi c0_i32_130 v202
  let c3_i32 : BitVec 32 := 3#32
  let v15 : BitVec 32 := Scalar.shrui v2 c3_i32
  let c1_i32_7 : BitVec 32 := 1#32
  let v16 : BitVec 32 := Scalar.andi v15 c1_i32_7
  let c256_i32_182 : BitVec 32 := 256#32
  let v270 : BitVec 32 := Scalar.muli v16 c256_i32_182
  let v271 : BitVec 32 := Scalar.addi v203 v270
  let c1_i32_8 : BitVec 32 := 1#32
  let v17 : BitVec 32 := Scalar.shrui v2 c1_i32_8
  let c1_i32_9 : BitVec 32 := 1#32
  let v18 : BitVec 32 := Scalar.andi v17 c1_i32_9
  let c128_i32_231 : BitVec 32 := 128#32
  let v338 : BitVec 32 := Scalar.muli v18 c128_i32_231
  let v339 : BitVec 32 := Scalar.addi v271 v338
  let c2_i32_10 : BitVec 32 := 2#32
  let v19 : BitVec 32 := Scalar.shrui v2 c2_i32_10
  let c1_i32_11 : BitVec 32 := 1#32
  let v20 : BitVec 32 := Scalar.andi v19 c1_i32_11
  let c64_i32_280 : BitVec 32 := 64#32
  let v406 : BitVec 32 := Scalar.muli v20 c64_i32_280
  let v407 : BitVec 32 := Scalar.addi v339 v406
  let v416 : Index := Scalar.indexCast v407
  let c0_290 : Index := 0#32
  ![v416.toNat, 0]
def k0_off16 (d0 : Dev nD) : Fin 2 → Nat :=
  let c0_i32_130 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v13 : BitVec 32 := Scalar.shrui v2 c0_i32
  let c1_i32_6 : BitVec 32 := 1#32
  let v14 : BitVec 32 := Scalar.andi v13 c1_i32_6
  let c512_i32_129 : BitVec 32 := 512#32
  let v202 : BitVec 32 := Scalar.muli v14 c512_i32_129
  let v203 : BitVec 32 := Scalar.addi c0_i32_130 v202
  let c3_i32 : BitVec 32 := 3#32
  let v15 : BitVec 32 := Scalar.shrui v2 c3_i32
  let c1_i32_7 : BitVec 32 := 1#32
  let v16 : BitVec 32 := Scalar.andi v15 c1_i32_7
  let c256_i32_182 : BitVec 32 := 256#32
  let v270 : BitVec 32 := Scalar.muli v16 c256_i32_182
  let v271 : BitVec 32 := Scalar.addi v203 v270
  let c1_i32_8 : BitVec 32 := 1#32
  let v17 : BitVec 32 := Scalar.shrui v2 c1_i32_8
  let c1_i32_9 : BitVec 32 := 1#32
  let v18 : BitVec 32 := Scalar.andi v17 c1_i32_9
  let c128_i32_231 : BitVec 32 := 128#32
  let v338 : BitVec 32 := Scalar.muli v18 c128_i32_231
  let v339 : BitVec 32 := Scalar.addi v271 v338
  let c2_i32_10 : BitVec 32 := 2#32
  let v19 : BitVec 32 := Scalar.shrui v2 c2_i32_10
  let c1_i32_11 : BitVec 32 := 1#32
  let v20 : BitVec 32 := Scalar.andi v19 c1_i32_11
  let c64_i32_280 : BitVec 32 := 64#32
  let v406 : BitVec 32 := Scalar.muli v20 c64_i32_280
  let v407 : BitVec 32 := Scalar.addi v339 v406
  let c1_i32_294 : BitVec 32 := 1#32
  let c4_i32_12 : BitVec 32 := 4#32
  let v21 : BitVec 32 := Scalar.shrui v2 c4_i32_12
  let c1_i32_13 : BitVec 32 := 1#32
  let v22 : BitVec 32 := Scalar.andi v21 c1_i32_13
  let v424 : BitVec 32 := Scalar.subi c1_i32_294 v22
  let c32_i32_295 : BitVec 32 := 32#32
  let v425 : BitVec 32 := Scalar.muli v424 c32_i32_295
  let v426 : BitVec 32 := Scalar.addi v407 v425
  let v427 : Index := Scalar.indexCast v426
  let c0_296 : Index := 0#32
  ![v427.toNat, 0]
def k0_dev14 (d0 : Dev nD) : Nat :=
  let c0_i32_301 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v7 : BitVec 32 := Scalar.xori v2 c16_i32
  let c1_i32_300 : BitVec 32 := 1#32
  let v434 : BitVec 32 := Scalar.muli v7 c1_i32_300
  let v435 : BitVec 32 := Scalar.addi c0_i32_301 v434
  v435.toNat
def k0_off17 (d0 : Dev nD) : Fin 2 → Nat :=
  let c0_i32_132 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_14 : BitVec 32 := 3#32
  let v23 : BitVec 32 := Scalar.shrui v2 c3_i32_14
  let c1_i32_15 : BitVec 32 := 1#32
  let v24 : BitVec 32 := Scalar.andi v23 c1_i32_15
  let c512_i32_131 : BitVec 32 := 512#32
  let v204 : BitVec 32 := Scalar.muli v24 c512_i32_131
  let v205 : BitVec 32 := Scalar.addi c0_i32_132 v204
  let c0_i32_16 : BitVec 32 := 0#32
  let v25 : BitVec 32 := Scalar.shrui v2 c0_i32_16
  let c1_i32_17 : BitVec 32 := 1#32
  let v26 : BitVec 32 := Scalar.andi v25 c1_i32_17
  let c256_i32_183 : BitVec 32 := 256#32
  let v272 : BitVec 32 := Scalar.muli v26 c256_i32_183
  let v273 : BitVec 32 := Scalar.addi v205 v272
  let c2_i32_18 : BitVec 32 := 2#32
  let v27 : BitVec 32 := Scalar.shrui v2 c2_i32_18
  let c1_i32_19 : BitVec 32 := 1#32
  let v28 : BitVec 32 := Scalar.andi v27 c1_i32_19
  let c128_i32_232 : BitVec 32 := 128#32
  let v340 : BitVec 32 := Scalar.muli v28 c128_i32_232
  let v341 : BitVec 32 := Scalar.addi v273 v340
  let c1_i32_20 : BitVec 32 := 1#32
  let v29 : BitVec 32 := Scalar.shrui v2 c1_i32_20
  let c1_i32_21 : BitVec 32 := 1#32
  let v30 : BitVec 32 := Scalar.andi v29 c1_i32_21
  let c64_i32_281 : BitVec 32 := 64#32
  let v408 : BitVec 32 := Scalar.muli v30 c64_i32_281
  let v409 : BitVec 32 := Scalar.addi v341 v408
  let v448 : Index := Scalar.indexCast v409
  let c512_313 : Index := 512#32
  ![v448.toNat, 512]
def k0_off18 (d0 : Dev nD) : Fin 2 → Nat :=
  let c0_i32_132 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_14 : BitVec 32 := 3#32
  let v23 : BitVec 32 := Scalar.shrui v2 c3_i32_14
  let c1_i32_15 : BitVec 32 := 1#32
  let v24 : BitVec 32 := Scalar.andi v23 c1_i32_15
  let c512_i32_131 : BitVec 32 := 512#32
  let v204 : BitVec 32 := Scalar.muli v24 c512_i32_131
  let v205 : BitVec 32 := Scalar.addi c0_i32_132 v204
  let c0_i32_16 : BitVec 32 := 0#32
  let v25 : BitVec 32 := Scalar.shrui v2 c0_i32_16
  let c1_i32_17 : BitVec 32 := 1#32
  let v26 : BitVec 32 := Scalar.andi v25 c1_i32_17
  let c256_i32_183 : BitVec 32 := 256#32
  let v272 : BitVec 32 := Scalar.muli v26 c256_i32_183
  let v273 : BitVec 32 := Scalar.addi v205 v272
  let c2_i32_18 : BitVec 32 := 2#32
  let v27 : BitVec 32 := Scalar.shrui v2 c2_i32_18
  let c1_i32_19 : BitVec 32 := 1#32
  let v28 : BitVec 32 := Scalar.andi v27 c1_i32_19
  let c128_i32_232 : BitVec 32 := 128#32
  let v340 : BitVec 32 := Scalar.muli v28 c128_i32_232
  let v341 : BitVec 32 := Scalar.addi v273 v340
  let c1_i32_20 : BitVec 32 := 1#32
  let v29 : BitVec 32 := Scalar.shrui v2 c1_i32_20
  let c1_i32_21 : BitVec 32 := 1#32
  let v30 : BitVec 32 := Scalar.andi v29 c1_i32_21
  let c64_i32_281 : BitVec 32 := 64#32
  let v408 : BitVec 32 := Scalar.muli v30 c64_i32_281
  let v409 : BitVec 32 := Scalar.addi v341 v408
  let c1_i32_317 : BitVec 32 := 1#32
  let c4_i32_22 : BitVec 32 := 4#32
  let v31 : BitVec 32 := Scalar.shrui v2 c4_i32_22
  let c1_i32_23 : BitVec 32 := 1#32
  let v32 : BitVec 32 := Scalar.andi v31 c1_i32_23
  let v456 : BitVec 32 := Scalar.subi c1_i32_317 v32
  let c32_i32_318 : BitVec 32 := 32#32
  let v457 : BitVec 32 := Scalar.muli v456 c32_i32_318
  let v458 : BitVec 32 := Scalar.addi v409 v457
  let v459 : Index := Scalar.indexCast v458
  let c512_319 : Index := 512#32
  ![v459.toNat, 512]
def k0_dev15 (d0 : Dev nD) : Nat :=
  let c0_i32_325 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_5 : BitVec 32 := 16#32
  let v12 : BitVec 32 := Scalar.xori v2 c16_i32_5
  let c1_i32_324 : BitVec 32 := 1#32
  let v466 : BitVec 32 := Scalar.muli v12 c1_i32_324
  let v467 : BitVec 32 := Scalar.addi c0_i32_325 v466
  v467.toNat
def k0_off19 (d0 : Dev nD) : Fin 2 → Nat :=
  let c0_i32_130 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v13 : BitVec 32 := Scalar.shrui v2 c0_i32
  let c1_i32_6 : BitVec 32 := 1#32
  let v14 : BitVec 32 := Scalar.andi v13 c1_i32_6
  let c512_i32_129 : BitVec 32 := 512#32
  let v202 : BitVec 32 := Scalar.muli v14 c512_i32_129
  let v203 : BitVec 32 := Scalar.addi c0_i32_130 v202
  let c3_i32 : BitVec 32 := 3#32
  let v15 : BitVec 32 := Scalar.shrui v2 c3_i32
  let c1_i32_7 : BitVec 32 := 1#32
  let v16 : BitVec 32 := Scalar.andi v15 c1_i32_7
  let c256_i32_182 : BitVec 32 := 256#32
  let v270 : BitVec 32 := Scalar.muli v16 c256_i32_182
  let v271 : BitVec 32 := Scalar.addi v203 v270
  let c1_i32_8 : BitVec 32 := 1#32
  let v17 : BitVec 32 := Scalar.shrui v2 c1_i32_8
  let c1_i32_9 : BitVec 32 := 1#32
  let v18 : BitVec 32 := Scalar.andi v17 c1_i32_9
  let c128_i32_231 : BitVec 32 := 128#32
  let v338 : BitVec 32 := Scalar.muli v18 c128_i32_231
  let v339 : BitVec 32 := Scalar.addi v271 v338
  let c2_i32_10 : BitVec 32 := 2#32
  let v19 : BitVec 32 := Scalar.shrui v2 c2_i32_10
  let c1_i32_11 : BitVec 32 := 1#32
  let v20 : BitVec 32 := Scalar.andi v19 c1_i32_11
  let c64_i32_280 : BitVec 32 := 64#32
  let v406 : BitVec 32 := Scalar.muli v20 c64_i32_280
  let v407 : BitVec 32 := Scalar.addi v339 v406
  let c4_i32_12 : BitVec 32 := 4#32
  let v21 : BitVec 32 := Scalar.shrui v2 c4_i32_12
  let c1_i32_13 : BitVec 32 := 1#32
  let v22 : BitVec 32 := Scalar.andi v21 c1_i32_13
  let c32_i32_330 : BitVec 32 := 32#32
  let v474 : BitVec 32 := Scalar.muli v22 c32_i32_330
  let v475 : BitVec 32 := Scalar.addi v407 v474
  let v484 : Index := Scalar.indexCast v475
  let c0_340 : Index := 0#32
  ![v484.toNat, 0]
def k0_off20 (d0 : Dev nD) : Fin 2 → Nat :=
  let c0_i32_132 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_14 : BitVec 32 := 3#32
  let v23 : BitVec 32 := Scalar.shrui v2 c3_i32_14
  let c1_i32_15 : BitVec 32 := 1#32
  let v24 : BitVec 32 := Scalar.andi v23 c1_i32_15
  let c512_i32_131 : BitVec 32 := 512#32
  let v204 : BitVec 32 := Scalar.muli v24 c512_i32_131
  let v205 : BitVec 32 := Scalar.addi c0_i32_132 v204
  let c0_i32_16 : BitVec 32 := 0#32
  let v25 : BitVec 32 := Scalar.shrui v2 c0_i32_16
  let c1_i32_17 : BitVec 32 := 1#32
  let v26 : BitVec 32 := Scalar.andi v25 c1_i32_17
  let c256_i32_183 : BitVec 32 := 256#32
  let v272 : BitVec 32 := Scalar.muli v26 c256_i32_183
  let v273 : BitVec 32 := Scalar.addi v205 v272
  let c2_i32_18 : BitVec 32 := 2#32
  let v27 : BitVec 32 := Scalar.shrui v2 c2_i32_18
  let c1_i32_19 : BitVec 32 := 1#32
  let v28 : BitVec 32 := Scalar.andi v27 c1_i32_19
  let c128_i32_232 : BitVec 32 := 128#32
  let v340 : BitVec 32 := Scalar.muli v28 c128_i32_232
  let v341 : BitVec 32 := Scalar.addi v273 v340
  let c1_i32_20 : BitVec 32 := 1#32
  let v29 : BitVec 32 := Scalar.shrui v2 c1_i32_20
  let c1_i32_21 : BitVec 32 := 1#32
  let v30 : BitVec 32 := Scalar.andi v29 c1_i32_21
  let c64_i32_281 : BitVec 32 := 64#32
  let v408 : BitVec 32 := Scalar.muli v30 c64_i32_281
  let v409 : BitVec 32 := Scalar.addi v341 v408
  let c4_i32_22 : BitVec 32 := 4#32
  let v31 : BitVec 32 := Scalar.shrui v2 c4_i32_22
  let c1_i32_23 : BitVec 32 := 1#32
  let v32 : BitVec 32 := Scalar.andi v31 c1_i32_23
  let c32_i32_331 : BitVec 32 := 32#32
  let v476 : BitVec 32 := Scalar.muli v32 c32_i32_331
  let v477 : BitVec 32 := Scalar.addi v409 v476
  let v498 : Index := Scalar.indexCast v477
  let c512_352 : Index := 512#32
  ![v498.toNat, 512]
def k0_dev16 (d0 : Dev nD) : Nat :=
  let c0_i32_358 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.xori v2 c1_i32_0
  let c1_i32_357 : BitVec 32 := 1#32
  let v506 : BitVec 32 := Scalar.muli v3 c1_i32_357
  let v507 : BitVec 32 := Scalar.addi c0_i32_358 v506
  v507.toNat
def k0_dev17 (d0 : Dev nD) : Nat :=
  let c0_i32_361 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v4 : BitVec 32 := Scalar.xori v2 c8_i32
  let c1_i32_360 : BitVec 32 := 1#32
  let v508 : BitVec 32 := Scalar.muli v4 c1_i32_360
  let v509 : BitVec 32 := Scalar.addi c0_i32_361 v508
  v509.toNat
def k0_dev18 (d0 : Dev nD) : Nat :=
  let c0_i32_364 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v5 : BitVec 32 := Scalar.xori v2 c2_i32
  let c1_i32_363 : BitVec 32 := 1#32
  let v510 : BitVec 32 := Scalar.muli v5 c1_i32_363
  let v511 : BitVec 32 := Scalar.addi c0_i32_364 v510
  v511.toNat
def k0_dev19 (d0 : Dev nD) : Nat :=
  let c0_i32_367 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v6 : BitVec 32 := Scalar.xori v2 c4_i32
  let c1_i32_366 : BitVec 32 := 1#32
  let v512 : BitVec 32 := Scalar.muli v6 c1_i32_366
  let v513 : BitVec 32 := Scalar.addi c0_i32_367 v512
  v513.toNat
def k0_dev20 (d0 : Dev nD) : Nat :=
  let c0_i32_370 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v7 : BitVec 32 := Scalar.xori v2 c16_i32
  let c1_i32_369 : BitVec 32 := 1#32
  let v514 : BitVec 32 := Scalar.muli v7 c1_i32_369
  let v515 : BitVec 32 := Scalar.addi c0_i32_370 v514
  v515.toNat
def k0_dev21 (d0 : Dev nD) : Nat :=
  let c0_i32_379 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v7 : BitVec 32 := Scalar.xori v2 c16_i32
  let c1_i32_378 : BitVec 32 := 1#32
  let v523 : BitVec 32 := Scalar.muli v7 c1_i32_378
  let v524 : BitVec 32 := Scalar.addi c0_i32_379 v523
  v524.toNat
def k0_dev22 (d0 : Dev nD) : Nat :=
  let c0_i32_390 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_5 : BitVec 32 := 16#32
  let v12 : BitVec 32 := Scalar.xori v2 c16_i32_5
  let c1_i32_389 : BitVec 32 := 1#32
  let v538 : BitVec 32 := Scalar.muli v12 c1_i32_389
  let v539 : BitVec 32 := Scalar.addi c0_i32_390 v538
  v539.toNat
def k0_off21 (d0 : Dev nD) : Fin 2 → Nat :=
  let c0_i32_130 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v13 : BitVec 32 := Scalar.shrui v2 c0_i32
  let c1_i32_6 : BitVec 32 := 1#32
  let v14 : BitVec 32 := Scalar.andi v13 c1_i32_6
  let c512_i32_129 : BitVec 32 := 512#32
  let v202 : BitVec 32 := Scalar.muli v14 c512_i32_129
  let v203 : BitVec 32 := Scalar.addi c0_i32_130 v202
  let c3_i32 : BitVec 32 := 3#32
  let v15 : BitVec 32 := Scalar.shrui v2 c3_i32
  let c1_i32_7 : BitVec 32 := 1#32
  let v16 : BitVec 32 := Scalar.andi v15 c1_i32_7
  let c256_i32_182 : BitVec 32 := 256#32
  let v270 : BitVec 32 := Scalar.muli v16 c256_i32_182
  let v271 : BitVec 32 := Scalar.addi v203 v270
  let c1_i32_8 : BitVec 32 := 1#32
  let v17 : BitVec 32 := Scalar.shrui v2 c1_i32_8
  let c1_i32_9 : BitVec 32 := 1#32
  let v18 : BitVec 32 := Scalar.andi v17 c1_i32_9
  let c128_i32_231 : BitVec 32 := 128#32
  let v338 : BitVec 32 := Scalar.muli v18 c128_i32_231
  let v339 : BitVec 32 := Scalar.addi v271 v338
  let c2_i32_10 : BitVec 32 := 2#32
  let v19 : BitVec 32 := Scalar.shrui v2 c2_i32_10
  let c1_i32_11 : BitVec 32 := 1#32
  let v20 : BitVec 32 := Scalar.andi v19 c1_i32_11
  let c64_i32_280 : BitVec 32 := 64#32
  let v406 : BitVec 32 := Scalar.muli v20 c64_i32_280
  let v407 : BitVec 32 := Scalar.addi v339 v406
  let c4_i32_12 : BitVec 32 := 4#32
  let v21 : BitVec 32 := Scalar.shrui v2 c4_i32_12
  let c1_i32_13 : BitVec 32 := 1#32
  let v22 : BitVec 32 := Scalar.andi v21 c1_i32_13
  let c32_i32_330 : BitVec 32 := 32#32
  let v474 : BitVec 32 := Scalar.muli v22 c32_i32_330
  let v475 : BitVec 32 := Scalar.addi v407 v474
  let c1_i32_396 : BitVec 32 := 1#32
  let c2_i32_395 : BitVec 32 := 2#32
  let v546 : BitVec 32 := Scalar.muli c2_i32_395 v22
  let v547 : BitVec 32 := Scalar.subi c1_i32_396 v546
  let c32_i32_397 : BitVec 32 := 32#32
  let v548 : BitVec 32 := Scalar.muli v547 c32_i32_397
  let v549 : BitVec 32 := Scalar.addi v475 v548
  let v562 : Index := Scalar.indexCast v549
  let c0_411 : Index := 0#32
  ![v562.toNat, 0]
def k0_off22 (d0 : Dev nD) : Fin 2 → Nat :=
  let c0_i32_132 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_14 : BitVec 32 := 3#32
  let v23 : BitVec 32 := Scalar.shrui v2 c3_i32_14
  let c1_i32_15 : BitVec 32 := 1#32
  let v24 : BitVec 32 := Scalar.andi v23 c1_i32_15
  let c512_i32_131 : BitVec 32 := 512#32
  let v204 : BitVec 32 := Scalar.muli v24 c512_i32_131
  let v205 : BitVec 32 := Scalar.addi c0_i32_132 v204
  let c0_i32_16 : BitVec 32 := 0#32
  let v25 : BitVec 32 := Scalar.shrui v2 c0_i32_16
  let c1_i32_17 : BitVec 32 := 1#32
  let v26 : BitVec 32 := Scalar.andi v25 c1_i32_17
  let c256_i32_183 : BitVec 32 := 256#32
  let v272 : BitVec 32 := Scalar.muli v26 c256_i32_183
  let v273 : BitVec 32 := Scalar.addi v205 v272
  let c2_i32_18 : BitVec 32 := 2#32
  let v27 : BitVec 32 := Scalar.shrui v2 c2_i32_18
  let c1_i32_19 : BitVec 32 := 1#32
  let v28 : BitVec 32 := Scalar.andi v27 c1_i32_19
  let c128_i32_232 : BitVec 32 := 128#32
  let v340 : BitVec 32 := Scalar.muli v28 c128_i32_232
  let v341 : BitVec 32 := Scalar.addi v273 v340
  let c1_i32_20 : BitVec 32 := 1#32
  let v29 : BitVec 32 := Scalar.shrui v2 c1_i32_20
  let c1_i32_21 : BitVec 32 := 1#32
  let v30 : BitVec 32 := Scalar.andi v29 c1_i32_21
  let c64_i32_281 : BitVec 32 := 64#32
  let v408 : BitVec 32 := Scalar.muli v30 c64_i32_281
  let v409 : BitVec 32 := Scalar.addi v341 v408
  let c4_i32_22 : BitVec 32 := 4#32
  let v31 : BitVec 32 := Scalar.shrui v2 c4_i32_22
  let c1_i32_23 : BitVec 32 := 1#32
  let v32 : BitVec 32 := Scalar.andi v31 c1_i32_23
  let c32_i32_331 : BitVec 32 := 32#32
  let v476 : BitVec 32 := Scalar.muli v32 c32_i32_331
  let v477 : BitVec 32 := Scalar.addi v409 v476
  let c1_i32_399 : BitVec 32 := 1#32
  let c2_i32_398 : BitVec 32 := 2#32
  let v550 : BitVec 32 := Scalar.muli c2_i32_398 v32
  let v551 : BitVec 32 := Scalar.subi c1_i32_399 v550
  let c32_i32_400 : BitVec 32 := 32#32
  let v552 : BitVec 32 := Scalar.muli v551 c32_i32_400
  let v553 : BitVec 32 := Scalar.addi v477 v552
  let v572 : Index := Scalar.indexCast v553
  let c512_422 : Index := 512#32
  ![v572.toNat, 512]
def k0_off23 (d0 : Dev nD) : Fin 2 → Nat :=
  let c0_i32_130 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v13 : BitVec 32 := Scalar.shrui v2 c0_i32
  let c1_i32_6 : BitVec 32 := 1#32
  let v14 : BitVec 32 := Scalar.andi v13 c1_i32_6
  let c512_i32_129 : BitVec 32 := 512#32
  let v202 : BitVec 32 := Scalar.muli v14 c512_i32_129
  let v203 : BitVec 32 := Scalar.addi c0_i32_130 v202
  let c3_i32 : BitVec 32 := 3#32
  let v15 : BitVec 32 := Scalar.shrui v2 c3_i32
  let c1_i32_7 : BitVec 32 := 1#32
  let v16 : BitVec 32 := Scalar.andi v15 c1_i32_7
  let c256_i32_182 : BitVec 32 := 256#32
  let v270 : BitVec 32 := Scalar.muli v16 c256_i32_182
  let v271 : BitVec 32 := Scalar.addi v203 v270
  let c1_i32_8 : BitVec 32 := 1#32
  let v17 : BitVec 32 := Scalar.shrui v2 c1_i32_8
  let c1_i32_9 : BitVec 32 := 1#32
  let v18 : BitVec 32 := Scalar.andi v17 c1_i32_9
  let c128_i32_231 : BitVec 32 := 128#32
  let v338 : BitVec 32 := Scalar.muli v18 c128_i32_231
  let v339 : BitVec 32 := Scalar.addi v271 v338
  let c2_i32_10 : BitVec 32 := 2#32
  let v19 : BitVec 32 := Scalar.shrui v2 c2_i32_10
  let c1_i32_11 : BitVec 32 := 1#32
  let v20 : BitVec 32 := Scalar.andi v19 c1_i32_11
  let c64_i32_280 : BitVec 32 := 64#32
  let v406 : BitVec 32 := Scalar.muli v20 c64_i32_280
  let v407 : BitVec 32 := Scalar.addi v339 v406
  let c4_i32_12 : BitVec 32 := 4#32
  let v21 : BitVec 32 := Scalar.shrui v2 c4_i32_12
  let c1_i32_13 : BitVec 32 := 1#32
  let v22 : BitVec 32 := Scalar.andi v21 c1_i32_13
  let c32_i32_330 : BitVec 32 := 32#32
  let v474 : BitVec 32 := Scalar.muli v22 c32_i32_330
  let v475 : BitVec 32 := Scalar.addi v407 v474
  let c32_i32_423 : BitVec 32 := 32#32
  let v574 : BitVec 32 := Scalar.muli v22 c32_i32_423
  let v575 : BitVec 32 := Scalar.subi v475 v574
  let v578 : Index := Scalar.indexCast v575
  let c0_425 : Index := 0#32
  ![v578.toNat, 0]
def k0_dev23 (d0 : Dev nD) : Nat :=
  let c0_i32_431 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v6 : BitVec 32 := Scalar.xori v2 c4_i32
  let c1_i32_430 : BitVec 32 := 1#32
  let v585 : BitVec 32 := Scalar.muli v6 c1_i32_430
  let v586 : BitVec 32 := Scalar.addi c0_i32_431 v585
  v586.toNat
def k0_off24 (d0 : Dev nD) : Fin 2 → Nat :=
  let c0_i32_132 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_14 : BitVec 32 := 3#32
  let v23 : BitVec 32 := Scalar.shrui v2 c3_i32_14
  let c1_i32_15 : BitVec 32 := 1#32
  let v24 : BitVec 32 := Scalar.andi v23 c1_i32_15
  let c512_i32_131 : BitVec 32 := 512#32
  let v204 : BitVec 32 := Scalar.muli v24 c512_i32_131
  let v205 : BitVec 32 := Scalar.addi c0_i32_132 v204
  let c0_i32_16 : BitVec 32 := 0#32
  let v25 : BitVec 32 := Scalar.shrui v2 c0_i32_16
  let c1_i32_17 : BitVec 32 := 1#32
  let v26 : BitVec 32 := Scalar.andi v25 c1_i32_17
  let c256_i32_183 : BitVec 32 := 256#32
  let v272 : BitVec 32 := Scalar.muli v26 c256_i32_183
  let v273 : BitVec 32 := Scalar.addi v205 v272
  let c2_i32_18 : BitVec 32 := 2#32
  let v27 : BitVec 32 := Scalar.shrui v2 c2_i32_18
  let c1_i32_19 : BitVec 32 := 1#32
  let v28 : BitVec 32 := Scalar.andi v27 c1_i32_19
  let c128_i32_232 : BitVec 32 := 128#32
  let v340 : BitVec 32 := Scalar.muli v28 c128_i32_232
  let v341 : BitVec 32 := Scalar.addi v273 v340
  let c1_i32_20 : BitVec 32 := 1#32
  let v29 : BitVec 32 := Scalar.shrui v2 c1_i32_20
  let c1_i32_21 : BitVec 32 := 1#32
  let v30 : BitVec 32 := Scalar.andi v29 c1_i32_21
  let c64_i32_281 : BitVec 32 := 64#32
  let v408 : BitVec 32 := Scalar.muli v30 c64_i32_281
  let v409 : BitVec 32 := Scalar.addi v341 v408
  let c4_i32_22 : BitVec 32 := 4#32
  let v31 : BitVec 32 := Scalar.shrui v2 c4_i32_22
  let c1_i32_23 : BitVec 32 := 1#32
  let v32 : BitVec 32 := Scalar.andi v31 c1_i32_23
  let c32_i32_331 : BitVec 32 := 32#32
  let v476 : BitVec 32 := Scalar.muli v32 c32_i32_331
  let v477 : BitVec 32 := Scalar.addi v409 v476
  let c32_i32_424 : BitVec 32 := 32#32
  let v576 : BitVec 32 := Scalar.muli v32 c32_i32_424
  let v577 : BitVec 32 := Scalar.subi v477 v576
  let v593 : Index := Scalar.indexCast v577
  let c512_436 : Index := 512#32
  ![v593.toNat, 512]
def k0_dev24 (d0 : Dev nD) : Nat :=
  let c0_i32_442 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_4 : BitVec 32 := 2#32
  let v11 : BitVec 32 := Scalar.xori v2 c2_i32_4
  let c1_i32_441 : BitVec 32 := 1#32
  let v600 : BitVec 32 := Scalar.muli v11 c1_i32_441
  let v601 : BitVec 32 := Scalar.addi c0_i32_442 v600
  v601.toNat
def k0_off25 (d0 : Dev nD) : Fin 2 → Nat :=
  let c0_i32_130 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v13 : BitVec 32 := Scalar.shrui v2 c0_i32
  let c1_i32_6 : BitVec 32 := 1#32
  let v14 : BitVec 32 := Scalar.andi v13 c1_i32_6
  let c512_i32_129 : BitVec 32 := 512#32
  let v202 : BitVec 32 := Scalar.muli v14 c512_i32_129
  let v203 : BitVec 32 := Scalar.addi c0_i32_130 v202
  let c3_i32 : BitVec 32 := 3#32
  let v15 : BitVec 32 := Scalar.shrui v2 c3_i32
  let c1_i32_7 : BitVec 32 := 1#32
  let v16 : BitVec 32 := Scalar.andi v15 c1_i32_7
  let c256_i32_182 : BitVec 32 := 256#32
  let v270 : BitVec 32 := Scalar.muli v16 c256_i32_182
  let v271 : BitVec 32 := Scalar.addi v203 v270
  let c1_i32_8 : BitVec 32 := 1#32
  let v17 : BitVec 32 := Scalar.shrui v2 c1_i32_8
  let c1_i32_9 : BitVec 32 := 1#32
  let v18 : BitVec 32 := Scalar.andi v17 c1_i32_9
  let c128_i32_231 : BitVec 32 := 128#32
  let v338 : BitVec 32 := Scalar.muli v18 c128_i32_231
  let v339 : BitVec 32 := Scalar.addi v271 v338
  let c2_i32_10 : BitVec 32 := 2#32
  let v19 : BitVec 32 := Scalar.shrui v2 c2_i32_10
  let c1_i32_11 : BitVec 32 := 1#32
  let v20 : BitVec 32 := Scalar.andi v19 c1_i32_11
  let c64_i32_280 : BitVec 32 := 64#32
  let v406 : BitVec 32 := Scalar.muli v20 c64_i32_280
  let v407 : BitVec 32 := Scalar.addi v339 v406
  let c4_i32_12 : BitVec 32 := 4#32
  let v21 : BitVec 32 := Scalar.shrui v2 c4_i32_12
  let c1_i32_13 : BitVec 32 := 1#32
  let v22 : BitVec 32 := Scalar.andi v21 c1_i32_13
  let c32_i32_330 : BitVec 32 := 32#32
  let v474 : BitVec 32 := Scalar.muli v22 c32_i32_330
  let v475 : BitVec 32 := Scalar.addi v407 v474
  let c32_i32_423 : BitVec 32 := 32#32
  let v574 : BitVec 32 := Scalar.muli v22 c32_i32_423
  let v575 : BitVec 32 := Scalar.subi v475 v574
  let c1_i32_448 : BitVec 32 := 1#32
  let c2_i32_447 : BitVec 32 := 2#32
  let v608 : BitVec 32 := Scalar.muli c2_i32_447 v20
  let v609 : BitVec 32 := Scalar.subi c1_i32_448 v608
  let c64_i32_449 : BitVec 32 := 64#32
  let v610 : BitVec 32 := Scalar.muli v609 c64_i32_449
  let v611 : BitVec 32 := Scalar.addi v575 v610
  let v624 : Index := Scalar.indexCast v611
  let c0_463 : Index := 0#32
  ![v624.toNat, 0]
def k0_off26 (d0 : Dev nD) : Fin 2 → Nat :=
  let c0_i32_132 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_14 : BitVec 32 := 3#32
  let v23 : BitVec 32 := Scalar.shrui v2 c3_i32_14
  let c1_i32_15 : BitVec 32 := 1#32
  let v24 : BitVec 32 := Scalar.andi v23 c1_i32_15
  let c512_i32_131 : BitVec 32 := 512#32
  let v204 : BitVec 32 := Scalar.muli v24 c512_i32_131
  let v205 : BitVec 32 := Scalar.addi c0_i32_132 v204
  let c0_i32_16 : BitVec 32 := 0#32
  let v25 : BitVec 32 := Scalar.shrui v2 c0_i32_16
  let c1_i32_17 : BitVec 32 := 1#32
  let v26 : BitVec 32 := Scalar.andi v25 c1_i32_17
  let c256_i32_183 : BitVec 32 := 256#32
  let v272 : BitVec 32 := Scalar.muli v26 c256_i32_183
  let v273 : BitVec 32 := Scalar.addi v205 v272
  let c2_i32_18 : BitVec 32 := 2#32
  let v27 : BitVec 32 := Scalar.shrui v2 c2_i32_18
  let c1_i32_19 : BitVec 32 := 1#32
  let v28 : BitVec 32 := Scalar.andi v27 c1_i32_19
  let c128_i32_232 : BitVec 32 := 128#32
  let v340 : BitVec 32 := Scalar.muli v28 c128_i32_232
  let v341 : BitVec 32 := Scalar.addi v273 v340
  let c1_i32_20 : BitVec 32 := 1#32
  let v29 : BitVec 32 := Scalar.shrui v2 c1_i32_20
  let c1_i32_21 : BitVec 32 := 1#32
  let v30 : BitVec 32 := Scalar.andi v29 c1_i32_21
  let c64_i32_281 : BitVec 32 := 64#32
  let v408 : BitVec 32 := Scalar.muli v30 c64_i32_281
  let v409 : BitVec 32 := Scalar.addi v341 v408
  let c4_i32_22 : BitVec 32 := 4#32
  let v31 : BitVec 32 := Scalar.shrui v2 c4_i32_22
  let c1_i32_23 : BitVec 32 := 1#32
  let v32 : BitVec 32 := Scalar.andi v31 c1_i32_23
  let c32_i32_331 : BitVec 32 := 32#32
  let v476 : BitVec 32 := Scalar.muli v32 c32_i32_331
  let v477 : BitVec 32 := Scalar.addi v409 v476
  let c32_i32_424 : BitVec 32 := 32#32
  let v576 : BitVec 32 := Scalar.muli v32 c32_i32_424
  let v577 : BitVec 32 := Scalar.subi v477 v576
  let c1_i32_451 : BitVec 32 := 1#32
  let c2_i32_450 : BitVec 32 := 2#32
  let v612 : BitVec 32 := Scalar.muli c2_i32_450 v30
  let v613 : BitVec 32 := Scalar.subi c1_i32_451 v612
  let c64_i32_452 : BitVec 32 := 64#32
  let v614 : BitVec 32 := Scalar.muli v613 c64_i32_452
  let v615 : BitVec 32 := Scalar.addi v577 v614
  let v634 : Index := Scalar.indexCast v615
  let c512_474 : Index := 512#32
  ![v634.toNat, 512]
def k0_off27 (d0 : Dev nD) : Fin 2 → Nat :=
  let c0_i32_130 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v13 : BitVec 32 := Scalar.shrui v2 c0_i32
  let c1_i32_6 : BitVec 32 := 1#32
  let v14 : BitVec 32 := Scalar.andi v13 c1_i32_6
  let c512_i32_129 : BitVec 32 := 512#32
  let v202 : BitVec 32 := Scalar.muli v14 c512_i32_129
  let v203 : BitVec 32 := Scalar.addi c0_i32_130 v202
  let c3_i32 : BitVec 32 := 3#32
  let v15 : BitVec 32 := Scalar.shrui v2 c3_i32
  let c1_i32_7 : BitVec 32 := 1#32
  let v16 : BitVec 32 := Scalar.andi v15 c1_i32_7
  let c256_i32_182 : BitVec 32 := 256#32
  let v270 : BitVec 32 := Scalar.muli v16 c256_i32_182
  let v271 : BitVec 32 := Scalar.addi v203 v270
  let c1_i32_8 : BitVec 32 := 1#32
  let v17 : BitVec 32 := Scalar.shrui v2 c1_i32_8
  let c1_i32_9 : BitVec 32 := 1#32
  let v18 : BitVec 32 := Scalar.andi v17 c1_i32_9
  let c128_i32_231 : BitVec 32 := 128#32
  let v338 : BitVec 32 := Scalar.muli v18 c128_i32_231
  let v339 : BitVec 32 := Scalar.addi v271 v338
  let c2_i32_10 : BitVec 32 := 2#32
  let v19 : BitVec 32 := Scalar.shrui v2 c2_i32_10
  let c1_i32_11 : BitVec 32 := 1#32
  let v20 : BitVec 32 := Scalar.andi v19 c1_i32_11
  let c64_i32_280 : BitVec 32 := 64#32
  let v406 : BitVec 32 := Scalar.muli v20 c64_i32_280
  let v407 : BitVec 32 := Scalar.addi v339 v406
  let c4_i32_12 : BitVec 32 := 4#32
  let v21 : BitVec 32 := Scalar.shrui v2 c4_i32_12
  let c1_i32_13 : BitVec 32 := 1#32
  let v22 : BitVec 32 := Scalar.andi v21 c1_i32_13
  let c32_i32_330 : BitVec 32 := 32#32
  let v474 : BitVec 32 := Scalar.muli v22 c32_i32_330
  let v475 : BitVec 32 := Scalar.addi v407 v474
  let c32_i32_423 : BitVec 32 := 32#32
  let v574 : BitVec 32 := Scalar.muli v22 c32_i32_423
  let v575 : BitVec 32 := Scalar.subi v475 v574
  let c64_i32_475 : BitVec 32 := 64#32
  let v636 : BitVec 32 := Scalar.muli v20 c64_i32_475
  let v637 : BitVec 32 := Scalar.subi v575 v636
  let v640 : Index := Scalar.indexCast v637
  let c0_477 : Index := 0#32
  ![v640.toNat, 0]
def k0_dev25 (d0 : Dev nD) : Nat :=
  let c0_i32_483 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v5 : BitVec 32 := Scalar.xori v2 c2_i32
  let c1_i32_482 : BitVec 32 := 1#32
  let v647 : BitVec 32 := Scalar.muli v5 c1_i32_482
  let v648 : BitVec 32 := Scalar.addi c0_i32_483 v647
  v648.toNat
def k0_off28 (d0 : Dev nD) : Fin 2 → Nat :=
  let c0_i32_132 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_14 : BitVec 32 := 3#32
  let v23 : BitVec 32 := Scalar.shrui v2 c3_i32_14
  let c1_i32_15 : BitVec 32 := 1#32
  let v24 : BitVec 32 := Scalar.andi v23 c1_i32_15
  let c512_i32_131 : BitVec 32 := 512#32
  let v204 : BitVec 32 := Scalar.muli v24 c512_i32_131
  let v205 : BitVec 32 := Scalar.addi c0_i32_132 v204
  let c0_i32_16 : BitVec 32 := 0#32
  let v25 : BitVec 32 := Scalar.shrui v2 c0_i32_16
  let c1_i32_17 : BitVec 32 := 1#32
  let v26 : BitVec 32 := Scalar.andi v25 c1_i32_17
  let c256_i32_183 : BitVec 32 := 256#32
  let v272 : BitVec 32 := Scalar.muli v26 c256_i32_183
  let v273 : BitVec 32 := Scalar.addi v205 v272
  let c2_i32_18 : BitVec 32 := 2#32
  let v27 : BitVec 32 := Scalar.shrui v2 c2_i32_18
  let c1_i32_19 : BitVec 32 := 1#32
  let v28 : BitVec 32 := Scalar.andi v27 c1_i32_19
  let c128_i32_232 : BitVec 32 := 128#32
  let v340 : BitVec 32 := Scalar.muli v28 c128_i32_232
  let v341 : BitVec 32 := Scalar.addi v273 v340
  let c1_i32_20 : BitVec 32 := 1#32
  let v29 : BitVec 32 := Scalar.shrui v2 c1_i32_20
  let c1_i32_21 : BitVec 32 := 1#32
  let v30 : BitVec 32 := Scalar.andi v29 c1_i32_21
  let c64_i32_281 : BitVec 32 := 64#32
  let v408 : BitVec 32 := Scalar.muli v30 c64_i32_281
  let v409 : BitVec 32 := Scalar.addi v341 v408
  let c4_i32_22 : BitVec 32 := 4#32
  let v31 : BitVec 32 := Scalar.shrui v2 c4_i32_22
  let c1_i32_23 : BitVec 32 := 1#32
  let v32 : BitVec 32 := Scalar.andi v31 c1_i32_23
  let c32_i32_331 : BitVec 32 := 32#32
  let v476 : BitVec 32 := Scalar.muli v32 c32_i32_331
  let v477 : BitVec 32 := Scalar.addi v409 v476
  let c32_i32_424 : BitVec 32 := 32#32
  let v576 : BitVec 32 := Scalar.muli v32 c32_i32_424
  let v577 : BitVec 32 := Scalar.subi v477 v576
  let c64_i32_476 : BitVec 32 := 64#32
  let v638 : BitVec 32 := Scalar.muli v30 c64_i32_476
  let v639 : BitVec 32 := Scalar.subi v577 v638
  let v655 : Index := Scalar.indexCast v639
  let c512_488 : Index := 512#32
  ![v655.toNat, 512]
def k0_dev26 (d0 : Dev nD) : Nat :=
  let c0_i32_494 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_3 : BitVec 32 := 4#32
  let v10 : BitVec 32 := Scalar.xori v2 c4_i32_3
  let c1_i32_493 : BitVec 32 := 1#32
  let v662 : BitVec 32 := Scalar.muli v10 c1_i32_493
  let v663 : BitVec 32 := Scalar.addi c0_i32_494 v662
  v663.toNat
def k0_off29 (d0 : Dev nD) : Fin 2 → Nat :=
  let c0_i32_130 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v13 : BitVec 32 := Scalar.shrui v2 c0_i32
  let c1_i32_6 : BitVec 32 := 1#32
  let v14 : BitVec 32 := Scalar.andi v13 c1_i32_6
  let c512_i32_129 : BitVec 32 := 512#32
  let v202 : BitVec 32 := Scalar.muli v14 c512_i32_129
  let v203 : BitVec 32 := Scalar.addi c0_i32_130 v202
  let c3_i32 : BitVec 32 := 3#32
  let v15 : BitVec 32 := Scalar.shrui v2 c3_i32
  let c1_i32_7 : BitVec 32 := 1#32
  let v16 : BitVec 32 := Scalar.andi v15 c1_i32_7
  let c256_i32_182 : BitVec 32 := 256#32
  let v270 : BitVec 32 := Scalar.muli v16 c256_i32_182
  let v271 : BitVec 32 := Scalar.addi v203 v270
  let c1_i32_8 : BitVec 32 := 1#32
  let v17 : BitVec 32 := Scalar.shrui v2 c1_i32_8
  let c1_i32_9 : BitVec 32 := 1#32
  let v18 : BitVec 32 := Scalar.andi v17 c1_i32_9
  let c128_i32_231 : BitVec 32 := 128#32
  let v338 : BitVec 32 := Scalar.muli v18 c128_i32_231
  let v339 : BitVec 32 := Scalar.addi v271 v338
  let c2_i32_10 : BitVec 32 := 2#32
  let v19 : BitVec 32 := Scalar.shrui v2 c2_i32_10
  let c1_i32_11 : BitVec 32 := 1#32
  let v20 : BitVec 32 := Scalar.andi v19 c1_i32_11
  let c64_i32_280 : BitVec 32 := 64#32
  let v406 : BitVec 32 := Scalar.muli v20 c64_i32_280
  let v407 : BitVec 32 := Scalar.addi v339 v406
  let c4_i32_12 : BitVec 32 := 4#32
  let v21 : BitVec 32 := Scalar.shrui v2 c4_i32_12
  let c1_i32_13 : BitVec 32 := 1#32
  let v22 : BitVec 32 := Scalar.andi v21 c1_i32_13
  let c32_i32_330 : BitVec 32 := 32#32
  let v474 : BitVec 32 := Scalar.muli v22 c32_i32_330
  let v475 : BitVec 32 := Scalar.addi v407 v474
  let c32_i32_423 : BitVec 32 := 32#32
  let v574 : BitVec 32 := Scalar.muli v22 c32_i32_423
  let v575 : BitVec 32 := Scalar.subi v475 v574
  let c64_i32_475 : BitVec 32 := 64#32
  let v636 : BitVec 32 := Scalar.muli v20 c64_i32_475
  let v637 : BitVec 32 := Scalar.subi v575 v636
  let c1_i32_500 : BitVec 32 := 1#32
  let c2_i32_499 : BitVec 32 := 2#32
  let v670 : BitVec 32 := Scalar.muli c2_i32_499 v18
  let v671 : BitVec 32 := Scalar.subi c1_i32_500 v670
  let c128_i32_501 : BitVec 32 := 128#32
  let v672 : BitVec 32 := Scalar.muli v671 c128_i32_501
  let v673 : BitVec 32 := Scalar.addi v637 v672
  let v686 : Index := Scalar.indexCast v673
  let c0_515 : Index := 0#32
  ![v686.toNat, 0]
def k0_off30 (d0 : Dev nD) : Fin 2 → Nat :=
  let c0_i32_132 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_14 : BitVec 32 := 3#32
  let v23 : BitVec 32 := Scalar.shrui v2 c3_i32_14
  let c1_i32_15 : BitVec 32 := 1#32
  let v24 : BitVec 32 := Scalar.andi v23 c1_i32_15
  let c512_i32_131 : BitVec 32 := 512#32
  let v204 : BitVec 32 := Scalar.muli v24 c512_i32_131
  let v205 : BitVec 32 := Scalar.addi c0_i32_132 v204
  let c0_i32_16 : BitVec 32 := 0#32
  let v25 : BitVec 32 := Scalar.shrui v2 c0_i32_16
  let c1_i32_17 : BitVec 32 := 1#32
  let v26 : BitVec 32 := Scalar.andi v25 c1_i32_17
  let c256_i32_183 : BitVec 32 := 256#32
  let v272 : BitVec 32 := Scalar.muli v26 c256_i32_183
  let v273 : BitVec 32 := Scalar.addi v205 v272
  let c2_i32_18 : BitVec 32 := 2#32
  let v27 : BitVec 32 := Scalar.shrui v2 c2_i32_18
  let c1_i32_19 : BitVec 32 := 1#32
  let v28 : BitVec 32 := Scalar.andi v27 c1_i32_19
  let c128_i32_232 : BitVec 32 := 128#32
  let v340 : BitVec 32 := Scalar.muli v28 c128_i32_232
  let v341 : BitVec 32 := Scalar.addi v273 v340
  let c1_i32_20 : BitVec 32 := 1#32
  let v29 : BitVec 32 := Scalar.shrui v2 c1_i32_20
  let c1_i32_21 : BitVec 32 := 1#32
  let v30 : BitVec 32 := Scalar.andi v29 c1_i32_21
  let c64_i32_281 : BitVec 32 := 64#32
  let v408 : BitVec 32 := Scalar.muli v30 c64_i32_281
  let v409 : BitVec 32 := Scalar.addi v341 v408
  let c4_i32_22 : BitVec 32 := 4#32
  let v31 : BitVec 32 := Scalar.shrui v2 c4_i32_22
  let c1_i32_23 : BitVec 32 := 1#32
  let v32 : BitVec 32 := Scalar.andi v31 c1_i32_23
  let c32_i32_331 : BitVec 32 := 32#32
  let v476 : BitVec 32 := Scalar.muli v32 c32_i32_331
  let v477 : BitVec 32 := Scalar.addi v409 v476
  let c32_i32_424 : BitVec 32 := 32#32
  let v576 : BitVec 32 := Scalar.muli v32 c32_i32_424
  let v577 : BitVec 32 := Scalar.subi v477 v576
  let c64_i32_476 : BitVec 32 := 64#32
  let v638 : BitVec 32 := Scalar.muli v30 c64_i32_476
  let v639 : BitVec 32 := Scalar.subi v577 v638
  let c1_i32_503 : BitVec 32 := 1#32
  let c2_i32_502 : BitVec 32 := 2#32
  let v674 : BitVec 32 := Scalar.muli c2_i32_502 v28
  let v675 : BitVec 32 := Scalar.subi c1_i32_503 v674
  let c128_i32_504 : BitVec 32 := 128#32
  let v676 : BitVec 32 := Scalar.muli v675 c128_i32_504
  let v677 : BitVec 32 := Scalar.addi v639 v676
  let v696 : Index := Scalar.indexCast v677
  let c512_526 : Index := 512#32
  ![v696.toNat, 512]
def k0_off31 (d0 : Dev nD) : Fin 2 → Nat :=
  let c0_i32_130 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v13 : BitVec 32 := Scalar.shrui v2 c0_i32
  let c1_i32_6 : BitVec 32 := 1#32
  let v14 : BitVec 32 := Scalar.andi v13 c1_i32_6
  let c512_i32_129 : BitVec 32 := 512#32
  let v202 : BitVec 32 := Scalar.muli v14 c512_i32_129
  let v203 : BitVec 32 := Scalar.addi c0_i32_130 v202
  let c3_i32 : BitVec 32 := 3#32
  let v15 : BitVec 32 := Scalar.shrui v2 c3_i32
  let c1_i32_7 : BitVec 32 := 1#32
  let v16 : BitVec 32 := Scalar.andi v15 c1_i32_7
  let c256_i32_182 : BitVec 32 := 256#32
  let v270 : BitVec 32 := Scalar.muli v16 c256_i32_182
  let v271 : BitVec 32 := Scalar.addi v203 v270
  let c1_i32_8 : BitVec 32 := 1#32
  let v17 : BitVec 32 := Scalar.shrui v2 c1_i32_8
  let c1_i32_9 : BitVec 32 := 1#32
  let v18 : BitVec 32 := Scalar.andi v17 c1_i32_9
  let c128_i32_231 : BitVec 32 := 128#32
  let v338 : BitVec 32 := Scalar.muli v18 c128_i32_231
  let v339 : BitVec 32 := Scalar.addi v271 v338
  let c2_i32_10 : BitVec 32 := 2#32
  let v19 : BitVec 32 := Scalar.shrui v2 c2_i32_10
  let c1_i32_11 : BitVec 32 := 1#32
  let v20 : BitVec 32 := Scalar.andi v19 c1_i32_11
  let c64_i32_280 : BitVec 32 := 64#32
  let v406 : BitVec 32 := Scalar.muli v20 c64_i32_280
  let v407 : BitVec 32 := Scalar.addi v339 v406
  let c4_i32_12 : BitVec 32 := 4#32
  let v21 : BitVec 32 := Scalar.shrui v2 c4_i32_12
  let c1_i32_13 : BitVec 32 := 1#32
  let v22 : BitVec 32 := Scalar.andi v21 c1_i32_13
  let c32_i32_330 : BitVec 32 := 32#32
  let v474 : BitVec 32 := Scalar.muli v22 c32_i32_330
  let v475 : BitVec 32 := Scalar.addi v407 v474
  let c32_i32_423 : BitVec 32 := 32#32
  let v574 : BitVec 32 := Scalar.muli v22 c32_i32_423
  let v575 : BitVec 32 := Scalar.subi v475 v574
  let c64_i32_475 : BitVec 32 := 64#32
  let v636 : BitVec 32 := Scalar.muli v20 c64_i32_475
  let v637 : BitVec 32 := Scalar.subi v575 v636
  let c128_i32_527 : BitVec 32 := 128#32
  let v698 : BitVec 32 := Scalar.muli v18 c128_i32_527
  let v699 : BitVec 32 := Scalar.subi v637 v698
  let v702 : Index := Scalar.indexCast v699
  let c0_529 : Index := 0#32
  ![v702.toNat, 0]
def k0_dev27 (d0 : Dev nD) : Nat :=
  let c0_i32_535 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v4 : BitVec 32 := Scalar.xori v2 c8_i32
  let c1_i32_534 : BitVec 32 := 1#32
  let v709 : BitVec 32 := Scalar.muli v4 c1_i32_534
  let v710 : BitVec 32 := Scalar.addi c0_i32_535 v709
  v710.toNat
def k0_off32 (d0 : Dev nD) : Fin 2 → Nat :=
  let c0_i32_132 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_14 : BitVec 32 := 3#32
  let v23 : BitVec 32 := Scalar.shrui v2 c3_i32_14
  let c1_i32_15 : BitVec 32 := 1#32
  let v24 : BitVec 32 := Scalar.andi v23 c1_i32_15
  let c512_i32_131 : BitVec 32 := 512#32
  let v204 : BitVec 32 := Scalar.muli v24 c512_i32_131
  let v205 : BitVec 32 := Scalar.addi c0_i32_132 v204
  let c0_i32_16 : BitVec 32 := 0#32
  let v25 : BitVec 32 := Scalar.shrui v2 c0_i32_16
  let c1_i32_17 : BitVec 32 := 1#32
  let v26 : BitVec 32 := Scalar.andi v25 c1_i32_17
  let c256_i32_183 : BitVec 32 := 256#32
  let v272 : BitVec 32 := Scalar.muli v26 c256_i32_183
  let v273 : BitVec 32 := Scalar.addi v205 v272
  let c2_i32_18 : BitVec 32 := 2#32
  let v27 : BitVec 32 := Scalar.shrui v2 c2_i32_18
  let c1_i32_19 : BitVec 32 := 1#32
  let v28 : BitVec 32 := Scalar.andi v27 c1_i32_19
  let c128_i32_232 : BitVec 32 := 128#32
  let v340 : BitVec 32 := Scalar.muli v28 c128_i32_232
  let v341 : BitVec 32 := Scalar.addi v273 v340
  let c1_i32_20 : BitVec 32 := 1#32
  let v29 : BitVec 32 := Scalar.shrui v2 c1_i32_20
  let c1_i32_21 : BitVec 32 := 1#32
  let v30 : BitVec 32 := Scalar.andi v29 c1_i32_21
  let c64_i32_281 : BitVec 32 := 64#32
  let v408 : BitVec 32 := Scalar.muli v30 c64_i32_281
  let v409 : BitVec 32 := Scalar.addi v341 v408
  let c4_i32_22 : BitVec 32 := 4#32
  let v31 : BitVec 32 := Scalar.shrui v2 c4_i32_22
  let c1_i32_23 : BitVec 32 := 1#32
  let v32 : BitVec 32 := Scalar.andi v31 c1_i32_23
  let c32_i32_331 : BitVec 32 := 32#32
  let v476 : BitVec 32 := Scalar.muli v32 c32_i32_331
  let v477 : BitVec 32 := Scalar.addi v409 v476
  let c32_i32_424 : BitVec 32 := 32#32
  let v576 : BitVec 32 := Scalar.muli v32 c32_i32_424
  let v577 : BitVec 32 := Scalar.subi v477 v576
  let c64_i32_476 : BitVec 32 := 64#32
  let v638 : BitVec 32 := Scalar.muli v30 c64_i32_476
  let v639 : BitVec 32 := Scalar.subi v577 v638
  let c128_i32_528 : BitVec 32 := 128#32
  let v700 : BitVec 32 := Scalar.muli v28 c128_i32_528
  let v701 : BitVec 32 := Scalar.subi v639 v700
  let v717 : Index := Scalar.indexCast v701
  let c512_540 : Index := 512#32
  ![v717.toNat, 512]
def k0_dev28 (d0 : Dev nD) : Nat :=
  let c0_i32_546 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_2 : BitVec 32 := 1#32
  let v9 : BitVec 32 := Scalar.xori v2 c1_i32_2
  let c1_i32_545 : BitVec 32 := 1#32
  let v724 : BitVec 32 := Scalar.muli v9 c1_i32_545
  let v725 : BitVec 32 := Scalar.addi c0_i32_546 v724
  v725.toNat
def k0_off33 (d0 : Dev nD) : Fin 2 → Nat :=
  let c0_i32_130 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v13 : BitVec 32 := Scalar.shrui v2 c0_i32
  let c1_i32_6 : BitVec 32 := 1#32
  let v14 : BitVec 32 := Scalar.andi v13 c1_i32_6
  let c512_i32_129 : BitVec 32 := 512#32
  let v202 : BitVec 32 := Scalar.muli v14 c512_i32_129
  let v203 : BitVec 32 := Scalar.addi c0_i32_130 v202
  let c3_i32 : BitVec 32 := 3#32
  let v15 : BitVec 32 := Scalar.shrui v2 c3_i32
  let c1_i32_7 : BitVec 32 := 1#32
  let v16 : BitVec 32 := Scalar.andi v15 c1_i32_7
  let c256_i32_182 : BitVec 32 := 256#32
  let v270 : BitVec 32 := Scalar.muli v16 c256_i32_182
  let v271 : BitVec 32 := Scalar.addi v203 v270
  let c1_i32_8 : BitVec 32 := 1#32
  let v17 : BitVec 32 := Scalar.shrui v2 c1_i32_8
  let c1_i32_9 : BitVec 32 := 1#32
  let v18 : BitVec 32 := Scalar.andi v17 c1_i32_9
  let c128_i32_231 : BitVec 32 := 128#32
  let v338 : BitVec 32 := Scalar.muli v18 c128_i32_231
  let v339 : BitVec 32 := Scalar.addi v271 v338
  let c2_i32_10 : BitVec 32 := 2#32
  let v19 : BitVec 32 := Scalar.shrui v2 c2_i32_10
  let c1_i32_11 : BitVec 32 := 1#32
  let v20 : BitVec 32 := Scalar.andi v19 c1_i32_11
  let c64_i32_280 : BitVec 32 := 64#32
  let v406 : BitVec 32 := Scalar.muli v20 c64_i32_280
  let v407 : BitVec 32 := Scalar.addi v339 v406
  let c4_i32_12 : BitVec 32 := 4#32
  let v21 : BitVec 32 := Scalar.shrui v2 c4_i32_12
  let c1_i32_13 : BitVec 32 := 1#32
  let v22 : BitVec 32 := Scalar.andi v21 c1_i32_13
  let c32_i32_330 : BitVec 32 := 32#32
  let v474 : BitVec 32 := Scalar.muli v22 c32_i32_330
  let v475 : BitVec 32 := Scalar.addi v407 v474
  let c32_i32_423 : BitVec 32 := 32#32
  let v574 : BitVec 32 := Scalar.muli v22 c32_i32_423
  let v575 : BitVec 32 := Scalar.subi v475 v574
  let c64_i32_475 : BitVec 32 := 64#32
  let v636 : BitVec 32 := Scalar.muli v20 c64_i32_475
  let v637 : BitVec 32 := Scalar.subi v575 v636
  let c128_i32_527 : BitVec 32 := 128#32
  let v698 : BitVec 32 := Scalar.muli v18 c128_i32_527
  let v699 : BitVec 32 := Scalar.subi v637 v698
  let c1_i32_552 : BitVec 32 := 1#32
  let c2_i32_551 : BitVec 32 := 2#32
  let v732 : BitVec 32 := Scalar.muli c2_i32_551 v16
  let v733 : BitVec 32 := Scalar.subi c1_i32_552 v732
  let c256_i32_553 : BitVec 32 := 256#32
  let v734 : BitVec 32 := Scalar.muli v733 c256_i32_553
  let v735 : BitVec 32 := Scalar.addi v699 v734
  let v748 : Index := Scalar.indexCast v735
  let c0_567 : Index := 0#32
  ![v748.toNat, 0]
def k0_off34 (d0 : Dev nD) : Fin 2 → Nat :=
  let c0_i32_132 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_14 : BitVec 32 := 3#32
  let v23 : BitVec 32 := Scalar.shrui v2 c3_i32_14
  let c1_i32_15 : BitVec 32 := 1#32
  let v24 : BitVec 32 := Scalar.andi v23 c1_i32_15
  let c512_i32_131 : BitVec 32 := 512#32
  let v204 : BitVec 32 := Scalar.muli v24 c512_i32_131
  let v205 : BitVec 32 := Scalar.addi c0_i32_132 v204
  let c0_i32_16 : BitVec 32 := 0#32
  let v25 : BitVec 32 := Scalar.shrui v2 c0_i32_16
  let c1_i32_17 : BitVec 32 := 1#32
  let v26 : BitVec 32 := Scalar.andi v25 c1_i32_17
  let c256_i32_183 : BitVec 32 := 256#32
  let v272 : BitVec 32 := Scalar.muli v26 c256_i32_183
  let v273 : BitVec 32 := Scalar.addi v205 v272
  let c2_i32_18 : BitVec 32 := 2#32
  let v27 : BitVec 32 := Scalar.shrui v2 c2_i32_18
  let c1_i32_19 : BitVec 32 := 1#32
  let v28 : BitVec 32 := Scalar.andi v27 c1_i32_19
  let c128_i32_232 : BitVec 32 := 128#32
  let v340 : BitVec 32 := Scalar.muli v28 c128_i32_232
  let v341 : BitVec 32 := Scalar.addi v273 v340
  let c1_i32_20 : BitVec 32 := 1#32
  let v29 : BitVec 32 := Scalar.shrui v2 c1_i32_20
  let c1_i32_21 : BitVec 32 := 1#32
  let v30 : BitVec 32 := Scalar.andi v29 c1_i32_21
  let c64_i32_281 : BitVec 32 := 64#32
  let v408 : BitVec 32 := Scalar.muli v30 c64_i32_281
  let v409 : BitVec 32 := Scalar.addi v341 v408
  let c4_i32_22 : BitVec 32 := 4#32
  let v31 : BitVec 32 := Scalar.shrui v2 c4_i32_22
  let c1_i32_23 : BitVec 32 := 1#32
  let v32 : BitVec 32 := Scalar.andi v31 c1_i32_23
  let c32_i32_331 : BitVec 32 := 32#32
  let v476 : BitVec 32 := Scalar.muli v32 c32_i32_331
  let v477 : BitVec 32 := Scalar.addi v409 v476
  let c32_i32_424 : BitVec 32 := 32#32
  let v576 : BitVec 32 := Scalar.muli v32 c32_i32_424
  let v577 : BitVec 32 := Scalar.subi v477 v576
  let c64_i32_476 : BitVec 32 := 64#32
  let v638 : BitVec 32 := Scalar.muli v30 c64_i32_476
  let v639 : BitVec 32 := Scalar.subi v577 v638
  let c128_i32_528 : BitVec 32 := 128#32
  let v700 : BitVec 32 := Scalar.muli v28 c128_i32_528
  let v701 : BitVec 32 := Scalar.subi v639 v700
  let c1_i32_555 : BitVec 32 := 1#32
  let c2_i32_554 : BitVec 32 := 2#32
  let v736 : BitVec 32 := Scalar.muli c2_i32_554 v26
  let v737 : BitVec 32 := Scalar.subi c1_i32_555 v736
  let c256_i32_556 : BitVec 32 := 256#32
  let v738 : BitVec 32 := Scalar.muli v737 c256_i32_556
  let v739 : BitVec 32 := Scalar.addi v701 v738
  let v758 : Index := Scalar.indexCast v739
  let c512_578 : Index := 512#32
  ![v758.toNat, 512]
def k0_off35 (d0 : Dev nD) : Fin 2 → Nat :=
  let c0_i32_130 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v13 : BitVec 32 := Scalar.shrui v2 c0_i32
  let c1_i32_6 : BitVec 32 := 1#32
  let v14 : BitVec 32 := Scalar.andi v13 c1_i32_6
  let c512_i32_129 : BitVec 32 := 512#32
  let v202 : BitVec 32 := Scalar.muli v14 c512_i32_129
  let v203 : BitVec 32 := Scalar.addi c0_i32_130 v202
  let c3_i32 : BitVec 32 := 3#32
  let v15 : BitVec 32 := Scalar.shrui v2 c3_i32
  let c1_i32_7 : BitVec 32 := 1#32
  let v16 : BitVec 32 := Scalar.andi v15 c1_i32_7
  let c256_i32_182 : BitVec 32 := 256#32
  let v270 : BitVec 32 := Scalar.muli v16 c256_i32_182
  let v271 : BitVec 32 := Scalar.addi v203 v270
  let c1_i32_8 : BitVec 32 := 1#32
  let v17 : BitVec 32 := Scalar.shrui v2 c1_i32_8
  let c1_i32_9 : BitVec 32 := 1#32
  let v18 : BitVec 32 := Scalar.andi v17 c1_i32_9
  let c128_i32_231 : BitVec 32 := 128#32
  let v338 : BitVec 32 := Scalar.muli v18 c128_i32_231
  let v339 : BitVec 32 := Scalar.addi v271 v338
  let c2_i32_10 : BitVec 32 := 2#32
  let v19 : BitVec 32 := Scalar.shrui v2 c2_i32_10
  let c1_i32_11 : BitVec 32 := 1#32
  let v20 : BitVec 32 := Scalar.andi v19 c1_i32_11
  let c64_i32_280 : BitVec 32 := 64#32
  let v406 : BitVec 32 := Scalar.muli v20 c64_i32_280
  let v407 : BitVec 32 := Scalar.addi v339 v406
  let c4_i32_12 : BitVec 32 := 4#32
  let v21 : BitVec 32 := Scalar.shrui v2 c4_i32_12
  let c1_i32_13 : BitVec 32 := 1#32
  let v22 : BitVec 32 := Scalar.andi v21 c1_i32_13
  let c32_i32_330 : BitVec 32 := 32#32
  let v474 : BitVec 32 := Scalar.muli v22 c32_i32_330
  let v475 : BitVec 32 := Scalar.addi v407 v474
  let c32_i32_423 : BitVec 32 := 32#32
  let v574 : BitVec 32 := Scalar.muli v22 c32_i32_423
  let v575 : BitVec 32 := Scalar.subi v475 v574
  let c64_i32_475 : BitVec 32 := 64#32
  let v636 : BitVec 32 := Scalar.muli v20 c64_i32_475
  let v637 : BitVec 32 := Scalar.subi v575 v636
  let c128_i32_527 : BitVec 32 := 128#32
  let v698 : BitVec 32 := Scalar.muli v18 c128_i32_527
  let v699 : BitVec 32 := Scalar.subi v637 v698
  let c256_i32_579 : BitVec 32 := 256#32
  let v760 : BitVec 32 := Scalar.muli v16 c256_i32_579
  let v761 : BitVec 32 := Scalar.subi v699 v760
  let v764 : Index := Scalar.indexCast v761
  let c0_581 : Index := 0#32
  ![v764.toNat, 0]
def k0_dev29 (d0 : Dev nD) : Nat :=
  let c0_i32_587 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.xori v2 c1_i32_0
  let c1_i32_586 : BitVec 32 := 1#32
  let v771 : BitVec 32 := Scalar.muli v3 c1_i32_586
  let v772 : BitVec 32 := Scalar.addi c0_i32_587 v771
  v772.toNat
def k0_off36 (d0 : Dev nD) : Fin 2 → Nat :=
  let c0_i32_132 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_14 : BitVec 32 := 3#32
  let v23 : BitVec 32 := Scalar.shrui v2 c3_i32_14
  let c1_i32_15 : BitVec 32 := 1#32
  let v24 : BitVec 32 := Scalar.andi v23 c1_i32_15
  let c512_i32_131 : BitVec 32 := 512#32
  let v204 : BitVec 32 := Scalar.muli v24 c512_i32_131
  let v205 : BitVec 32 := Scalar.addi c0_i32_132 v204
  let c0_i32_16 : BitVec 32 := 0#32
  let v25 : BitVec 32 := Scalar.shrui v2 c0_i32_16
  let c1_i32_17 : BitVec 32 := 1#32
  let v26 : BitVec 32 := Scalar.andi v25 c1_i32_17
  let c256_i32_183 : BitVec 32 := 256#32
  let v272 : BitVec 32 := Scalar.muli v26 c256_i32_183
  let v273 : BitVec 32 := Scalar.addi v205 v272
  let c2_i32_18 : BitVec 32 := 2#32
  let v27 : BitVec 32 := Scalar.shrui v2 c2_i32_18
  let c1_i32_19 : BitVec 32 := 1#32
  let v28 : BitVec 32 := Scalar.andi v27 c1_i32_19
  let c128_i32_232 : BitVec 32 := 128#32
  let v340 : BitVec 32 := Scalar.muli v28 c128_i32_232
  let v341 : BitVec 32 := Scalar.addi v273 v340
  let c1_i32_20 : BitVec 32 := 1#32
  let v29 : BitVec 32 := Scalar.shrui v2 c1_i32_20
  let c1_i32_21 : BitVec 32 := 1#32
  let v30 : BitVec 32 := Scalar.andi v29 c1_i32_21
  let c64_i32_281 : BitVec 32 := 64#32
  let v408 : BitVec 32 := Scalar.muli v30 c64_i32_281
  let v409 : BitVec 32 := Scalar.addi v341 v408
  let c4_i32_22 : BitVec 32 := 4#32
  let v31 : BitVec 32 := Scalar.shrui v2 c4_i32_22
  let c1_i32_23 : BitVec 32 := 1#32
  let v32 : BitVec 32 := Scalar.andi v31 c1_i32_23
  let c32_i32_331 : BitVec 32 := 32#32
  let v476 : BitVec 32 := Scalar.muli v32 c32_i32_331
  let v477 : BitVec 32 := Scalar.addi v409 v476
  let c32_i32_424 : BitVec 32 := 32#32
  let v576 : BitVec 32 := Scalar.muli v32 c32_i32_424
  let v577 : BitVec 32 := Scalar.subi v477 v576
  let c64_i32_476 : BitVec 32 := 64#32
  let v638 : BitVec 32 := Scalar.muli v30 c64_i32_476
  let v639 : BitVec 32 := Scalar.subi v577 v638
  let c128_i32_528 : BitVec 32 := 128#32
  let v700 : BitVec 32 := Scalar.muli v28 c128_i32_528
  let v701 : BitVec 32 := Scalar.subi v639 v700
  let c256_i32_580 : BitVec 32 := 256#32
  let v762 : BitVec 32 := Scalar.muli v26 c256_i32_580
  let v763 : BitVec 32 := Scalar.subi v701 v762
  let v779 : Index := Scalar.indexCast v763
  let c512_592 : Index := 512#32
  ![v779.toNat, 512]
def k0_dev30 (d0 : Dev nD) : Nat :=
  let c0_i32_598 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1 : BitVec 32 := 8#32
  let v8 : BitVec 32 := Scalar.xori v2 c8_i32_1
  let c1_i32_597 : BitVec 32 := 1#32
  let v786 : BitVec 32 := Scalar.muli v8 c1_i32_597
  let v787 : BitVec 32 := Scalar.addi c0_i32_598 v786
  v787.toNat
def k0_off37 (d0 : Dev nD) : Fin 2 → Nat :=
  let c0_i32_130 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v13 : BitVec 32 := Scalar.shrui v2 c0_i32
  let c1_i32_6 : BitVec 32 := 1#32
  let v14 : BitVec 32 := Scalar.andi v13 c1_i32_6
  let c512_i32_129 : BitVec 32 := 512#32
  let v202 : BitVec 32 := Scalar.muli v14 c512_i32_129
  let v203 : BitVec 32 := Scalar.addi c0_i32_130 v202
  let c3_i32 : BitVec 32 := 3#32
  let v15 : BitVec 32 := Scalar.shrui v2 c3_i32
  let c1_i32_7 : BitVec 32 := 1#32
  let v16 : BitVec 32 := Scalar.andi v15 c1_i32_7
  let c256_i32_182 : BitVec 32 := 256#32
  let v270 : BitVec 32 := Scalar.muli v16 c256_i32_182
  let v271 : BitVec 32 := Scalar.addi v203 v270
  let c1_i32_8 : BitVec 32 := 1#32
  let v17 : BitVec 32 := Scalar.shrui v2 c1_i32_8
  let c1_i32_9 : BitVec 32 := 1#32
  let v18 : BitVec 32 := Scalar.andi v17 c1_i32_9
  let c128_i32_231 : BitVec 32 := 128#32
  let v338 : BitVec 32 := Scalar.muli v18 c128_i32_231
  let v339 : BitVec 32 := Scalar.addi v271 v338
  let c2_i32_10 : BitVec 32 := 2#32
  let v19 : BitVec 32 := Scalar.shrui v2 c2_i32_10
  let c1_i32_11 : BitVec 32 := 1#32
  let v20 : BitVec 32 := Scalar.andi v19 c1_i32_11
  let c64_i32_280 : BitVec 32 := 64#32
  let v406 : BitVec 32 := Scalar.muli v20 c64_i32_280
  let v407 : BitVec 32 := Scalar.addi v339 v406
  let c4_i32_12 : BitVec 32 := 4#32
  let v21 : BitVec 32 := Scalar.shrui v2 c4_i32_12
  let c1_i32_13 : BitVec 32 := 1#32
  let v22 : BitVec 32 := Scalar.andi v21 c1_i32_13
  let c32_i32_330 : BitVec 32 := 32#32
  let v474 : BitVec 32 := Scalar.muli v22 c32_i32_330
  let v475 : BitVec 32 := Scalar.addi v407 v474
  let c32_i32_423 : BitVec 32 := 32#32
  let v574 : BitVec 32 := Scalar.muli v22 c32_i32_423
  let v575 : BitVec 32 := Scalar.subi v475 v574
  let c64_i32_475 : BitVec 32 := 64#32
  let v636 : BitVec 32 := Scalar.muli v20 c64_i32_475
  let v637 : BitVec 32 := Scalar.subi v575 v636
  let c128_i32_527 : BitVec 32 := 128#32
  let v698 : BitVec 32 := Scalar.muli v18 c128_i32_527
  let v699 : BitVec 32 := Scalar.subi v637 v698
  let c256_i32_579 : BitVec 32 := 256#32
  let v760 : BitVec 32 := Scalar.muli v16 c256_i32_579
  let v761 : BitVec 32 := Scalar.subi v699 v760
  let c1_i32_604 : BitVec 32 := 1#32
  let c2_i32_603 : BitVec 32 := 2#32
  let v794 : BitVec 32 := Scalar.muli c2_i32_603 v14
  let v795 : BitVec 32 := Scalar.subi c1_i32_604 v794
  let c512_i32_605 : BitVec 32 := 512#32
  let v796 : BitVec 32 := Scalar.muli v795 c512_i32_605
  let v797 : BitVec 32 := Scalar.addi v761 v796
  let v810 : Index := Scalar.indexCast v797
  let c0_619 : Index := 0#32
  ![v810.toNat, 0]
def k0_off38 (d0 : Dev nD) : Fin 2 → Nat :=
  let c0_i32_132 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_14 : BitVec 32 := 3#32
  let v23 : BitVec 32 := Scalar.shrui v2 c3_i32_14
  let c1_i32_15 : BitVec 32 := 1#32
  let v24 : BitVec 32 := Scalar.andi v23 c1_i32_15
  let c512_i32_131 : BitVec 32 := 512#32
  let v204 : BitVec 32 := Scalar.muli v24 c512_i32_131
  let v205 : BitVec 32 := Scalar.addi c0_i32_132 v204
  let c0_i32_16 : BitVec 32 := 0#32
  let v25 : BitVec 32 := Scalar.shrui v2 c0_i32_16
  let c1_i32_17 : BitVec 32 := 1#32
  let v26 : BitVec 32 := Scalar.andi v25 c1_i32_17
  let c256_i32_183 : BitVec 32 := 256#32
  let v272 : BitVec 32 := Scalar.muli v26 c256_i32_183
  let v273 : BitVec 32 := Scalar.addi v205 v272
  let c2_i32_18 : BitVec 32 := 2#32
  let v27 : BitVec 32 := Scalar.shrui v2 c2_i32_18
  let c1_i32_19 : BitVec 32 := 1#32
  let v28 : BitVec 32 := Scalar.andi v27 c1_i32_19
  let c128_i32_232 : BitVec 32 := 128#32
  let v340 : BitVec 32 := Scalar.muli v28 c128_i32_232
  let v341 : BitVec 32 := Scalar.addi v273 v340
  let c1_i32_20 : BitVec 32 := 1#32
  let v29 : BitVec 32 := Scalar.shrui v2 c1_i32_20
  let c1_i32_21 : BitVec 32 := 1#32
  let v30 : BitVec 32 := Scalar.andi v29 c1_i32_21
  let c64_i32_281 : BitVec 32 := 64#32
  let v408 : BitVec 32 := Scalar.muli v30 c64_i32_281
  let v409 : BitVec 32 := Scalar.addi v341 v408
  let c4_i32_22 : BitVec 32 := 4#32
  let v31 : BitVec 32 := Scalar.shrui v2 c4_i32_22
  let c1_i32_23 : BitVec 32 := 1#32
  let v32 : BitVec 32 := Scalar.andi v31 c1_i32_23
  let c32_i32_331 : BitVec 32 := 32#32
  let v476 : BitVec 32 := Scalar.muli v32 c32_i32_331
  let v477 : BitVec 32 := Scalar.addi v409 v476
  let c32_i32_424 : BitVec 32 := 32#32
  let v576 : BitVec 32 := Scalar.muli v32 c32_i32_424
  let v577 : BitVec 32 := Scalar.subi v477 v576
  let c64_i32_476 : BitVec 32 := 64#32
  let v638 : BitVec 32 := Scalar.muli v30 c64_i32_476
  let v639 : BitVec 32 := Scalar.subi v577 v638
  let c128_i32_528 : BitVec 32 := 128#32
  let v700 : BitVec 32 := Scalar.muli v28 c128_i32_528
  let v701 : BitVec 32 := Scalar.subi v639 v700
  let c256_i32_580 : BitVec 32 := 256#32
  let v762 : BitVec 32 := Scalar.muli v26 c256_i32_580
  let v763 : BitVec 32 := Scalar.subi v701 v762
  let c1_i32_607 : BitVec 32 := 1#32
  let c2_i32_606 : BitVec 32 := 2#32
  let v798 : BitVec 32 := Scalar.muli c2_i32_606 v24
  let v799 : BitVec 32 := Scalar.subi c1_i32_607 v798
  let c512_i32_608 : BitVec 32 := 512#32
  let v800 : BitVec 32 := Scalar.muli v799 c512_i32_608
  let v801 : BitVec 32 := Scalar.addi v763 v800
  let v820 : Index := Scalar.indexCast v801
  let c512_630 : Index := 512#32
  ![v820.toNat, 512]
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S1024x512 : Shape := ⟨2, ![1024, 512]⟩
abbrev S512x128 : Shape := ⟨2, ![512, 128]⟩
abbrev S1024x2 : Shape := ⟨2, ![1024, 2]⟩
abbrev S128x512x1024 : Shape := ⟨3, ![128, 512, 1024]⟩
abbrev S1024x128 : Shape := ⟨2, ![1024, 128]⟩
abbrev S_ : Shape := ⟨0, ![]⟩
abbrev S1024 : Shape := ⟨1, ![1024]⟩
abbrev S1024x1 : Shape := ⟨2, ![1024, 1]⟩
abbrev S2 : Shape := ⟨1, ![2]⟩
abbrev S1x2 : Shape := ⟨2, ![1, 2]⟩
abbrev S1 : Shape := ⟨1, ![1]⟩
abbrev S1x1 : Shape := ⟨2, ![1, 1]⟩
abbrev S1024x512x1024 : Shape := ⟨3, ![1024, 512, 1024]⟩
abbrev S1024x1024 : Shape := ⟨2, ![1024, 1024]⟩

abbrev nBuf : Space → Nat
  | .hbm => 99
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S512x128, .f32⟩
  | .hbm, ⟨2, _⟩ => ⟨S1024x2, .i32⟩
  | .hbm, ⟨3, _⟩ => ⟨S128x512x1024, .f32⟩
  | .hbm, ⟨4, _⟩ => ⟨S1024x128, .f32⟩
  | .hbm, ⟨5, _⟩ => ⟨S_, .f32⟩
  | .hbm, ⟨6, _⟩ => ⟨S1024, .f32⟩
  | .hbm, ⟨7, _⟩ => ⟨S1024x1, .f32⟩
  | .hbm, ⟨8, _⟩ => ⟨S1024x128, .f32⟩
  | .hbm, ⟨9, _⟩ => ⟨S1024x128, .f32⟩
  | .hbm, ⟨10, _⟩ => ⟨S1024x128, .f32⟩
  | .hbm, ⟨11, _⟩ => ⟨S_, .f32⟩
  | .hbm, ⟨12, _⟩ => ⟨S1024, .f32⟩
  | .hbm, ⟨13, _⟩ => ⟨S1024x1, .f32⟩
  | .hbm, ⟨14, _⟩ => ⟨S1024x128, .f32⟩
  | .hbm, ⟨15, _⟩ => ⟨S1024x128, .f32⟩
  | .hbm, ⟨16, _⟩ => ⟨S1024x1, .i32⟩
  | .hbm, ⟨17, _⟩ => ⟨S1024, .i32⟩
  | .hbm, ⟨18, _⟩ => ⟨S1024x1, .i32⟩
  | .hbm, ⟨19, _⟩ => ⟨S1024, .i32⟩
  | .hbm, ⟨20, _⟩ => ⟨S1024, .i32⟩
  | .hbm, ⟨21, _⟩ => ⟨S1024x1, .i32⟩
  | .hbm, ⟨22, _⟩ => ⟨S1024x1, .i32⟩
  | .hbm, ⟨23, _⟩ => ⟨S1024x2, .i32⟩
  | .hbm, ⟨24, _⟩ => ⟨S2, .i32⟩
  | .hbm, ⟨25, _⟩ => ⟨S_, .i32⟩
  | .hbm, ⟨26, _⟩ => ⟨S1024x2, .i32⟩
  | .hbm, ⟨27, _⟩ => ⟨S1024x2, .i1⟩
  | .hbm, ⟨28, _⟩ => ⟨S1x2, .i32⟩
  | .hbm, ⟨29, _⟩ => ⟨S1024x2, .i32⟩
  | .hbm, ⟨30, _⟩ => ⟨S1024x2, .i1⟩
  | .hbm, ⟨31, _⟩ => ⟨S1024x2, .i1⟩
  | .hbm, ⟨32, _⟩ => ⟨S_, .i1⟩
  | .hbm, ⟨33, _⟩ => ⟨S1024, .i1⟩
  | .hbm, ⟨34, _⟩ => ⟨S1024, .f32⟩
  | .hbm, ⟨35, _⟩ => ⟨S_, .f32⟩
  | .hbm, ⟨36, _⟩ => ⟨S1024, .f32⟩
  | .hbm, ⟨37, _⟩ => ⟨S1024, .f32⟩
  | .hbm, ⟨38, _⟩ => ⟨S1024x1, .f32⟩
  | .hbm, ⟨39, _⟩ => ⟨S1024x1, .i32⟩
  | .hbm, ⟨40, _⟩ => ⟨S1024x1, .i32⟩
  | .hbm, ⟨41, _⟩ => ⟨S1024x2, .i32⟩
  | .hbm, ⟨42, _⟩ => ⟨S2, .i32⟩
  | .hbm, ⟨43, _⟩ => ⟨S_, .i32⟩
  | .hbm, ⟨44, _⟩ => ⟨S1024x2, .i32⟩
  | .hbm, ⟨45, _⟩ => ⟨S1024x2, .i1⟩
  | .hbm, ⟨46, _⟩ => ⟨S1x2, .i32⟩
  | .hbm, ⟨47, _⟩ => ⟨S1024x2, .i32⟩
  | .hbm, ⟨48, _⟩ => ⟨S1024x2, .i1⟩
  | .hbm, ⟨49, _⟩ => ⟨S1024x2, .i1⟩
  | .hbm, ⟨50, _⟩ => ⟨S_, .i1⟩
  | .hbm, ⟨51, _⟩ => ⟨S1024, .i1⟩
  | .hbm, ⟨52, _⟩ => ⟨S1024, .f32⟩
  | .hbm, ⟨53, _⟩ => ⟨S_, .f32⟩
  | .hbm, ⟨54, _⟩ => ⟨S1024, .f32⟩
  | .hbm, ⟨55, _⟩ => ⟨S1024, .f32⟩
  | .hbm, ⟨56, _⟩ => ⟨S1024x1, .f32⟩
  | .hbm, ⟨57, _⟩ => ⟨S1024x1, .f32⟩
  | .hbm, ⟨58, _⟩ => ⟨S1024x1, .i32⟩
  | .hbm, ⟨59, _⟩ => ⟨S1, .i32⟩
  | .hbm, ⟨60, _⟩ => ⟨S_, .i32⟩
  | .hbm, ⟨61, _⟩ => ⟨S1024x1, .i32⟩
  | .hbm, ⟨62, _⟩ => ⟨S1024x1, .i1⟩
  | .hbm, ⟨63, _⟩ => ⟨S1x1, .i32⟩
  | .hbm, ⟨64, _⟩ => ⟨S1024x1, .i32⟩
  | .hbm, ⟨65, _⟩ => ⟨S1024x1, .i1⟩
  | .hbm, ⟨66, _⟩ => ⟨S1024x1, .i1⟩
  | .hbm, ⟨67, _⟩ => ⟨S_, .i1⟩
  | .hbm, ⟨68, _⟩ => ⟨S1024, .i1⟩
  | .hbm, ⟨69, _⟩ => ⟨S1024x512x1024, .f32⟩
  | .hbm, ⟨70, _⟩ => ⟨S1024x512x1024, .i1⟩
  | .hbm, ⟨71, _⟩ => ⟨S_, .f32⟩
  | .hbm, ⟨72, _⟩ => ⟨S1024x512x1024, .f32⟩
  | .hbm, ⟨73, _⟩ => ⟨S1024x512x1024, .f32⟩
  | .hbm, ⟨74, _⟩ => ⟨S1024x1024, .f32⟩
  | .hbm, ⟨75, _⟩ => ⟨S1024x1, .i32⟩
  | .hbm, ⟨76, _⟩ => ⟨S1, .i32⟩
  | .hbm, ⟨77, _⟩ => ⟨S_, .i32⟩
  | .hbm, ⟨78, _⟩ => ⟨S1024x1, .i32⟩
  | .hbm, ⟨79, _⟩ => ⟨S1024x1, .i1⟩
  | .hbm, ⟨80, _⟩ => ⟨S1x1, .i32⟩
  | .hbm, ⟨81, _⟩ => ⟨S1024x1, .i32⟩
  | .hbm, ⟨82, _⟩ => ⟨S1024x1, .i1⟩
  | .hbm, ⟨83, _⟩ => ⟨S1024x1, .i1⟩
  | .hbm, ⟨84, _⟩ => ⟨S_, .i1⟩
  | .hbm, ⟨85, _⟩ => ⟨S1024, .i1⟩
  | .hbm, ⟨86, _⟩ => ⟨S1024x512x1024, .f32⟩
  | .hbm, ⟨87, _⟩ => ⟨S1024x512x1024, .i1⟩
  | .hbm, ⟨88, _⟩ => ⟨S_, .f32⟩
  | .hbm, ⟨89, _⟩ => ⟨S1024x512x1024, .f32⟩
  | .hbm, ⟨90, _⟩ => ⟨S1024x512x1024, .f32⟩
  | .hbm, ⟨91, _⟩ => ⟨S1024x1024, .f32⟩
  | .hbm, ⟨92, _⟩ => ⟨S1024x1, .f32⟩
  | .hbm, ⟨93, _⟩ => ⟨S1024x1024, .f32⟩
  | .hbm, ⟨94, _⟩ => ⟨S1024x1024, .f32⟩
  | .hbm, ⟨95, _⟩ => ⟨S1024x1, .f32⟩
  | .hbm, ⟨96, _⟩ => ⟨S1024x1024, .f32⟩
  | .hbm, ⟨97, _⟩ => ⟨S1024x1024, .f32⟩
  | .hbm, ⟨98, _⟩ => ⟨S1024x1024, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c : Ref sig .tc := ⟨.hbm, 24, rfl⟩
abbrev main_c_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_c_2 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_c_4 : Ref sig .tc := ⟨.hbm, 42, rfl⟩
abbrev main_c_5 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_c_6 : Ref sig .tc := ⟨.hbm, 50, rfl⟩
abbrev main_v38 : Ref sig .tc := ⟨.hbm, 51, rfl⟩
abbrev main_v39 : Ref sig .tc := ⟨.hbm, 52, rfl⟩
abbrev main_cst_7 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_c_8 : Ref sig .tc := ⟨.hbm, 59, rfl⟩
abbrev main_c_9 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_c_10 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_11 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_c_12 : Ref sig .tc := ⟨.hbm, 76, rfl⟩
abbrev main_c_13 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_c_14 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_cst_15 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩

abbrev nD : Nat := 1
abbrev τ : Topo := Topo.v7x

variable {F : FTy → Type} [FloatOps F]
-- ==== Proof.Topo.lean ====
/-
# The kernel's exchanges as one table

Device `c` takes part in twenty exchanges, numbered in the order in which the program starts and awaits them. Numbers
0 … 9 are the reduce-scatter (step `s`, half A is `2 s`, half B is `2 s + 1`), numbers 10 … 19 the all-gather (steps 4 down
to 0, half A before half B). In exchange `k` device `c` copies one slot of a staging buffer into the same slot of its
partner's landing buffer. This module lists, per exchange: the number of rows, the first row of the slot, the partner,
the two buffers, the two semaphores, and the rows of the result array that are sent and updated.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Moe

open Cert.KernelIdeal Cert.KernelIdeal.Gen
open Idealize.ShloMosaic
open Idealize.ShloMosaic.TcCoe

/-! ## Sizes, slots, halves, partners -/

/-- The rows an exchange moves. -/
def rows (k : Fin 20) : ℕ := match k with
  | 0 => 512 | 1 => 512 | 2 => 256 | 3 => 256 | 4 => 128 | 5 => 128 | 6 => 64 | 7 => 64 | 8 => 32 | 9 => 32
  | 10 => 32 | 11 => 32 | 12 => 64 | 13 => 64 | 14 => 128 | 15 => 128 | 16 => 256 | 17 => 256 | 18 => 512 | _ => 512

/-- The first row of the exchange's slot in its staging and landing buffers. -/
def slotRow (k : Fin 20) : ℕ := match k with
  | 0 => 0 | 1 => 0 | 2 => 512 | 3 => 512 | 4 => 768 | 5 => 768 | 6 => 896 | 7 => 896 | 8 => 960 | 9 => 960
  | 10 => 960 | 11 => 960 | 12 => 896 | 13 => 896 | 14 => 768 | 15 => 768 | 16 => 512 | 17 => 512 | 18 => 0 | _ => 0

/-- The first column of the half of the result that the exchange is about. -/
def col (k : Fin 20) : ℕ := if k.val % 2 = 0 then 0 else 512

/-- The place of the exchange's partner in the order in which the kernel signals its five partners. -/
def way (k : Fin 20) : Fin 5 := match k with
  | 0 => 0 | 1 => 1 | 2 => 1 | 3 => 0 | 4 => 2 | 5 => 3 | 6 => 3 | 7 => 2 | 8 => 4 | 9 => 4
  | 10 => 4 | 11 => 4 | 12 => 3 | 13 => 2 | 14 => 2 | 15 => 3 | 16 => 1 | 17 => 0 | 18 => 0 | _ => 1

/-- The mask that the `i`-th signalled partner's number differs by. -/
def mask (i : Fin 5) : ℕ := match i with | 0 => 1 | 1 => 8 | 2 => 2 | 3 => 4 | _ => 16

theorem flip_lt (i : Fin 5) (c : Dev nD) : c.val ^^^ mask i < nD := by revert i c; decide +kernel

/-- The `i`-th partner of device `c`. -/
def flip (i : Fin 5) (c : Dev nD) : Dev nD := ⟨c.val ^^^ mask i, flip_lt i c⟩

theorem flip_flip (i : Fin 5) (c : Dev nD) : flip i (flip i c) = c := by revert i c; decide +kernel

theorem flip_inj {i j : Fin 5} {c : Dev nD} (h : flip i c = flip j c) : i = j := by revert i j c; decide +kernel

/-- The partner as a permutation of the devices. -/
def flipEquiv (i : Fin 5) : Dev nD ≃ Dev nD := ⟨flip i, flip i, flip_flip i, flip_flip i⟩

/-- The partner in exchange `k`. -/
abbrev peer (k : Fin 20) (c : Dev nD) : Dev nD := flip (way k) c

theorem peer_peer (k : Fin 20) (c : Dev nD) : peer k (peer k c) = c := flip_flip _ c

/-! ## The printed device numbers -/

theorem dev1 (c : Dev nD) : (⟨k0_dev1 c, k0_dev1_lt c⟩ : Dev nD) = flip 0 c := Fin.ext (by revert c; decide +kernel)
theorem dev2 (c : Dev nD) : (⟨k0_dev2 c, k0_dev2_lt c⟩ : Dev nD) = flip 1 c := Fin.ext (by revert c; decide +kernel)
theorem dev3 (c : Dev nD) : (⟨k0_dev3 c, k0_dev3_lt c⟩ : Dev nD) = flip 2 c := Fin.ext (by revert c; decide +kernel)
theorem dev4 (c : Dev nD) : (⟨k0_dev4 c, k0_dev4_lt c⟩ : Dev nD) = flip 3 c := Fin.ext (by revert c; decide +kernel)
theorem dev5 (c : Dev nD) : (⟨k0_dev5 c, k0_dev5_lt c⟩ : Dev nD) = flip 4 c := Fin.ext (by revert c; decide +kernel)
theorem dev16 (c : Dev nD) : (⟨k0_dev16 c, k0_dev16_lt c⟩ : Dev nD) = flip 0 c := Fin.ext (by revert c; decide +kernel)
theorem dev17 (c : Dev nD) : (⟨k0_dev17 c, k0_dev17_lt c⟩ : Dev nD) = flip 1 c := Fin.ext (by revert c; decide +kernel)
theorem dev18 (c : Dev nD) : (⟨k0_dev18 c, k0_dev18_lt c⟩ : Dev nD) = flip 2 c := Fin.ext (by revert c; decide +kernel)
theorem dev19 (c : Dev nD) : (⟨k0_dev19 c, k0_dev19_lt c⟩ : Dev nD) = flip 3 c := Fin.ext (by revert c; decide +kernel)
theorem dev20 (c : Dev nD) : (⟨k0_dev20 c, k0_dev20_lt c⟩ : Dev nD) = flip 4 c := Fin.ext (by revert c; decide +kernel)
theorem dev6 (c : Dev nD) : (⟨k0_dev6 c, k0_dev6_lt c⟩ : Dev nD) = peer 0 c := Fin.ext (by revert c; decide +kernel)
theorem dev7 (c : Dev nD) : (⟨k0_dev7 c, k0_dev7_lt c⟩ : Dev nD) = peer 1 c := Fin.ext (by revert c; decide +kernel)
theorem dev8 (c : Dev nD) : (⟨k0_dev8 c, k0_dev8_lt c⟩ : Dev nD) = peer 2 c := Fin.ext (by revert c; decide +kernel)
theorem dev9 (c : Dev nD) : (⟨k0_dev9 c, k0_dev9_lt c⟩ : Dev nD) = peer 3 c := Fin.ext (by revert c; decide +kernel)
theorem dev10 (c : Dev nD) : (⟨k0_dev10 c, k0_dev10_lt c⟩ : Dev nD) = peer 4 c := Fin.ext (by revert c; decide +kernel)
theorem dev11 (c : Dev nD) : (⟨k0_dev11 c, k0_dev11_lt c⟩ : Dev nD) = peer 5 c := Fin.ext (by revert c; decide +kernel)
theorem dev12 (c : Dev nD) : (⟨k0_dev12 c, k0_dev12_lt c⟩ : Dev nD) = peer 6 c := Fin.ext (by revert c; decide +kernel)
theorem dev13 (c : Dev nD) : (⟨k0_dev13 c, k0_dev13_lt c⟩ : Dev nD) = peer 7 c := Fin.ext (by revert c; decide +kernel)
theorem dev14 (c : Dev nD) : (⟨k0_dev14 c, k0_dev14_lt c⟩ : Dev nD) = peer 8 c := Fin.ext (by revert c; decide +kernel)
theorem dev15 (c : Dev nD) : (⟨k0_dev15 c, k0_dev15_lt c⟩ : Dev nD) = peer 9 c := Fin.ext (by revert c; decide +kernel)
theorem dev21 (c : Dev nD) : (⟨k0_dev21 c, k0_dev21_lt c⟩ : Dev nD) = peer 10 c := Fin.ext (by revert c; decide +kernel)
theorem dev22 (c : Dev nD) : (⟨k0_dev22 c, k0_dev22_lt c⟩ : Dev nD) = peer 11 c := Fin.ext (by revert c; decide +kernel)
theorem dev23 (c : Dev nD) : (⟨k0_dev23 c, k0_dev23_lt c⟩ : Dev nD) = peer 12 c := Fin.ext (by revert c; decide +kernel)
theorem dev24 (c : Dev nD) : (⟨k0_dev24 c, k0_dev24_lt c⟩ : Dev nD) = peer 13 c := Fin.ext (by revert c; decide +kernel)
theorem dev25 (c : Dev nD) : (⟨k0_dev25 c, k0_dev25_lt c⟩ : Dev nD) = peer 14 c := Fin.ext (by revert c; decide +kernel)
theorem dev26 (c : Dev nD) : (⟨k0_dev26 c, k0_dev26_lt c⟩ : Dev nD) = peer 15 c := Fin.ext (by revert c; decide +kernel)
theorem dev27 (c : Dev nD) : (⟨k0_dev27 c, k0_dev27_lt c⟩ : Dev nD) = peer 16 c := Fin.ext (by revert c; decide +kernel)
theorem dev28 (c : Dev nD) : (⟨k0_dev28 c, k0_dev28_lt c⟩ : Dev nD) = peer 17 c := Fin.ext (by revert c; decide +kernel)
theorem dev29 (c : Dev nD) : (⟨k0_dev29 c, k0_dev29_lt c⟩ : Dev nD) = peer 18 c := Fin.ext (by revert c; decide +kernel)
theorem dev30 (c : Dev nD) : (⟨k0_dev30 c, k0_dev30_lt c⟩ : Dev nD) = peer 19 c := Fin.ext (by revert c; decide +kernel)

/-! ## The memrefs -/

/-- The shape of what an exchange moves. -/
abbrev Sh (k : Fin 20) : Shape := ⟨2, ![rows k, 512]⟩

/-- The staging buffer that device `c` sends from; -/
def stageB (k : Fin 20) : Memref sig .tc .vmem S992x512 .bf16 := match k with
  | 0 | 2 | 4 | 6 | 8 => Memref.whole cc0_scratch0
  | 1 | 3 | 5 | 7 | 9 => Memref.whole cc0_scratch1
  | 10 | 12 | 14 | 16 | 18 => Memref.whole cc0_scratch4
  | _ => Memref.whole cc0_scratch5
/-- the landing buffer it receives into. -/
def landB (k : Fin 20) : Memref sig .tc .vmem S992x512 .bf16 := match k with
  | 0 | 2 | 4 | 6 | 8 => Memref.whole cc0_scratch2
  | 1 | 3 | 5 | 7 | 9 => Memref.whole cc0_scratch3
  | 10 | 12 | 14 | 16 | 18 => Memref.whole cc0_scratch6
  | _ => Memref.whole cc0_scratch7

theorem slot_inb (k : Fin 20) : ∀ a, (![slotRow k, 0] : Fin 2 → ℕ) a + (Sh k).size a ≤ S992x512.size a := by
  revert k; decide +kernel

/-- The slot's rectangle; -/
abbrev slotR (k : Fin 20) : Rect S992x512 := Rect.unit (s := S992x512) ![slotRow k, 0] (Sh k).size (slot_inb k)
/-- the slot in the staging buffer; -/
abbrev stageM (k : Fin 20) : Memref sig .tc .vmem (Sh k) .bf16 := (stageB k).slice (slotR k) (fun _ => rfl)
/-- the slot in the landing buffer. -/
abbrev landM (k : Fin 20) : Memref sig .tc .vmem (Sh k) .bf16 := (landB k).slice (slotR k) (fun _ => rfl)

/-- The result array's staging buffer. -/
abbrev outM : Memref sig .tc .vmem S1024x1024 .f32 := Memref.whole cc0_stg4_0

/-- Where the rows that exchange `k` sends begin in the result array; -/
def sendOff (k : Fin 20) (c : Dev nD) : Fin 2 → ℕ := match k with
  | 0 => k0_off1 c | 1 => k0_off2 c | 2 => k0_off4 c | 3 => k0_off6 c | 4 => k0_off8 c | 5 => k0_off10 c | 6 => k0_off12 c
  | 7 => k0_off14 c | 8 => k0_off16 c | 9 => k0_off18 c | 10 => k0_off19 c | 11 => k0_off20 c | 12 => k0_off23 c
  | 13 => k0_off24 c | 14 => k0_off27 c | 15 => k0_off28 c | 16 => k0_off31 c | 17 => k0_off32 c | 18 => k0_off35 c | _ => k0_off36 c
/-- where the rows that it updates begin. -/
def updOff (k : Fin 20) (c : Dev nD) : Fin 2 → ℕ := match k with
  | 0 => k0_off3 c | 1 => k0_off5 c | 2 => k0_off7 c | 3 => k0_off9 c | 4 => k0_off11 c | 5 => k0_off13 c | 6 => k0_off15 c
  | 7 => k0_off17 c | 8 => k0_off19 c | 9 => k0_off20 c | 10 => k0_off21 c | 11 => k0_off22 c | 12 => k0_off25 c
  | 13 => k0_off26 c | 14 => k0_off29 c | 15 => k0_off30 c | 16 => k0_off33 c | 17 => k0_off34 c | 18 => k0_off37 c | _ => k0_off38 c

/-- The bit of a device's number that the partner's differs in, from the place in the signal order. -/
def bit (i : Fin 5) (c : Dev nD) : ℕ := c.val / mask i % 2

/-- The reduce-scatter step of an exchange: the all-gather undoes the steps in turn. -/
def stepOf (k : Fin 20) : ℕ := if k.val < 10 then k.val / 2 else 4 - (k.val - 10) / 2

/-- The reduce-scatter exchange of step `s` in the half of exchange `k`. -/
def rsOf (k : Fin 20) (s : ℕ) : Fin 20 := ⟨(2 * s + k.val % 2) % 20, Nat.mod_lt _ (by decide)⟩

/-- The first row of the region that device `c` still works on before step `s` of the half of `k`. -/
def base (k : Fin 20) (s : ℕ) (c : Dev nD) : ℕ := ∑ j ∈ Finset.range s, bit (way (rsOf k j)) c * rows (rsOf k j)

/-- In the reduce-scatter a device sends the part of its region that it gives up; in the all-gather what it has gathered. -/
def sendRow (k : Fin 20) (c : Dev nD) : ℕ :=
  base k (stepOf k) c + (if k.val < 10 then 1 - bit (way k) c else bit (way k) c) * rows k
/-- In the reduce-scatter it adds into the part that it keeps; in the all-gather it fills in the other part. -/
def updRow (k : Fin 20) (c : Dev nD) : ℕ :=
  base k (stepOf k) c + (if k.val < 10 then bit (way k) c else 1 - bit (way k) c) * rows k

theorem sendOff_eq (k : Fin 20) (c : Dev nD) : sendOff k c = ![sendRow k c, col k] := by
  revert k c; decide +kernel
theorem updOff_eq (k : Fin 20) (c : Dev nD) : updOff k c = ![updRow k c, col k] := by
  revert k c; decide +kernel

theorem send_inb (k : Fin 20) (c : Dev nD) : ∀ a, sendOff k c a + (Sh k).size a ≤ S1024x1024.size a := by
  revert k c; decide +kernel
theorem upd_inb (k : Fin 20) (c : Dev nD) : ∀ a, updOff k c a + (Sh k).size a ≤ S1024x1024.size a := by
  revert k c; decide +kernel

/-- The rows sent, as a rectangle of the result array; -/
abbrev sendR (k : Fin 20) (c : Dev nD) : Rect S1024x1024 := Rect.unit (s := S1024x1024) (sendOff k c) (Sh k).size (send_inb k c)
/-- the rows updated. -/
abbrev updR (k : Fin 20) (c : Dev nD) : Rect S1024x1024 := Rect.unit (s := S1024x1024) (updOff k c) (Sh k).size (upd_inb k c)

/-- What a device sends are the rows that its partner updates. -/
theorem sendOff_peer (k : Fin 20) (c : Dev nD) : sendOff k (peer k c) = updOff k c := by
  revert k c; decide +kernel

/-! ## The semaphores -/

/-- The number of the semaphore that tells exchange `k`'s copy has left. -/
def sendNo (k : Fin 20) : ℕ := 5 + 20 * (k.val / 10) + 10 * (k.val % 2) + stepOf k
theorem sendNo_lt (k : Fin 20) : sendNo k + 5 < 45 := by revert k; decide +kernel
def sendS (k : Fin 20) : DmaSem sig := (⟨sendNo k, by have := sendNo_lt k; omega⟩ : Fin 45)
/-- The semaphore that tells it has arrived. -/
def recvS (k : Fin 20) : DmaSem sig := (⟨sendNo k + 5, sendNo_lt k⟩ : Fin 45)

/-- The barrier semaphore. -/
abbrev barS : Sem sig := (SemArray.scalar (sig.barrier 0 rfl) : Sems sig S_).sem

/-- The exchange and the direction (`true`: arrival) that a transfer semaphore belongs to. -/
def which (q : DmaSem sig) : Option (Bool × Fin 20) :=
  (List.finRange 20).findSome? fun k => if q = sendS k then some (false, k) else if q = recvS k then some (true, k) else none

theorem which_send (k : Fin 20) : which (sendS k) = some (false, k) := by revert k; decide +kernel
theorem which_recv (k : Fin 20) : which (recvS k) = some (true, k) := by revert k; decide +kernel

end Cert.Moe
end
-- ==== Proof.Contents.lean ====
/-
# What the buffers hold

Device `c` first computes its four experts' weighted contribution to every token (`outInit`), then runs the twenty
exchanges: exchange `k` rounds some rows of the partner's running result to 16 bits (`sent`) and adds them to, or (in the
all-gather) writes them over, the same rows of the device's own running result (`outAt (k + 1)`).
-/
module

public import proofs.«01_k».proof.Proof.Topo

@[expose] public section

noncomputable section

namespace Cert.Moe

open Cert.KernelIdeal Cert.KernelIdeal.Gen
open Idealize.ShloMosaic
open Idealize.ShloMosaic.TcCoe

variable {F : FTy → Type} [FloatOps F]

variable (m : (ℓ : Loc nD τ sig) → Buf (Elt F) ℓ)

/-- The contents of the result's staging buffer. -/
abbrev OutC (F : FTy → Type) : Type := (cc0_stg4_0 : Ref sig .tc).ty.Contents (Elt F)

/-! ## The operands, as staged on device `c` -/

def xIn (c : Dev nD) : (cc0_stg0_0 : Ref sig .tc).ty.Contents (Elt F) :=
  (win0_0.blk (0 : Fin 1)).view.read (Elt F) (m ((c : Thread nD τ).loc main_arg0))
def routerIn (c : Dev nD) : (cc0_stg1_0 : Ref sig .tc).ty.Contents (Elt F) :=
  (win0_1.blk (0 : Fin 1)).view.read (Elt F) (m ((c : Thread nD τ).loc main_arg1))
def routeIn (c : Dev nD) : (cc0_stg2_0 : Ref sig .tc).ty.Contents (Elt F) :=
  (win0_2.blk (0 : Fin 1)).view.read (Elt F) (m ((c : Thread nD τ).loc main_arg2))
def expertIn (c : Dev nD) : (cc0_stg3_0 : Ref sig .tc).ty.Contents (Elt F) :=
  (win0_3.blk (0 : Fin 1)).view.read (Elt F) (m ((c : Thread nD τ).loc main_arg3))

/-! ## The values loaded from them -/

def ldX (c : Dev nD) : Vec F S1024x512 .f32 :=
  (Memref.whole cc0_stg0_0).view.readAt (Elt F) (Rect.unit (s := S1024x512) ![0, 0] S1024x512.size inb_S1024x512_S1024x512_0_0).toLoadRect (xIn m c)
def ldR (c : Dev nD) : Vec F S512x128 .f32 :=
  (Memref.whole cc0_stg1_0).view.readAt (Elt F) (Rect.unit (s := S512x128) ![0, 0] S512x128.size inb_S512x128_S512x128_0_0).toLoadRect (routerIn m c)
def ldI0 (c : Dev nD) : Vec F S1024x1 .i32 :=
  (Memref.whole cc0_stg2_0).view.readAt (Elt F) (Rect.unit (s := S1024x2) ![0, 0] S1024x1.size inb_S1024x2_S1024x1_0_0).toLoadRect (routeIn m c)
def ldI1 (c : Dev nD) : Vec F S1024x1 .i32 :=
  (Memref.whole cc0_stg2_0).view.readAt (Elt F) (Rect.unit (s := S1024x2) ![0, 1] S1024x1.size inb_S1024x2_S1024x1_0_1).toLoadRect (routeIn m c)

theorem ldE_inb (e : Fin 4) (h : Fin 2) : ∀ a, (![e.val, 0, 512 * h.val] : Fin 3 → ℕ) a + S1x512x512.size a ≤ S4x512x1024.size a := by
  revert e h; decide +kernel
/-- The half `h` of the columns of expert `e`'s weights. -/
def ldE (c : Dev nD) (e : Fin 4) (h : Fin 2) : Vec F S1x512x512 .f32 :=
  (Memref.whole cc0_stg3_0).view.readAt (Elt F) (Rect.unit (s := S4x512x1024) ![e.val, 0, 512 * h.val] S1x512x512.size (ldE_inb e h)).toLoadRect (expertIn m c)

/-! ## The device's own contribution -/

/-- The device's number, as the program computes it. -/
def devW (c : Dev nD) : BitVec 32 := Scalar.remsi (Scalar.divsi (Dev.word c) 1#32) 32#32

def vX (c : Dev nD) : FVec F S1024x512 .f32 := k0_pay1 (ldX m c)
def vExp (c : Dev nD) : FVec F S1024x128 .f32 := k0_pay2 (ldX m c) (ldR m c)
def vSum (c : Dev nD) : FVec F S1024x128 .f32 := k0_pay3 (ldX m c) (ldR m c)
def vI0 (c : Dev nD) : IVec S1024x1 32 := k0_pay5 (ldI0 m c)
def vI1 (c : Dev nD) : IVec S1024x1 32 := k0_pay6 (ldI1 m c)
def vW0 (c : Dev nD) : FVec F S1024x1 .f32 := k0_pay10 (vExp m c) (vSum m c) (ldI0 m c) (ldI1 m c)
def vW1 (c : Dev nD) : FVec F S1024x1 .f32 := k0_pay11 (vExp m c) (vSum m c) (ldI0 m c) (ldI1 m c)
def vC0 (c : Dev nD) : FVec F S1024x1 .f32 := k0_pay12 (devW c) (vExp m c) (vSum m c) (ldI0 m c) (ldI1 m c)
def vC1 (c : Dev nD) : FVec F S1024x1 .f32 := k0_pay13 (devW c) (vExp m c) (vSum m c) (ldI0 m c) (ldI1 m c)
def vX0 (c : Dev nD) : FVec F S1024x512 .f32 := k0_pay14 (vX m c) (vC0 m c)
def vX1 (c : Dev nD) : FVec F S1024x512 .f32 := k0_pay15 (vX m c) (vC1 m c)
def vX2 (c : Dev nD) : FVec F S1024x512 .f32 := k0_pay16 (devW c) (vX m c) (vI0 m c) (vI1 m c) (vW0 m c) (vW1 m c) 4#32
def vX3 (c : Dev nD) : FVec F S1024x512 .f32 := k0_pay17 (devW c) (vX m c) (vI0 m c) (vI1 m c) (vW0 m c) (vW1 m c)
def vA01 (c : Dev nD) : FVec F S1024x512 .f32 := k0_pay18 (vX m c) (vC0 m c) (vC1 m c) (ldE m c 0 0) (ldE m c 1 0)
def vE2 (c : Dev nD) : FVec F S512x512 .f32 := k0_pay19 (ldE m c 2 0)
def vB0 (c : Dev nD) : FVec F S1024x512 .f32 := k0_pay22 (vX0 m c) (ldE m c 0 1)

/-- The left half of its columns; -/
def halfA (c : Dev nD) : FVec F S1024x512 .f32 := k0_pay20 (vX2 m c) (vX3 m c) (vA01 m c) (vE2 m c) (ldE m c 3 0)
/-- the right half. -/
def halfB (c : Dev nD) : FVec F S1024x512 .f32 := k0_pay23 (vX1 m c) (vX2 m c) (vX3 m c) (vB0 m c) (ldE m c 1 1) (ldE m c 2 1) (ldE m c 3 1)

abbrev leftR : Rect S1024x1024 := Rect.unit (s := S1024x1024) ![0, 0] S1024x512.size inb_S1024x1024_S1024x512_0_0
abbrev rightR : Rect S1024x1024 := Rect.unit (s := S1024x1024) ![0, 512] S1024x512.size inb_S1024x1024_S1024x512_0_512

/-- The result buffer with the left half written; -/
def withLeft (c : Dev nD) (f : OutC F) : OutC F := (outM.access leftR).write (Elt F) f (halfA m c) Finset.univ
/-- with both. -/
def withBoth (c : Dev nD) (f : OutC F) : OutC F := (outM.access rightR).write (Elt F) (withLeft m c f) (halfB m c) Finset.univ

/-- The device's own contribution (both halves are written, so what the buffer held does not matter: `withBoth_eq`). -/
def outInit (c : Dev nD) : OutC F := withBoth m c (m ((c : Thread nD τ).loc cc0_stg4_0))

/-! ## The exchanges -/

theorem casts_self (k : Fin 20) : Shape.ShapeCasts (Sh k) (Sh k) := rfl

/-- The rows of the running result that exchange `k` reads; -/
def outRead (k : Fin 20) (c : Dev nD) (f : OutC F) : Vec F (Sh k) .f32 := outM.view.readAt (Elt F) (sendR k c).toLoadRect f
/-- rounded to 16 bits. -/
def cut (k : Fin 20) (v : Vec F (Sh k) .f32) : Vec F (Sh k) .bf16 :=
  shapeCast (Sh k) (truncf .bf16 (shapeCast (Sh k) v (casts_self k)) bitsLt_bf16_f32) (casts_self k)
/-- What the rows `v` of the running result become when `w` has arrived. -/
def merge (k : Fin 20) (v : Vec F (Sh k) .f32) (w : Vec F (Sh k) .bf16) : Vec F (Sh k) .f32 :=
  if k.val < 10 then addf (shapeCast (Sh k) v (casts_self k)) (extf .f32 w bitsLt_bf16_f32) else extf .f32 w bitsLt_bf16_f32
/-- The update of exchange `k` when `w` arrives. -/
def update (k : Fin 20) (c : Dev nD) (f : OutC F) (w : Vec F (Sh k) .bf16) : OutC F :=
  (outM.access (updR k c)).write (Elt F) f (merge k (outM.view.readAt (Elt F) (updR k c).toLoadRect f) w) Finset.univ

/-- Whether exchange `k` reads its rows before the update of the exchange just before it. -/
def early (k : ℕ) : Bool := match k with
  | 0 | 10 | 12 | 14 | 16 | 18 => false
  | _ => true

/-- The running result of every device before exchange `k`'s update, and before the one before. -/
def hist : ℕ → (Dev nD → OutC F) × (Dev nD → OutC F)
  | 0 => (outInit m, outInit m)
  | n + 1 =>
    let h := hist n
    (fun c => if hn : n < 20 then
        update ⟨n, hn⟩ c (h.1 c) (cut ⟨n, hn⟩ (outRead ⟨n, hn⟩ (peer ⟨n, hn⟩ c) ((if early n then h.2 else h.1) (peer ⟨n, hn⟩ c))))
      else h.1 c, h.1)

/-- The running result of device `c` after the updates of the first `n` exchanges. -/
def outAt (n : ℕ) (c : Dev nD) : OutC F := (hist m n).1 c

/-- The state of the running result that exchange `k` reads. -/
def readFrom (k : Fin 20) (c : Dev nD) : OutC F := (if early k.val then (hist m k.val).2 else (hist m k.val).1) c

/-- What device `c` sends in exchange `k`. -/
def sent (k : Fin 20) (c : Dev nD) : Vec F (Sh k) .bf16 := cut k (outRead k c (readFrom m k c))

theorem outAt_succ (k : Fin 20) (c : Dev nD) : outAt m (k.val + 1) c = update k c (outAt m k.val c) (sent m k (peer k c)) := by
  obtain ⟨n, hn⟩ := k
  show (if hn : n < 20 then _ else _) = _
  rw [dif_pos hn]; rfl

theorem outAt_zero (c : Dev nD) : outAt m 0 c = outInit m c := rfl

/-! ## Writing both halves leaves nothing of what was there -/

theorem out_set (r : Rect S1024x1024) : (outM.access r).set = r.set :=
  (View.set_slice outM.view r).trans Finset.map_refl

theorem mem_left {i : S1024x1024.Idx} : i ∈ (outM.access leftR).set ↔ (i 1 : ℕ) < 512 := by
  rw [out_set, Rect.mem_set_unit, Fin.forall_fin_two]
  have h0 := (i 0).isLt
  have h1 := (i 1).isLt
  constructor
  · rintro ⟨-, -, h⟩; simpa using h
  · intro h; exact ⟨⟨Nat.zero_le _, by simpa using h0⟩, Nat.zero_le _, by simpa using h⟩

theorem mem_right {i : S1024x1024.Idx} : i ∈ (outM.access rightR).set ↔ 512 ≤ (i 1 : ℕ) := by
  rw [out_set, Rect.mem_set_unit, Fin.forall_fin_two]
  have h0 := (i 0).isLt
  have h1 := (i 1).isLt
  constructor
  · rintro ⟨-, h, -⟩; simpa using h
  · intro h; exact ⟨⟨Nat.zero_le _, by simpa using h0⟩, by simpa using h, by simpa using h1⟩

theorem withLeft_eq (c : Dev nD) (f g : OutC F) (i : S1024x1024.Idx) (h : (i 1 : ℕ) < 512) : withLeft m c f i = withLeft m c g i := by
  obtain ⟨x, -, rfl⟩ := Finset.mem_map.mp (mem_left.mpr h)
  unfold withLeft
  rw [View.write_emb_of_mem _ _ (Finset.mem_univ x), View.write_emb_of_mem _ _ (Finset.mem_univ x)]

theorem withBoth_left (c : Dev nD) (f : OutC F) (i : S1024x1024.Idx) (h : (i 1 : ℕ) < 512) : withBoth m c f i = withLeft m c f i := by
  unfold withBoth
  exact View.write_of_not_mem _ _ _ fun hi => absurd (mem_right.mp hi) (by omega)

theorem withBoth_eq (c : Dev nD) (f g : OutC F) : withBoth m c f = withBoth m c g := by
  funext i
  by_cases h : (i 1 : ℕ) < 512
  · rw [withBoth_left m c f i h, withBoth_left m c g i h]; exact withLeft_eq m c f g i h
  · obtain ⟨x, -, rfl⟩ := Finset.mem_map.mp (mem_right.mpr (by omega : 512 ≤ (i 1 : ℕ)))
    unfold withBoth
    rw [View.write_emb_of_mem _ _ (Finset.mem_univ x), View.write_emb_of_mem _ _ (Finset.mem_univ x)]

/-- The first exchange reads the left half only: what it reads is there once that half is written. -/
theorem outRead_zero (c : Dev nD) (f : OutC F) : outRead 0 c (withLeft m c f) = outRead 0 c (outInit m c) := by
  unfold outRead
  rw [View.readAt_rect, View.readAt_rect]
  refine View.read_congr fun i hi => ?_
  have hi' : i ∈ (outM.access (sendR 0 c)).set := hi
  rw [out_set, Rect.mem_set_unit, Fin.forall_fin_two] at hi'
  have h : (i 1 : ℕ) < 512 := by
    have := hi'.2.2
    rw [sendOff_eq] at this
    simpa [col] using this
  unfold outInit
  rw [withBoth_left m c _ i h]
  exact withLeft_eq m c _ _ i h

end Cert.Moe
end
-- ==== Proof.Sched.lean ====
/-
# The protocol

Every device has one barrier cell and, per exchange, a cell that tells its own copy has left and one that tells the
partner's has arrived. The barrier cell has two rounds, each of five duties of one unit, one per partner. In round 0 a
partner's duty hands over the landing slots of the exchanges with that partner; round 1 hands over nothing. Each arrival
also tells that the sender has passed round 0 of its barrier, which is what the second round's duties need.
-/
module

public import proofs.«01_k».proof.Proof.Contents

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 5)
abbrev UU : Type := UR sig nD τ × UB

local notation "𝕄" => MT nD τ sig (Fin 2) (Elt F) ℕ UU ℕ

abbrev EP : Emb (UR sig nD τ) (MT nD τ sig (Fin 2) (Elt F) ℕ UU ℕ) := embL
abbrev ER : Emb UB (MT nD τ sig (Fin 2) (Elt F) ℕ UU ℕ) := embR

variable (m : (ℓ : Loc nD τ sig) → Buf (Elt F) ℓ)

/-! ## Cells -/

/-- A device's cells: the barrier, and per exchange the departure (`false`) and the arrival (`true`). -/
abbrev Cell : Type := Option (Bool × Fin 20)

def cellSem : Cell → SemLoc sig
  | none => .reg barS
  | some (false, k) => .dma (sendS k)
  | some (true, k) => .dma (recvS k)

abbrev kcell (x : Dev nD × Cell) : GSem nD τ sig := ((x.1 : Thread nD τ), cellSem x.2)
abbrev barCell (c : Dev nD) : GSem nD τ sig := ((c : Thread nD τ), .reg barS)
abbrev sendCell (k : Fin 20) (c : Dev nD) : GSem nD τ sig := ((c : Thread nD τ), .dma (sendS k))
abbrev recvCell (k : Fin 20) (c : Dev nD) : GSem nD τ sig := ((c : Thread nD τ), .dma (recvS k))

theorem cellSem_inj : Function.Injective cellSem := by
  rintro (_ | ⟨_ | _, k⟩) (_ | ⟨_ | _, k'⟩) h
  · rfl
  · cases h
  · cases h
  · cases h
  · have := congrArg which (SemLoc.dma.inj h); rw [which_send, which_send] at this; rw [this]
  · have := congrArg which (SemLoc.dma.inj h); rw [which_send, which_recv] at this; cases this
  · cases h
  · have := congrArg which (SemLoc.dma.inj h); rw [which_send, which_recv] at this; cases this
  · have := congrArg which (SemLoc.dma.inj h); rw [which_recv, which_recv] at this; rw [this]

/-- What exchange `k` credits a transfer semaphore with. -/
abbrev credit (k : Fin 20) : ℕ := (landM k).view.dmaCredit
theorem credit_pos (k : Fin 20) : 0 < credit k := View.dmaCredit_pos _ (by revert k; decide +kernel)
theorem credit_stage (k : Fin 20) : (stageM k).view.dmaCredit = credit k := by fin_cases k <;> rfl

/-! ## Payloads -/

/-- Device `c`'s landing slot of exchange `k`, holding anything; -/
def landAny (c : Dev nD) (k : Fin 20) : sProp 𝕄 := iprop(∃ X, owns (c : Thread nD τ) (landM k) fullShare X)
/-- its staging slot. -/
def stageAny (c : Dev nD) (k : Fin 20) : sProp 𝕄 := iprop(∃ X, owns (c : Thread nD τ) (stageM k) fullShare X)
/-- The staging slot holding what exchange `k` sends; -/
def stageSent (c : Dev nD) (k : Fin 20) : sProp 𝕄 := owns (c : Thread nD τ) (stageM k) fullShare (sent m k c)
/-- the landing slot holding what the partner sent. -/
def landSent (c : Dev nD) (k : Fin 20) : sProp 𝕄 := owns (c : Thread nD τ) (landM k) fullShare (sent m k (peer k c))

instance landAny_storable (c : Dev nD) (k) : BI.Storable (upEmb : UEmb _ 𝕄) (landAny (F := F) c k) := by unfold landAny owns; infer_instance
instance stageAny_storable (c : Dev nD) (k) : BI.Storable (upEmb : UEmb _ 𝕄) (stageAny (F := F) c k) := by unfold stageAny owns; infer_instance
instance stageSent_storable (c : Dev nD) (k) : BI.Storable (upEmb : UEmb _ 𝕄) (stageSent m c k) := by unfold stageSent owns; infer_instance
instance landSent_storable (c : Dev nD) (k) : BI.Storable (upEmb : UEmb _ 𝕄) (landSent m c k) := by unfold landSent owns; infer_instance

/-- What partner `i`'s signal hands device `c` in round 0: the partner's landing slots of the exchanges with it. -/
def barPay (c : Dev nD) (i : Fin 5) : sProp 𝕄 := bigSep (Finset.univ.filter fun k => way k = i) fun k => landAny (flip i c) k
/-- What an arrival hands over. -/
def recvPay (c : Dev nD) (k : Fin 20) : sProp 𝕄 := iprop(landSent m c k ∗ reached ER (barCell (peer k c)) 1)

instance barPay_storable (c : Dev nD) (i) : BI.Storable (upEmb : UEmb _ 𝕄) (barPay (F := F) c i) := by unfold barPay; infer_instance
instance recvPay_storable (c : Dev nD) (k) : BI.Storable (upEmb : UEmb _ 𝕄) (recvPay m c k) := by unfold recvPay; infer_instance

/-! ## The schedule -/

def isOurs (q : DmaSem sig) : Prop := (which q).isSome = true
instance : DecidablePred isOurs := fun q => inferInstanceAs (Decidable (_ = true))

def moeDuties (g : GSem nD τ sig) (r : ℕ) : Finset (Fin 5) :=
  if g.1.2 = .tc then
    match g.2 with
    | .reg s => if s = barS ∧ r < 2 then Finset.univ else ∅
    | .dma q => if isOurs q ∧ r = 0 then {0} else ∅
  else ∅

def moeAmount (g : GSem nD τ sig) : ℕ := match g.2 with
  | .reg _ => 1
  | .dma q => match which q with
    | some (_, k) => credit k
    | none => 1

def moePay (g : GSem nD τ sig) (r : ℕ) (i : Fin 5) : sProp 𝕄 := match g.2 with
  | .reg _ => if r = 0 then barPay g.1.1 i else iprop(emp)
  | .dma q => match which q with
    | some (false, k) => stageSent m g.1.1 k
    | some (true, k) => recvPay m g.1.1 k
    | none => iprop(emp)

def moeRd : Rounds.Schedule (GSem nD τ sig) (Fin 5) 𝕄 where
  duties := moeDuties
  unitless _ := False
  amount g _ _ := moeAmount g
  payload := moePay m
  amount_pos g _ _ _ := by
    unfold moeAmount
    split
    · exact Nat.one_pos
    · split
      · exact credit_pos _
      · exact Nat.one_pos

instance moeRd_payload_storable (g : GSem nD τ sig) (r : ℕ) (d : Fin 5) :
    BI.Storable (upEmb : UEmb _ 𝕄) ((moeRd m).payload g r d) := by
  show BI.Storable upEmb (moePay m g r d)
  unfold moePay
  (repeat' split) <;> infer_instance

section Tables
variable (c : Dev nD) (k : Fin 20)

theorem duties_eq (g : GSem nD τ sig) (r : ℕ) : (moeRd m).duties g r = moeDuties g r := rfl
theorem amount_eq (g : GSem nD τ sig) (r : ℕ) (i : Fin 5) : (moeRd m).amount g r i = moeAmount g := rfl
theorem payload_eq (g : GSem nD τ sig) (r : ℕ) (i : Fin 5) : (moeRd m).payload g r i = moePay m g r i := rfl

theorem duties_bar (r : ℕ) (h : r < 2) : (moeRd m).duties (barCell c) r = Finset.univ := by
  rw [duties_eq]; unfold moeDuties; rw [if_pos rfl]; exact if_pos ⟨rfl, h⟩
theorem duties_send : (moeRd m).duties (sendCell k c) 0 = {0} := by
  rw [duties_eq]; unfold moeDuties; rw [if_pos rfl]; exact if_pos ⟨by unfold isOurs; rw [which_send]; rfl, rfl⟩
theorem duties_recv : (moeRd m).duties (recvCell k c) 0 = {0} := by
  rw [duties_eq]; unfold moeDuties; rw [if_pos rfl]; exact if_pos ⟨by unfold isOurs; rw [which_recv]; rfl, rfl⟩
theorem duties_bar_later : ∀ r, 2 ≤ r → (moeRd m).duties (barCell c) r = ∅ := fun r hr => by
  rw [duties_eq]; unfold moeDuties; rw [if_pos rfl]; exact if_neg fun h => by omega
theorem duties_dma_later (q : DmaSem sig) : ∀ r, 1 ≤ r → (moeRd m).duties ((c : Thread nD τ), .dma q) r = ∅ := fun r hr => by
  rw [duties_eq]; unfold moeDuties; rw [if_pos rfl]; exact if_neg fun h => by omega

theorem amount_bar (r : ℕ) (i : Fin 5) : (moeRd m).amount (barCell c) r i = 1 := rfl
theorem amount_send (r : ℕ) (i : Fin 5) : (moeRd m).amount (sendCell k c) r i = credit k := by
  rw [amount_eq]; unfold moeAmount; simp only [which_send]
theorem amount_recv (r : ℕ) (i : Fin 5) : (moeRd m).amount (recvCell k c) r i = credit k := by
  rw [amount_eq]; unfold moeAmount; simp only [which_recv]

theorem expect_bar (r : ℕ) (h : r < 2) : (moeRd m).expect (barCell c) r = 5 := by
  unfold Schedule.expect Schedule.amountOf
  rw [duties_bar m c r h, Finset.sum_congr rfl fun d _ => amount_bar m c r d, Finset.sum_const, Finset.card_univ, Fintype.card_fin, smul_eq_mul]
theorem expect_send : (moeRd m).expect (sendCell k c) 0 = credit k := by
  unfold Schedule.expect Schedule.amountOf; rw [duties_send, Finset.sum_singleton, amount_send]
theorem expect_recv : (moeRd m).expect (recvCell k c) 0 = credit k := by
  unfold Schedule.expect Schedule.amountOf; rw [duties_recv, Finset.sum_singleton, amount_recv]

theorem payload_bar_zero (i : Fin 5) : (moeRd m).payload (barCell c) 0 i = barPay c i := rfl
theorem payload_bar_one (i : Fin 5) : (moeRd m).payload (barCell c) 1 i = iprop(emp) := rfl
theorem payload_send (r : ℕ) (i : Fin 5) : (moeRd m).payload (sendCell k c) r i = stageSent m c k := by
  rw [payload_eq]; unfold moePay; simp only [which_send]
theorem payload_recv (r : ℕ) (i : Fin 5) : (moeRd m).payload (recvCell k c) r i = recvPay m c k := by
  rw [payload_eq]; unfold moePay; simp only [which_recv]

theorem rest_bar_zero : bigSep ((moeRd m).duties (barCell c) 0 \ ∅) (fun d => (moeRd m).payload (barCell c) 0 d)
    = bigSep Finset.univ fun i => barPay c i := by
  rw [Finset.sdiff_empty, duties_bar m c 0 (by decide)]; rfl
theorem rest_send : bigSep ((moeRd m).duties (sendCell k c) 0 \ ∅) (fun d => (moeRd m).payload (sendCell k c) 0 d) = stageSent m c k := by
  rw [Finset.sdiff_empty, duties_send, bigSep_singleton, payload_send]
theorem rest_recv : bigSep ((moeRd m).duties (recvCell k c) 0 \ ∅) (fun d => (moeRd m).payload (recvCell k c) 0 d) = recvPay m c k := by
  rw [Finset.sdiff_empty, duties_recv, bigSep_singleton, payload_recv]

end Tables

/-! ## Levels and debts -/

def L (g : GSem nD τ sig) : Finset (Fin 2) := if g.1.2 = .tc then Finset.univ else ∅

/-- The staging cells lie lowest, then the barrier's first round, the reduce-scatter's arrivals in order, the barrier's
    second round, the all-gather's arrivals in order. -/
def lv (g : GSem nD τ sig) (ι : Fin 2) : ℕ := match g.2 with
  | .reg _ => if ι = 0 then 1 else 12
  | .dma q => match which q with
    | some (true, k) => if k.val < 10 then 2 + k.val else 3 + k.val
    | _ => 0

theorem L_of_ne (g : GSem nD τ sig) (h : g.1.2 ≠ .tc) : L g = ∅ := if_neg h
theorem mem_L (c : Dev nD) (sm : SemLoc sig) (ι : Fin 2) : ι ∈ L ((c : Thread nD τ), sm) := by
  rw [show L ((c : Thread nD τ), sm) = Finset.univ from if_pos rfl]; exact Finset.mem_univ _

theorem lv_bar (c : Dev nD) (ι : Fin 2) : lv (barCell c) ι = if ι = 0 then 1 else 12 := rfl
theorem lv_recv (c : Dev nD) (k : Fin 20) (ι : Fin 2) : lv (recvCell k c) ι = if k.val < 10 then 2 + k.val else 3 + k.val := by
  unfold lv; simp only [which_recv]
theorem lv_send (c : Dev nD) (k : Fin 20) (ι : Fin 2) : lv (sendCell k c) ι = 0 := by
  unfold lv; simp only [which_send]

/-- The arrivals that device `c` still owes from exchange `j` on; -/
def owedX (c : Dev nD) (j : ℕ) : CellTallies nD τ sig (Fin 2) :=
  ∑ k ∈ Finset.univ.filter (fun k : Fin 20 => j ≤ k.val), tallyAt (recvCell k (peer k c)) 0 (credit k)
/-- the barrier units of round `r` that it still owes from partner `j` on. -/
def owedB (r : Fin 2) (c : Dev nD) (j : ℕ) : CellTallies nD τ sig (Fin 2) :=
  ∑ i ∈ Finset.univ.filter (fun i : Fin 5 => j ≤ i.val), tallyAt (barCell (flip i c)) r 1

theorem filter_step {n : ℕ} (k : Fin n) : Finset.univ.filter (fun i : Fin n => k.val ≤ i.val)
    = insert k (Finset.univ.filter fun i : Fin n => k.val + 1 ≤ i.val) := by
  ext i; simp only [Finset.mem_filter, Finset.mem_univ, true_and, Finset.mem_insert]
  constructor
  · intro h; by_cases hik : i = k
    · exact .inl hik
    · exact .inr (Nat.lt_of_le_of_ne h fun h' => hik (Fin.ext h'.symm))
  · rintro (rfl | h)
    · exact le_rfl
    · omega
theorem filter_fresh {n : ℕ} (k : Fin n) : k ∉ Finset.univ.filter fun i : Fin n => k.val + 1 ≤ i.val := by
  simp
theorem filter_end {n : ℕ} : Finset.univ.filter (fun i : Fin n => n ≤ i.val) = ∅ :=
  Finset.filter_eq_empty_iff.mpr fun i _ => by have := i.isLt; omega

theorem owedX_step (c : Dev nD) (k : Fin 20) : owedX c k.val = owedX c (k.val + 1) + tallyAt (recvCell k (peer k c)) 0 (credit k) := by
  unfold owedX; rw [filter_step, Finset.sum_insert (filter_fresh k), add_comm]
theorem owedB_step (r : Fin 2) (c : Dev nD) (i : Fin 5) : owedB r c i.val = owedB r c (i.val + 1) + tallyAt (barCell (flip i c)) r 1 := by
  unfold owedB; rw [filter_step, Finset.sum_insert (filter_fresh i), add_comm]
theorem owedX_end (c : Dev nD) : owedX c 20 = 0 := by unfold owedX; rw [filter_end, Finset.sum_empty]
theorem owedB_end (r : Fin 2) (c : Dev nD) : owedB r c 5 = 0 := by unfold owedB; rw [filter_end, Finset.sum_empty]

theorem sum_pos {α : Type} [DecidableEq α] {s : Finset α} {f : α → CellTallies nD τ sig (Fin 2)} {g : GSem nD τ sig} {ι : Fin 2}
    (h : 0 < (∑ a ∈ s, f a) g ι) : ∃ a ∈ s, 0 < f a g ι := by
  by_contra hn
  push Not at hn
  rw [Finset.sum_apply, Finsupp.finset_sum_apply] at h
  exact absurd (Finset.sum_eq_zero fun a ha => Nat.le_zero.mp (hn a ha)) (by omega)

theorem tallyAt_pos {g g' : GSem nD τ sig} {ι ι' : Fin 2} {n : ℕ} (h : 0 < (tallyAt g ι n : CellTallies nD τ sig (Fin 2)) g' ι') :
    g' = g ∧ ι' = ι := by
  rw [tallyAt_apply] at h
  by_contra hn
  rw [if_neg hn] at h
  exact Nat.lt_irrefl 0 h

theorem owedX_pos {c : Dev nD} {j : ℕ} {g : GSem nD τ sig} {ι : Fin 2} (h : 0 < owedX c j g ι) :
    ∃ k : Fin 20, j ≤ k.val ∧ g = recvCell k (peer k c) := by
  obtain ⟨k, hk, hp⟩ := sum_pos h
  exact ⟨k, (Finset.mem_filter.mp hk).2, (tallyAt_pos hp).1⟩
theorem owedB_pos {r : Fin 2} {c : Dev nD} {j : ℕ} {g : GSem nD τ sig} {ι : Fin 2} (h : 0 < owedB r c j g ι) :
    ∃ i : Fin 5, j ≤ i.val ∧ g = barCell (flip i c) ∧ ι = r := by
  obtain ⟨i, hi, hp⟩ := sum_pos h
  exact ⟨i, (Finset.mem_filter.mp hi).2, (tallyAt_pos hp).1, (tallyAt_pos hp).2⟩

/-- What device `c` owes when it has started `n` exchanges and signalled `b` partners in round 1; -/
def owedAt (c : Dev nD) (n b : ℕ) : CellTallies nD τ sig (Fin 2) := owedX c n + owedB 1 c b
/-- at launch. -/
def O₀ (c : Dev nD) : CellTallies nD τ sig (Fin 2) := owedAt c 0 0 + owedB 0 c 0

theorem add_pos_cases {A B : CellTallies nD τ sig (Fin 2)} {g : GSem nD τ sig} {ι : Fin 2} (h : 0 < (A + B) g ι) : 0 < A g ι ∨ 0 < B g ι := by
  rw [Pi.add_apply, Finsupp.add_apply] at h; omega

theorem owedAt_pos {c : Dev nD} {n b : ℕ} {g : GSem nD τ sig} {ι : Fin 2} (h : 0 < owedAt c n b g ι) :
    (∃ k : Fin 20, n ≤ k.val ∧ g = recvCell k (peer k c)) ∨ (∃ i : Fin 5, b ≤ i.val ∧ g = barCell (flip i c) ∧ ι = 1) := by
  rcases add_pos_cases h with h | h
  · exact .inl (owedX_pos h)
  · exact .inr (owedB_pos h)

theorem owedAt_L {c : Dev nD} {n b : ℕ} {g : GSem nD τ sig} {ι : Fin 2} (h : 0 < owedAt c n b g ι) : ι ∈ L g := by
  rcases owedAt_pos h with ⟨k, -, rfl⟩ | ⟨i, -, rfl, -⟩ <;> exact mem_L _ _ _

/-- The first barrier wait lies below everything that is owed then. -/
theorem mayWait_bar0 (c : Dev nD) : (levAts L lv : sProp 𝕄) ⊢ MayWait (c : Thread nD τ) (.reg barS) 0 (owedAt c 0 0) :=
  MayOwe.of_cut (L := L) (lev := lv) 1 (fun p hp => mem_L _ _ _) (fun g u hg => owedAt_L hg)
    (fun p hp => by rw [Finset.mem_singleton.mp hp]; exact le_rfl)
    (fun g u hg => by
      rcases owedAt_pos hg with ⟨k, -, rfl⟩ | ⟨i, -, rfl, rfl⟩
      · rw [lv_recv]; split <;> omega
      · rw [lv_bar, if_neg (by decide)]; omega)

/-- The second lies below the all-gather's arrivals. -/
theorem mayWait_bar1 (c : Dev nD) : (levAts L lv : sProp 𝕄) ⊢ MayWait (c : Thread nD τ) (.reg barS) 1 (owedAt c 10 5) :=
  MayOwe.of_cut (L := L) (lev := lv) 12 (fun p hp => mem_L _ _ _) (fun g u hg => owedAt_L hg)
    (fun p hp => by rw [Finset.mem_singleton.mp hp]; exact le_rfl)
    (fun g u hg => by
      rcases owedAt_pos hg with ⟨k, hk, rfl⟩ | ⟨i, hi, -⟩
      · rw [lv_recv, if_neg (by omega)]; omega
      · exact absurd i.isLt (by omega))

/-- An arrival lies below those of the later exchanges, and a reduce-scatter arrival below the barrier's second round. -/
theorem mayWait_recv (c : Dev nD) (k : Fin 20) (n b : ℕ) (hn : k.val < n) (hb : k.val < 10 ∨ 5 ≤ b) :
    (levAts L lv : sProp 𝕄) ⊢ MayWait (c : Thread nD τ) (.dma (recvS k)) 0 (owedAt c n b) :=
  MayOwe.of_cut (L := L) (lev := lv) (lv (recvCell k c) 0) (fun p hp => mem_L _ _ _) (fun g u hg => owedAt_L hg)
    (fun p hp => by rw [Finset.mem_singleton.mp hp])
    (fun g u hg => by
      rcases owedAt_pos hg with ⟨k', hk', rfl⟩ | ⟨i, hi, rfl, rfl⟩
      · rw [lv_recv, lv_recv]; split <;> split <;> omega
      · rw [lv_recv, lv_bar, if_neg (by decide : ¬ (1 : Fin 2) = 0)]
        have := i.isLt
        split <;> omega)

theorem O₀_pos {c : Dev nD} {g : GSem nD τ sig} {ι : Fin 2} (h : 0 < O₀ c g ι) :
    (∃ k : Fin 20, g = recvCell k (peer k c)) ∨ (∃ i : Fin 5, g = barCell (flip i c)) := by
  rcases add_pos_cases h with h | h
  · rcases owedAt_pos h with ⟨k, -, h⟩ | ⟨i, -, h, -⟩
    · exact .inl ⟨k, h⟩
    · exact .inr ⟨i, h⟩
  · obtain ⟨i, -, h, -⟩ := owedB_pos h; exact .inr ⟨i, h⟩

/-- A wait on a staging cell lies below all of them. -/
theorem mayWait_stage (c : Dev nD) (q : DmaSem sig) (hq : which q = none) (O : CellTallies nD τ sig (Fin 2)) (hO : O = O₀ c ∨ O = 0) :
    (levAts L lv : sProp 𝕄) ⊢ MayWait (c : Thread nD τ) (.dma q) 0 O := by
  rcases hO with rfl | rfl
  · refine MayOwe.of_cut (L := L) (lev := lv) 0 (fun p hp => mem_L _ _ _)
      (fun g u hg => by rcases O₀_pos hg with ⟨k, rfl⟩ | ⟨i, rfl⟩ <;> exact mem_L _ _ _)
      (fun p hp => by rw [Finset.mem_singleton.mp hp]; unfold lv; simp only [hq]; exact le_rfl)
      (fun g u hg => by
        rcases O₀_pos hg with ⟨k, rfl⟩ | ⟨i, rfl⟩
        · rw [lv_recv]; split <;> omega
        · rw [lv_bar]; split <;> omega)
  · rw [MayWait_zero]; iintro -; iempintro

end Cert.Moe
end
-- ==== Proof.Slots.lean ====
/-
# The slots of the scratch buffers

Each scratch buffer is five slots and what they leave of it.
-/
module

public import Idealize.ShloMosaic.Lib.Ring.FamCut
public import proofs.«01_k».proof.Proof.Sched

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (Fin 2) (Elt F) ℕ UU ℕ

variable (m : (ℓ : Loc nD τ sig) → Buf (Elt F) ℓ) (K : Dev nD × Cell → ℕ) (c : Dev nD)

/-- The `i`-th exchange of the group `g`: the exchanges of one half of the columns, of one of the two passes. -/
def ofGroup (p : Fin 4 × Fin 5) : Fin 20 := ⟨10 * (p.1.val / 2) + p.1.val % 2 + 2 * p.2.val, by omega⟩
theorem ofGroup_bij : Function.Bijective ofGroup := by decide +kernel
def groups : Fin 4 × Fin 5 ≃ Fin 20 := Equiv.ofBijective ofGroup ofGroup_bij

theorem slots_apart (g : Fin 4) (i j : Fin 5) (h : i ≠ j) :
    slotRow (ofGroup (g, i)) + rows (ofGroup (g, i)) ≤ slotRow (ofGroup (g, j)) ∨ slotRow (ofGroup (g, j)) + rows (ofGroup (g, j)) ≤ slotRow (ofGroup (g, i)) := by
  revert g i j h; decide +kernel

/-- The buffer's elements in the `i`-th slot of group `g`. -/
def slotSet (M : Memref sig .tc .vmem S992x512 .bf16) (c : Dev nD) (g : Fin 4) (i : Fin 5) : Finset (Idx (M.view.loc (c : Thread nD τ))) :=
  (M.slice (slotR (ofGroup (g, i))) (fun _ => rfl)).view.set

theorem slotSet_apart (M : Memref sig .tc .vmem S992x512 .bf16) (c : Dev nD) (g : Fin 4) (i j : Fin 5) (h : i ≠ j) :
    Disjoint (slotSet M c g i) (slotSet M c g j) := by
  unfold slotSet
  have e : ∀ k, ((M.slice (slotR k) (fun _ => rfl)).view.set : Finset _) = (slotR k).set.map M.view.emb := fun k => View.set_slice M.view (slotR k)
  rw [e, e, Finset.disjoint_map]
  exact Rect.unit_disjoint (0 : Fin 2) (slots_apart g i j h)

/-- A slot of a scratch buffer, holding anything. -/
def slotAny (M : Memref sig .tc .vmem S992x512 .bf16) (c : Dev nD) (k : Fin 20) : sProp 𝕄 :=
  iprop(∃ X, owns (c : Thread nD τ) (M.slice (slotR k) (fun _ => rfl)) fullShare X)

/-- What the slots leave of the buffer. -/
def slotRest (M : Memref sig .tc .vmem S992x512 .bf16) (c : Dev nD) (g : Fin 4) : sProp 𝕄 :=
  iprop(∃ f : Buf (Elt F) (M.view.loc (c : Thread nD τ)), M.view.loc (c : Thread nD τ) ↦[Ring.restOf (slotSet M c g)]{fullShare} f)

/-- The same by its elements. -/
def slotPts (M : Memref sig .tc .vmem S992x512 .bf16) (c : Dev nD) (g : Fin 4) (i : Fin 5) : sProp 𝕄 :=
  iprop(∃ f : Buf (Elt F) (M.view.loc (c : Thread nD τ)), M.view.loc (c : Thread nD τ) ↦[slotSet M c g i]{fullShare} f)

theorem slot_open (M : Memref sig .tc .vmem S992x512 .bf16) (c : Dev nD) (g : Fin 4) (i : Fin 5) :
    slotAny (F := F) M c (ofGroup (g, i)) ⊢ slotPts M c g i := by
  unfold slotAny owns slotPts slotSet
  iintro ⟨%X, %f, -, H⟩
  iexists f; iexact H
theorem slot_close (M : Memref sig .tc .vmem S992x512 .bf16) (c : Dev nD) (g : Fin 4) (i : Fin 5) :
    slotPts (F := F) M c g i ⊢ slotAny M c (ofGroup (g, i)) := by
  unfold slotAny owns slotPts slotSet
  iintro ⟨%f, H⟩
  iexists _; iexists f
  isplitr; · (ipureintro; rfl)
  iexact H
theorem slots_open (M : Memref sig .tc .vmem S992x512 .bf16) (c : Dev nD) (g : Fin 4) :
    (bigSep Finset.univ fun i : Fin 5 => slotAny (F := F) M c (ofGroup (g, i))) ⊢ bigSep Finset.univ fun i : Fin 5 => slotPts M c g i :=
  bigSep_mono fun i _ => slot_open M c g i
theorem slots_close (M : Memref sig .tc .vmem S992x512 .bf16) (c : Dev nD) (g : Fin 4) :
    (bigSep Finset.univ fun i : Fin 5 => slotPts (F := F) M c g i) ⊢ bigSep Finset.univ fun i : Fin 5 => slotAny M c (ofGroup (g, i)) :=
  bigSep_mono fun i _ => slot_close M c g i

theorem buf_cut (M : Memref sig .tc .vmem S992x512 .bf16) (c : Dev nD) (g : Fin 4) :
    iprop(∃ f : Buf (Elt F) (M.view.loc (c : Thread nD τ)), M.view.loc (c : Thread nD τ) ↦{fullShare} f)
      ⊢ iprop((bigSep Finset.univ fun i : Fin 5 => slotAny M c (ofGroup (g, i))) ∗ slotRest (F := F) M c g) := by
  iintro H
  ihave H := (Ring.fam_split_ex (slotSet M c g) (slotSet_apart M c g)) $$ H
  icases H with ⟨H, Hr⟩
  isplitl [H]
  · iapply (slots_close (F := F) M c g); unfold slotPts; iexact H
  unfold slotRest; iexact Hr

theorem buf_join (M : Memref sig .tc .vmem S992x512 .bf16) (c : Dev nD) (g : Fin 4) :
    iprop((bigSep Finset.univ fun i : Fin 5 => slotAny M c (ofGroup (g, i))) ∗ slotRest (F := F) M c g)
      ⊢ iprop(∃ f : Buf (Elt F) (M.view.loc (c : Thread nD τ)), M.view.loc (c : Thread nD τ) ↦{fullShare} f) := by
  unfold slotRest
  iintro ⟨H, ⟨%f, Hf⟩⟩
  ihave H := (slots_open (F := F) M c g) $$ H
  unfold slotPts
  iapply (Ring.fam_join (slotSet M c g) (slotSet_apart M c g) f)
  isplitl [H]; · iexact H
  iexists f; iexact Hf

abbrev stageBuf (g : Fin 4) : Memref sig .tc .vmem S992x512 .bf16 := match g with
  | 0 => Memref.whole cc0_scratch0 | 1 => Memref.whole cc0_scratch1 | 2 => Memref.whole cc0_scratch4 | 3 => Memref.whole cc0_scratch5
abbrev landBuf (g : Fin 4) : Memref sig .tc .vmem S992x512 .bf16 := match g with
  | 0 => Memref.whole cc0_scratch2 | 1 => Memref.whole cc0_scratch3 | 2 => Memref.whole cc0_scratch6 | 3 => Memref.whole cc0_scratch7

theorem stage_group (c : Dev nD) (g : Fin 4) (i : Fin 5) : (stageAny c (ofGroup (g, i)) : sProp 𝕄) = slotAny (stageBuf g) c (ofGroup (g, i)) := by
  fin_cases g <;> fin_cases i <;> rfl
theorem land_group (c : Dev nD) (g : Fin 4) (i : Fin 5) : (landAny c (ofGroup (g, i)) : sProp 𝕄) = slotAny (landBuf g) c (ofGroup (g, i)) := by
  fin_cases g <;> fin_cases i <;> rfl

theorem in_groups (Φ : Fin 20 → sProp 𝕄) : bigSep Finset.univ Φ = iprop((bigSep Finset.univ fun i : Fin 5 => Φ (ofGroup (0, i)))
    ∗ (bigSep Finset.univ fun i : Fin 5 => Φ (ofGroup (1, i))) ∗ (bigSep Finset.univ fun i : Fin 5 => Φ (ofGroup (2, i)))
    ∗ (bigSep Finset.univ fun i : Fin 5 => Φ (ofGroup (3, i)))) := by
  rw [bigSep_univ_equiv groups, bigSep_univ_prod, bigSep_univ_eq_bigSepL [(0 : Fin 4), 1, 2, 3] (by decide) (by decide)]
  rfl

/-- The scratch buffers, whole; -/
def scratch (c : Dev nD) : sProp 𝕄 :=
  iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ (∃ f : Buf (Elt F) ((c : Thread nD τ).loc cc0_scratch4), ((c : Thread nD τ).loc cc0_scratch4) ↦{fullShare} f) ∗ (∃ f : Buf (Elt F) ((c : Thread nD τ).loc cc0_scratch5), ((c : Thread nD τ).loc cc0_scratch5) ↦{fullShare} f) ∗ (∃ f : Buf (Elt F) ((c : Thread nD τ).loc cc0_scratch6), ((c : Thread nD τ).loc cc0_scratch6) ↦{fullShare} f) ∗ (∃ f : Buf (Elt F) ((c : Thread nD τ).loc cc0_scratch7), ((c : Thread nD τ).loc cc0_scratch7) ↦{fullShare} f))
/-- what the slots leave of them. -/
def scratchRest (c : Dev nD) : sProp 𝕄 :=
  iprop(slotRest (F := F) (stageBuf 0) c 0 ∗ slotRest (F := F) (stageBuf 1) c 1 ∗ slotRest (F := F) (stageBuf 2) c 2 ∗ slotRest (F := F) (stageBuf 3) c 3
    ∗ slotRest (F := F) (landBuf 0) c 0 ∗ slotRest (F := F) (landBuf 1) c 1 ∗ slotRest (F := F) (landBuf 2) c 2 ∗ slotRest (F := F) (landBuf 3) c 3)

theorem scratch_cut (c : Dev nD) : scratch (F := F) c
    ⊢ iprop((bigSep Finset.univ fun k => stageAny c k) ∗ (bigSep Finset.univ fun k => landAny c k) ∗ scratchRest c) := by
  unfold scratch scratchRest
  rw [in_groups (fun k => stageAny c k), in_groups (fun k => landAny c k)]
  simp only [stage_group, land_group]
  iintro ⟨H0, H1, H2, H3, H4, H5, H6, H7⟩
  ihave H0 := (buf_cut (F := F) (stageBuf 0) c 0) $$ H0
  icases H0 with ⟨S0, R0⟩
  ihave H1 := (buf_cut (F := F) (stageBuf 1) c 1) $$ H1
  icases H1 with ⟨S1, R1⟩
  ihave H2 := (buf_cut (F := F) (landBuf 0) c 0) $$ H2
  icases H2 with ⟨S2, R2⟩
  ihave H3 := (buf_cut (F := F) (landBuf 1) c 1) $$ H3
  icases H3 with ⟨S3, R3⟩
  ihave H4 := (buf_cut (F := F) (stageBuf 2) c 2) $$ H4
  icases H4 with ⟨S4, R4⟩
  ihave H5 := (buf_cut (F := F) (stageBuf 3) c 3) $$ H5
  icases H5 with ⟨S5, R5⟩
  ihave H6 := (buf_cut (F := F) (landBuf 2) c 2) $$ H6
  icases H6 with ⟨S6, R6⟩
  ihave H7 := (buf_cut (F := F) (landBuf 3) c 3) $$ H7
  icases H7 with ⟨S7, R7⟩
  isplitl [S0 S1 S4 S5]
  · isplitl [S0]; · iexact S0
    isplitl [S1]; · iexact S1
    isplitl [S4]; · iexact S4
    iexact S5
  isplitl [S2 S3 S6 S7]
  · isplitl [S2]; · iexact S2
    isplitl [S3]; · iexact S3
    isplitl [S6]; · iexact S6
    iexact S7
  isplitl [R0]; · iexact R0
  isplitl [R1]; · iexact R1
  isplitl [R4]; · iexact R4
  isplitl [R5]; · iexact R5
  isplitl [R2]; · iexact R2
  isplitl [R3]; · iexact R3
  isplitl [R6]; · iexact R6
  iexact R7

theorem scratch_join (c : Dev nD) : iprop((bigSep Finset.univ fun k => stageAny c k) ∗ (bigSep Finset.univ fun k => landAny c k) ∗ scratchRest c)
    ⊢ scratch (F := F) c := by
  unfold scratch scratchRest
  rw [in_groups (fun k => stageAny c k), in_groups (fun k => landAny c k)]
  simp only [stage_group, land_group]
  iintro ⟨⟨S0, S1, S4, S5⟩, ⟨S2, S3, S6, S7⟩, R0, R1, R4, R5, R2, R3, R6, R7⟩
  isplitl [S0 R0]
  · iapply (buf_join (F := F) (stageBuf 0) c 0); isplitl [S0] <;> iassumption
  isplitl [S1 R1]
  · iapply (buf_join (F := F) (stageBuf 1) c 1); isplitl [S1] <;> iassumption
  isplitl [S2 R2]
  · iapply (buf_join (F := F) (landBuf 0) c 0); isplitl [S2] <;> iassumption
  isplitl [S3 R3]
  · iapply (buf_join (F := F) (landBuf 1) c 1); isplitl [S3] <;> iassumption
  isplitl [S4 R4]
  · iapply (buf_join (F := F) (stageBuf 2) c 2); isplitl [S4] <;> iassumption
  isplitl [S5 R5]
  · iapply (buf_join (F := F) (stageBuf 3) c 3); isplitl [S5] <;> iassumption
  isplitl [S6 R6]
  · iapply (buf_join (F := F) (landBuf 2) c 2); isplitl [S6] <;> iassumption
  iapply (buf_join (F := F) (landBuf 3) c 3); isplitl [S7] <;> iassumption

end Cert.Moe
end
-- ==== Proof.Steps.lean ====
/-
# One rule per effect

The state of a device between the two ends of the kernel's body is given by five counters: how many exchanges have had
their slot filled, have been started, have arrived, have been seen to leave, and how far the second round of the barrier
has gone. Each rule moves one counter on.
-/
module

public import proofs.«01_k».proof.Proof.Sched

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (Fin 2) (Elt F) ℕ UU ℕ

abbrev 𝒱₀ : Variants := Variants.none

variable (m : (ℓ : Loc nD τ sig) → Buf (Elt F) ℓ) (K : Dev nD × Cell → ℕ)

/-! ## The state -/

/-- What every device may use again and again: all cells' invariants, and that every cell has reached round 0. -/
def records : sProp 𝕄 :=
  iprop((bigSep Finset.univ fun x : Dev nD × Cell => cellInv ER (moeRd m) (K x) (kcell x))
    ∗ bigSep Finset.univ fun x : Dev nD × Cell => reached ER (kcell x) 0)

instance records_persistent : BI.Persistent (records m K) := by unfold records; infer_instance

theorem inv_of_all (x : Dev nD × Cell) :
    (bigSep Finset.univ fun x : Dev nD × Cell => (cellInv ER (moeRd m) (K x) (kcell x) : sProp 𝕄)) ⊢ cellInv ER (moeRd m) (K x) (kcell x) :=
  bigSep_elim (Finset.mem_univ x)
theorem reached_of_all (x : Dev nD × Cell) :
    (bigSep Finset.univ fun x : Dev nD × Cell => (reached ER (kcell x) 0 : sProp 𝕄)) ⊢ reached ER (kcell x) 0 :=
  bigSep_elim (Finset.mem_univ x)

theorem inv_at (x : Dev nD × Cell) : records m K ⊢ cellInv ER (moeRd m) (K x) (kcell x) := by
  unfold records
  iintro ⟨H, -⟩
  iapply (inv_of_all m K x); iexact H
theorem reached_at (x : Dev nD × Cell) : records m K ⊢ reached ER (kcell x) 0 := by
  unfold records
  iintro ⟨-, H⟩
  iapply (reached_of_all (F := F) x); iexact H

/-- What device `c` holds of exchange `k`: before its slot is filled, filled, started, arrived, seen to have left. -/
def exRes (c : Dev nD) (k : Fin 20) : ℕ → sProp 𝕄
  | 0 => iprop(stageAny c k ∗ landAny (peer k c) k ∗ dutyTok ER (sendCell k c) 0 0 ∗ dutyTok ER (recvCell k (peer k c)) 0 0
      ∗ atPos ER (sendCell k c) 0 ∅ 0 ∗ atPos ER (recvCell k c) 0 ∅ 0 ∗ cred (tallyAt (recvCell k c) 0 (credit k)))
  | 1 => iprop(stageSent m c k ∗ landAny (peer k c) k ∗ dutyTok ER (sendCell k c) 0 0 ∗ dutyTok ER (recvCell k (peer k c)) 0 0
      ∗ atPos ER (sendCell k c) 0 ∅ 0 ∗ atPos ER (recvCell k c) 0 ∅ 0 ∗ cred (tallyAt (recvCell k c) 0 (credit k)))
  | 2 => iprop(atPos ER (sendCell k c) 0 ∅ 0 ∗ cred (tallyAt (sendCell k c) 0 (credit k)) ∗ atPos ER (recvCell k c) 0 ∅ 0
      ∗ cred (tallyAt (recvCell k c) 0 (credit k)))
  | 3 => iprop(landSent m c k ∗ reached ER (barCell (peer k c)) 1 ∗ atPos ER (sendCell k c) 0 ∅ 0 ∗ cred (tallyAt (sendCell k c) 0 (credit k))
      ∗ atPos ER (recvCell k c) 1 ∅ 0)
  | _ => iprop(stageSent m c k ∗ landSent m c k ∗ atPos ER (sendCell k c) 1 ∅ 0 ∗ atPos ER (recvCell k c) 1 ∅ 0)

theorem exRes_0 (c : Dev nD) (k : Fin 20) : exRes m c k 0 = iprop(stageAny c k ∗ landAny (peer k c) k ∗ dutyTok ER (sendCell k c) 0 0 ∗ dutyTok ER (recvCell k (peer k c)) 0 0
      ∗ atPos ER (sendCell k c) 0 ∅ 0 ∗ atPos ER (recvCell k c) 0 ∅ 0 ∗ cred (tallyAt (recvCell k c) 0 (credit k))) := rfl
theorem exRes_1 (c : Dev nD) (k : Fin 20) : exRes m c k 1 = iprop(stageSent m c k ∗ landAny (peer k c) k ∗ dutyTok ER (sendCell k c) 0 0 ∗ dutyTok ER (recvCell k (peer k c)) 0 0
      ∗ atPos ER (sendCell k c) 0 ∅ 0 ∗ atPos ER (recvCell k c) 0 ∅ 0 ∗ cred (tallyAt (recvCell k c) 0 (credit k))) := rfl
theorem exRes_2 (c : Dev nD) (k : Fin 20) : exRes m c k 2 = iprop(atPos ER (sendCell k c) 0 ∅ 0 ∗ cred (tallyAt (sendCell k c) 0 (credit k))
      ∗ atPos ER (recvCell k c) 0 ∅ 0 ∗ cred (tallyAt (recvCell k c) 0 (credit k))) := rfl
theorem exRes_3 (c : Dev nD) (k : Fin 20) : exRes m c k 3 = iprop(landSent m c k ∗ reached ER (barCell (peer k c)) 1 ∗ atPos ER (sendCell k c) 0 ∅ 0
      ∗ cred (tallyAt (sendCell k c) 0 (credit k)) ∗ atPos ER (recvCell k c) 1 ∅ 0) := rfl
theorem exRes_4 (c : Dev nD) (k : Fin 20) : exRes m c k 4 = iprop(stageSent m c k ∗ landSent m c k ∗ atPos ER (sendCell k c) 1 ∅ 0
      ∗ atPos ER (recvCell k c) 1 ∅ 0) := rfl

/-- How far exchange `k` is. -/
def phase (st sd rv sw : ℕ) (k : Fin 20) : ℕ :=
  (if k.val < st then 1 else 0) + (if k.val < sd then 1 else 0) + (if k.val < rv then 1 else 0) + (if k.val < sw then 1 else 0)

/-- What device `c` holds of the barrier in its second round, `b` partners signalled; at 6 it has waited. -/
def barRes (c : Dev nD) (b : ℕ) : sProp 𝕄 :=
  if b ≤ 5 then
    iprop(atPos ER (barCell c) 1 ∅ 0 ∗ cred (tallyAt (barCell c) 1 5)
      ∗ bigSep (Finset.univ.filter fun i : Fin 5 => b ≤ i.val) fun i => dutyTok ER (barCell (flip i c)) 1 i)
  else iprop(atPos ER (barCell c) 2 ∅ 0)

theorem barRes_step (c : Dev nD) (i : Fin 5) : (barRes c i.val : sProp 𝕄) = iprop(atPos ER (barCell c) 1 ∅ 0 ∗ cred (tallyAt (barCell c) 1 5)
    ∗ dutyTok ER (barCell (flip i c)) 1 i ∗ bigSep (Finset.univ.filter fun j : Fin 5 => i.val + 1 ≤ j.val) fun j => dutyTok ER (barCell (flip j c)) 1 j) := by
  unfold barRes
  rw [if_pos (by have := i.isLt; omega), filter_step, bigSep_insert (filter_fresh i)]; rfl

/-- Device `c`'s state. -/
def St (c : Dev nD) (st sd rv sw b : ℕ) : sProp 𝕄 :=
  iprop(records m K ∗ levAts L lv ∗ reached ER (barCell c) 1 ∗ (∃ W, owes (c : Thread nD τ) (owedAt c sd b) W)
    ∗ barRes c b ∗ bigSep Finset.univ fun k => exRes m c k (phase st sd rv sw k))

/-- Device `c` holds the result's staging buffer, at contents `f`. -/
def outPts (c : Dev nD) (f : OutC F) : sProp 𝕄 := ((c : Thread nD τ).loc cc0_stg4_0) ↦{fullShare} f

/-! ## Opening one exchange -/

theorem ex_open (c : Dev nD) (k : Fin 20) (f f' : Fin 20 → ℕ) (h : ∀ j, j ≠ k → f' j = f j) (v v' : ℕ) (hv : f k = v) (hv' : f' k = v') :
    (bigSep Finset.univ fun j => exRes m c j (f j))
      ⊢ iprop(exRes m c k v ∗ (exRes m c k v' -∗ bigSep Finset.univ fun j => exRes m c j (f' j))) := by
  subst hv hv'
  rw [bigSep_univ_at _ k, bigSep_univ_at (fun j => exRes m c j (f' j)) k,
    bigSep_congr (s := Finset.univ.erase k) (Φ := fun j => exRes m c j (f' j)) (Ψ := fun j => exRes m c j (f j))
      fun j hj => by rw [h j (Finset.ne_of_mem_erase hj)]]
  iintro ⟨H, Hr⟩
  isplitl [H]; · iexact H
  iintro H'
  isplitl [H']; · iexact H'
  iexact Hr

theorem phase_st {sd rv sw : ℕ} (k : Fin 20) (j : Fin 20) (h : j ≠ k) : phase (k.val + 1) sd rv sw j = phase k.val sd rv sw j := by
  have : j.val ≠ k.val := fun h' => h (Fin.ext h')
  unfold phase; rw [if_congr (show j.val < k.val + 1 ↔ j.val < k.val by omega) rfl rfl]
theorem phase_sd {st rv sw : ℕ} (k : Fin 20) (j : Fin 20) (h : j ≠ k) : phase st (k.val + 1) rv sw j = phase st k.val rv sw j := by
  have : j.val ≠ k.val := fun h' => h (Fin.ext h')
  unfold phase; rw [if_congr (show j.val < k.val + 1 ↔ j.val < k.val by omega) rfl rfl]
theorem phase_rv {st sd sw : ℕ} (k : Fin 20) (j : Fin 20) (h : j ≠ k) : phase st sd (k.val + 1) sw j = phase st sd k.val sw j := by
  have : j.val ≠ k.val := fun h' => h (Fin.ext h')
  unfold phase; rw [if_congr (show j.val < k.val + 1 ↔ j.val < k.val by omega) rfl rfl]
theorem phase_sw {st sd rv : ℕ} (k : Fin 20) (j : Fin 20) (h : j ≠ k) : phase st sd rv (k.val + 1) j = phase st sd rv k.val j := by
  have : j.val ≠ k.val := fun h' => h (Fin.ext h')
  unfold phase; rw [if_congr (show j.val < k.val + 1 ↔ j.val < k.val by omega) rfl rfl]

theorem phase_0 {st sd rv sw : ℕ} (k : Fin 20) (h : st ≤ k.val) (h₁ : sd ≤ k.val) (h₂ : rv ≤ k.val) (h₃ : sw ≤ k.val) : phase st sd rv sw k = 0 := by
  unfold phase; rw [if_neg (by omega), if_neg (by omega), if_neg (by omega), if_neg (by omega)]
theorem phase_1 {st sd rv sw : ℕ} (k : Fin 20) (h : k.val < st) (h₁ : sd ≤ k.val) (h₂ : rv ≤ k.val) (h₃ : sw ≤ k.val) : phase st sd rv sw k = 1 := by
  unfold phase; rw [if_pos (by omega), if_neg (by omega), if_neg (by omega), if_neg (by omega)]
theorem phase_2 {st sd rv sw : ℕ} (k : Fin 20) (h : k.val < st) (h₁ : k.val < sd) (h₂ : rv ≤ k.val) (h₃ : sw ≤ k.val) : phase st sd rv sw k = 2 := by
  unfold phase; rw [if_pos (by omega), if_pos (by omega), if_neg (by omega), if_neg (by omega)]
theorem phase_3 {st sd rv sw : ℕ} (k : Fin 20) (h : k.val < st) (h₁ : k.val < sd) (h₂ : k.val < rv) (h₃ : sw ≤ k.val) : phase st sd rv sw k = 3 := by
  unfold phase; rw [if_pos (by omega), if_pos (by omega), if_pos (by omega), if_neg (by omega)]
theorem phase_4 {st sd rv sw : ℕ} (k : Fin 20) (h : k.val < st) (h₁ : k.val < sd) (h₂ : k.val < rv) (h₃ : k.val < sw) : phase st sd rv sw k = 4 := by
  unfold phase; rw [if_pos (by omega), if_pos (by omega), if_pos (by omega), if_pos (by omega)]

/-! ## Slots -/

section Slots
variable {α : Type}

theorem land_load (c : Dev nD) (k : Fin 20) (X : (Sh k).Idx → Elt F .bf16) {hl : (landB k).view.LoadsAt (slotR k).toLoadRect}
    {k' : ((slotR k).toLoadRect.shape.Idx → Elt F .bf16) → Prog (TpuEff nD τ sig (Elt F) Λ₀ .tc) α} {Q : α → sProp 𝕄} :
    (owns (c : Thread nD τ) (landM k) fullShare X : sProp 𝕄)
      ⊢ iprop((owns (c : Thread nD τ) (landM k) fullShare X -∗ wp frame (wpE (defs₀ (F := F)) 𝒱₀ (c : Thread nD τ) none) Set.univ (k' X) Q)
        -∗ wp frame (wpE (defs₀ (F := F)) 𝒱₀ (c : Thread nD τ) none) Set.univ (.op (.load (landB k) (slotR k).toLoadRect hl) k') Q) := by
  unfold owns
  iintro ⟨%f, %hf, H⟩ Hk
  iapply (wp_load_rect 𝒱₀ (c : Thread nD τ) none Set.univ (m := landB k) (r := slotR k) subset_rfl) $$ H
  iintro H
  rw [show ((landB k).access (slotR k)).read (Elt F) f = X from hf]
  iapply Hk
  iexists f
  isplitr; · ipureintro; exact hf
  iexact H

theorem stage_load (c : Dev nD) (k : Fin 20) {hl : (stageB k).view.LoadsAt (slotR k).toLoadRect}
    {k' : ((slotR k).toLoadRect.shape.Idx → Elt F .bf16) → Prog (TpuEff nD τ sig (Elt F) Λ₀ .tc) α} {Q : α → sProp 𝕄} :
    (stageAny c k : sProp 𝕄)
      ⊢ iprop((∀ X, stageAny c k -∗ wp frame (wpE (defs₀ (F := F)) 𝒱₀ (c : Thread nD τ) none) Set.univ (k' X) Q)
        -∗ wp frame (wpE (defs₀ (F := F)) 𝒱₀ (c : Thread nD τ) none) Set.univ (.op (.load (stageB k) (slotR k).toLoadRect hl) k') Q) := by
  unfold stageAny owns
  iintro ⟨%X, %f, %hf, H⟩ Hk
  iapply (wp_load_rect 𝒱₀ (c : Thread nD τ) none Set.univ (m := stageB k) (r := slotR k) subset_rfl) $$ H
  iintro H
  iapply Hk
  iexists X, f
  isplitr; · ipureintro; exact hf
  iexact H

theorem stage_store (c : Dev nD) (k : Fin 20) (w : (Sh k).Idx → Elt F .bf16) {hx : ((stageB k).access (slotR k)).Stores Finset.univ} {hm}
    {k' : PUnit → Prog (TpuEff nD τ sig (Elt F) Λ₀ .tc) α} {Q : α → sProp 𝕄} :
    (stageAny c k : sProp 𝕄)
      ⊢ iprop((owns (c : Thread nD τ) (stageM k) fullShare w -∗ wp frame (wpE (defs₀ (F := F)) 𝒱₀ (c : Thread nD τ) none) Set.univ (k' ⟨⟩) Q)
        -∗ wp frame (wpE (defs₀ (F := F)) 𝒱₀ (c : Thread nD τ) none) Set.univ (.op (.store (stageB k) (slotR k) w Finset.univ hx hm) k') Q) := by
  unfold stageAny owns
  iintro ⟨%X, %f, %hf, H⟩ Hk
  iapply (wp_store 𝒱₀ (c : Thread nD τ) none Set.univ (m := stageB k) (r := slotR k) (w := w) (Mk := Finset.univ) (S := (stageM k).view.set) (f := f) (by rw [View.setOn_univ])) $$ H
  iintro H
  iapply Hk
  iexists ((stageB k).access (slotR k)).write (Elt F) f w Finset.univ
  isplitr; · ipureintro; exact View.read_write_univ _ _
  iexact H

end Slots

/-! ## The rules -/

section Rules
variable {α : Type}

/-- The rest `p` of the program, on device `c`, for `Q`. -/
abbrev run (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-- Before its slot is filled, the slot may be read; what is read is nothing in particular. -/
theorem st_peek (c : Dev nD) (k : Fin 20) (st sd rv b : ℕ) (h : st ≤ k.val ∧ sd ≤ k.val ∧ rv ≤ k.val)
    {hl : (stageB k).view.LoadsAt (slotR k).toLoadRect}
    {k' : ((slotR k).toLoadRect.shape.Idx → Elt F .bf16) → Prog (TpuEff nD τ sig (Elt F) Λ₀ .tc) α} {Q : α → sProp 𝕄} :
    St m K c st sd rv 0 b
      ⊢ iprop((∀ X, St m K c st sd rv 0 b -∗ run c (k' X) Q) -∗ run c (.op (.load (stageB k) (slotR k).toLoadRect hl) k') Q) := by
  unfold St
  iintro ⟨Hr, Hl, Hb, Ho, HB, Hx⟩ Hk
  ihave Hx := (ex_open m c k (phase st sd rv 0) (phase st sd rv 0) (fun _ _ => rfl) 0 0
    (phase_0 k h.1 h.2.1 h.2.2 (Nat.zero_le _)) (phase_0 k h.1 h.2.1 h.2.2 (Nat.zero_le _))) $$ Hx
  icases Hx with ⟨Hx, Hback⟩
  ihave Hx := (Entails.of_eq (exRes_0 m c _)) $$ Hx
  icases Hx with ⟨Hs, Hx⟩
  iapply (stage_load c k) $$ Hs
  iintro %X Hs
  iapply Hk
  ihave Hx := Hback $$ [Hs Hx]
  · rw [exRes_0]; isplitl [Hs] <;> iassumption
  isplitl [Hr]; · iexact Hr
  isplitl [Hl]; · iexact Hl
  isplitl [Hb]; · iexact Hb
  isplitl [Ho]; · iexact Ho
  isplitl [HB] <;> iassumption

/-- The slot is filled. -/
theorem st_fill (c : Dev nD) (k : Fin 20) (st st' sd rv b : ℕ) (h : st = k.val ∧ st' = k.val + 1 ∧ sd ≤ k.val ∧ rv ≤ k.val)
    {w : (Sh k).Idx → Elt F .bf16} (hw : w = sent m k c) {hx : ((stageB k).access (slotR k)).Stores Finset.univ} {hm}
    {k' : PUnit → Prog (TpuEff nD τ sig (Elt F) Λ₀ .tc) α} {Q : α → sProp 𝕄} :
    St m K c st sd rv 0 b
      ⊢ iprop((St m K c st' sd rv 0 b -∗ run c (k' ⟨⟩) Q) -∗ run c (.op (.store (stageB k) (slotR k) w Finset.univ hx hm) k') Q) := by
  obtain ⟨rfl, rfl, h₁, h₂⟩ := h
  subst hw
  unfold St
  iintro ⟨Hr, Hl, Hb, Ho, HB, Hx⟩ Hk
  ihave Hx := (ex_open m c k (phase k.val sd rv 0) (phase (k.val + 1) sd rv 0) (phase_st k) 0 1
    (phase_0 k le_rfl h₁ h₂ (Nat.zero_le _)) (phase_1 k (Nat.lt_succ_self _) h₁ h₂ (Nat.zero_le _))) $$ Hx
  icases Hx with ⟨Hx, Hback⟩
  ihave Hx := (Entails.of_eq (exRes_0 m c _)) $$ Hx
  icases Hx with ⟨Hs, Hx⟩
  iapply (stage_store c k (sent m k c)) $$ Hs
  iintro Hs
  iapply Hk
  ihave Hx := Hback $$ [Hs Hx]
  · rw [exRes_1]; unfold stageSent; isplitl [Hs] <;> iassumption
  isplitl [Hr]; · iexact Hr
  isplitl [Hl]; · iexact Hl
  isplitl [Hb]; · iexact Hb
  isplitl [Ho]; · iexact Ho
  isplitl [HB] <;> iassumption

/-- The transfer is started, to the partner. -/
theorem st_send (c : Dev nD) (k : Fin 20) (st sd sd' rv b : ℕ) (h : k.val < st ∧ sd = k.val ∧ sd' = k.val + 1 ∧ rv ≤ k.val)
    (n : Dev nD) (hn : n = peer k c) {hsc : ((landM k) : Memref sig (Dev.tc n : Thread nD τ).2.kind .vmem (Sh k) .bf16).view.ref.isScScratch = false}
    {hsrc : (stageM k).view.WordExact} {hdst : (landM k).view.WordExact}
    {hsem : DmaTarget.Typed .vmem (.dma (recvS k)) (.remote (Dev.tc n : Thread nD τ) (landM k : Memref sig .tc .vmem (Sh k) .bf16) (.dma (sendS k)) hsc)}
    {k' : PUnit → Prog (TpuEff nD τ sig (Elt F) Λ₀ .tc) α} {Q : α → sProp 𝕄} :
    St m K c st sd rv 0 b
      ⊢ iprop((St m K c st sd' rv 0 b -∗ run c (k' ⟨⟩) Q)
        -∗ run c (.op (.enqueueDma (stageM k) (.remote (Dev.tc n) (landM k) (.dma (sendS k)) hsc) (.dma (recvS k)) hsrc hdst hsem) k') Q) := by
  obtain ⟨h₀, rfl, rfl, h₂⟩ := h
  subst hn
  unfold St
  iintro ⟨#Hr, Hl, #Hb, ⟨%W, Ho⟩, HB, Hx⟩ Hk
  ihave Hx := (ex_open m c k (phase st k.val rv 0) (phase st (k.val + 1) rv 0) (phase_sd k) 1 2
    (phase_1 k h₀ le_rfl h₂ (Nat.zero_le _)) (phase_2 k h₀ (Nat.lt_succ_self _) h₂ (Nat.zero_le _))) $$ Hx
  icases Hx with ⟨Hx, Hback⟩
  ihave Hx := (Entails.of_eq (exRes_1 m c _)) $$ Hx
  unfold stageSent landAny owns
  icases Hx with ⟨⟨%fs, %hfs, Hs⟩, ⟨%X, %fd, %hfd, Hd⟩, Ht₁, Ht₂, Ha₁, Ha₂, Hc⟩
  iapply (Rounds.wp_send_pointsTo_with 𝒱₀ ER (moeRd m) (c : Thread nD τ) none (κ₁ := K (c, some (false, k))) (κ₂ := K (peer k c, some (true, k)))
    (r₁ := 0) (r₂ := 0) (d₁ := 0) (d₂ := 0) (fs := fs) (fd := fd) (F := reached ER (barCell c) 1) (q := fullShare)
    (src := stageM k) (dst := landM k) (sS := .dma (sendS k)) (sem := .dma (recvS k)) (c' := (peer k c : Thread nD τ)) (W := W) (O₀ := owedAt c k.val b)
    (by rw [duties_send]; exact Finset.mem_singleton_self _) (by rw [duties_recv]; exact Finset.mem_singleton_self _)
    0 0 (credit k) rfl (amount_send m c k 0 0) (amount_recv m (peer k c) k 0 0) (owedAt c (k.val + 1) b)
    (by unfold owedAt; rw [owedX_step, add_right_comm])
    (by rw [payload_send]; unfold stageSent owns
        iintro H; iexists fs; isplitr; · ipureintro; exact hfs
        iexact H)
    (by rw [payload_recv]; unfold recvPay landSent owns; rw [peer_peer, hfs]
        iintro ⟨H, HF⟩
        isplitl [H]
        · iexists _; isplitr; swap; · iexact H
          ipureintro; exact View.read_write_univ _ _
        · iexact HF)) $$ [Hs Hd Ho Ht₁ Ht₂]
  · isplitr; · iapply (inv_at m K (c, some (false, k))); iexact Hr
    isplitr; · iapply (inv_at m K (peer k c, some (true, k))); iexact Hr
    isplitl [Hs]; · iexact Hs
    isplitl [Hd]
    · isplitl [Hd]; · iexact Hd
      iexact Hb
    isplitl [Ho]; · iexact Ho
    isplitl [Ht₁]; · iexact Ht₁
    isplitr; · iapply (reached_at m K (c, some (false, k))); iexact Hr
    isplitl [Ht₂]; · iexact Ht₂
    iapply (reached_at m K (peer k c, some (true, k))); iexact Hr
  iintro ⟨Hc₁, Ho⟩
  iapply Hk
  ihave Hx := Hback $$ [Hc₁ Ha₁ Ha₂ Hc]
  · rw [exRes_2]; isplitl [Ha₁]; · iexact Ha₁
    isplitl [Hc₁]; · iexact Hc₁
    isplitl [Ha₂] <;> iassumption
  isplitr; · iexact Hr
  isplitl [Hl]; · iexact Hl
  isplitr; · iexact Hb
  isplitl [Ho]; · iexists W; iexact Ho
  isplitl [HB] <;> iassumption

/-- The partner's data has arrived. -/
theorem st_arrive (c : Dev nD) (k : Fin 20) (st sd rv rv' b : ℕ)
    (h : k.val < st ∧ k.val < sd ∧ rv = k.val ∧ rv' = k.val + 1 ∧ (k.val < 10 ∨ 5 ≤ b))
    {sp : Space} {Sh₀ : Shape} {e₀ : EltTy} {src : Memref sig .tc sp Sh₀ e₀} {hsrc : src.view.WordExact} {hdst : (landM k).view.WordExact}
    {k' : PUnit → Prog (TpuEff nD τ sig (Elt F) Λ₀ .tc) α} {Q : α → sProp 𝕄} :
    St m K c st sd rv 0 b
      ⊢ iprop((St m K c st sd rv' 0 b -∗ run c (k' ⟨⟩) Q)
        -∗ run c (.op (.waitDma2 (recvS k) src (landM k) hsrc hdst) k') Q) := by
  obtain ⟨h₀, h₁, rfl, rfl, h₂⟩ := h
  unfold St
  iintro ⟨#Hr, #Hl, #Hb, ⟨%W, Ho⟩, HB, Hx⟩ Hk
  ihave Hx := (ex_open m c k (phase st sd k.val 0) (phase st sd (k.val + 1) 0) (phase_rv k) 2 3
    (phase_2 k h₀ h₁ le_rfl (Nat.zero_le _)) (phase_3 k h₀ h₁ (Nat.lt_succ_self _) (Nat.zero_le _))) $$ Hx
  icases Hx with ⟨Hx, Hback⟩
  ihave Hx := (Entails.of_eq (exRes_2 m c _)) $$ Hx
  icases Hx with ⟨Ha₁, Hc₁, Ha₂, Hc⟩
  iapply (Rounds.wp_wait_rest_token 𝒱₀ ER (moeRd m) (c : Thread nD τ) none (κ := K (c, some (true, k)))
      (wpE_waitDma2_eq 𝒱₀ (c : Thread nD τ) none Set.univ) (Set.mem_univ _) 0 (O := owedAt c sd b) (W := W) (R := 0) (m := 0) (T := ∅)
      (by rw [Nat.zero_add, expect_recv])) $$ [Hc Ho Ha₂]
  · isplitr; · iapply (inv_at m K (c, some (true, k))); iexact Hr
    isplitl [Hc]; · iexact Hc
    isplitl [Ho]; · iexact Ho
    isplitr; · iapply (mayWait_recv c k sd b h₁ h₂); iexact Hl
    iexact Ha₂
  iintro ⟨Ho, Ha₂, -, Hpay⟩
  ihave Hp := (Entails.of_eq (rest_recv m c k)) $$ Hpay
  unfold recvPay
  icases Hp with ⟨Hp, Hrb⟩
  iapply Hk
  ihave Hx := Hback $$ [Hp Hrb Ha₁ Hc₁ Ha₂]
  · rw [exRes_3]; isplitl [Hp]; · iexact Hp
    isplitl [Hrb]; · iexact Hrb
    isplitl [Ha₁]; · iexact Ha₁
    isplitl [Hc₁] <;> iassumption
  isplitr; · iexact Hr
  isplitr; · iexact Hl
  isplitr; · iexact Hb
  isplitl [Ho]; · iexists _; iexact Ho
  isplitl [HB] <;> iassumption

/-- What has arrived is read: what the partner sent. -/
theorem st_read (c : Dev nD) (k : Fin 20) (st sd rv b : ℕ) (h : k.val < st ∧ k.val < sd ∧ k.val < rv)
    {hl : (landB k).view.LoadsAt (slotR k).toLoadRect}
    {k' : ((slotR k).toLoadRect.shape.Idx → Elt F .bf16) → Prog (TpuEff nD τ sig (Elt F) Λ₀ .tc) α} {Q : α → sProp 𝕄} :
    St m K c st sd rv 0 b
      ⊢ iprop((St m K c st sd rv 0 b -∗ run c (k' (sent m k (peer k c))) Q) -∗ run c (.op (.load (landB k) (slotR k).toLoadRect hl) k') Q) := by
  unfold St
  iintro ⟨Hr, Hl, Hb, Ho, HB, Hx⟩ Hk
  ihave Hx := (ex_open m c k (phase st sd rv 0) (phase st sd rv 0) (fun _ _ => rfl) 3 3
    (phase_3 k h.1 h.2.1 h.2.2 (Nat.zero_le _)) (phase_3 k h.1 h.2.1 h.2.2 (Nat.zero_le _))) $$ Hx
  icases Hx with ⟨Hx, Hback⟩
  ihave Hx := (Entails.of_eq (exRes_3 m c _)) $$ Hx
  icases Hx with ⟨Hs, Hx⟩
  unfold landSent
  iapply (land_load c k (sent m k (peer k c))) $$ Hs
  iintro Hs
  iapply Hk
  ihave Hx := Hback $$ [Hs Hx]
  · rw [exRes_3]; isplitl [Hs]; · unfold landSent; iexact Hs
    iexact Hx
  isplitl [Hr]; · iexact Hr
  isplitl [Hl]; · iexact Hl
  isplitl [Hb]; · iexact Hb
  isplitl [Ho]; · iexact Ho
  isplitl [HB] <;> iassumption

theorem owedAt_end (c : Dev nD) : owedAt c 20 6 = 0 := by
  unfold owedAt
  rw [owedX_end, zero_add, owedB, show Finset.univ.filter (fun i : Fin 5 => 6 ≤ i.val) = ∅ by decide, Finset.sum_empty]

/-- The transfer is seen to have left. -/
theorem st_leave (c : Dev nD) (k : Fin 20) (sw sw' : ℕ) (h : sw = k.val ∧ sw' = k.val + 1)
    {sp : Space} {Sh₀ : Shape} {e₀ : EltTy} {src : Memref sig .tc sp Sh₀ e₀} {hsrc : src.view.WordExact} {hdst : (stageM k).view.WordExact}
    {k' : PUnit → Prog (TpuEff nD τ sig (Elt F) Λ₀ .tc) α} {Q : α → sProp 𝕄} :
    St m K c 20 20 20 sw 6
      ⊢ iprop((St m K c 20 20 20 sw' 6 -∗ run c (k' ⟨⟩) Q)
        -∗ run c (.op (.waitDma2 (sendS k) src (stageM k) hsrc hdst) k') Q) := by
  obtain ⟨rfl, rfl⟩ := h
  unfold St
  iintro ⟨#Hr, #Hl, #Hb, ⟨%W, Ho⟩, HB, Hx⟩ Hk
  ihave Hx := (ex_open m c k (phase 20 20 20 k.val) (phase 20 20 20 (k.val + 1)) (phase_sw k) 3 4
    (phase_3 k k.isLt k.isLt k.isLt le_rfl) (phase_4 k k.isLt k.isLt k.isLt (Nat.lt_succ_self _))) $$ Hx
  icases Hx with ⟨Hx, Hback⟩
  ihave Hx := (Entails.of_eq (exRes_3 m c _)) $$ Hx
  icases Hx with ⟨Hp, -, Ha₁, Hc₁, Ha₂⟩
  ihave Ho := (Entails.of_eq (show (owes (c : Thread nD τ) (owedAt c 20 6) W : sProp 𝕄) = owes (c : Thread nD τ) 0 W by rw [owedAt_end])) $$ Ho
  iapply (Rounds.wp_wait_rest_token 𝒱₀ ER (moeRd m) (c : Thread nD τ) none (κ := K (c, some (false, k)))
      (wpE_waitDma2_eq 𝒱₀ (c : Thread nD τ) none Set.univ) (Set.mem_univ _) 0 (O := 0) (W := W) (R := 0) (m := 0) (T := ∅)
      (by rw [Nat.zero_add, expect_send, credit_stage])) $$ [Hc₁ Ho Ha₁]
  · isplitr; · iapply (inv_at m K (c, some (false, k))); iexact Hr
    isplitl [Hc₁]; · rw [credit_stage]; iexact Hc₁
    isplitl [Ho]; · iexact Ho
    isplitr; · rw [MayWait_zero]; iempintro
    iexact Ha₁
  iintro ⟨Ho, Ha₁, -, Hpay⟩
  ihave Hs := (Entails.of_eq (rest_send m c k)) $$ Hpay
  iapply Hk
  ihave Hx := Hback $$ [Hp Hs Ha₁ Ha₂]
  · rw [exRes_4]; isplitl [Hs]; · iexact Hs
    isplitl [Hp]; · iexact Hp
    isplitl [Ha₁] <;> iassumption
  isplitr; · iexact Hr
  isplitr; · iexact Hl
  isplitr; · iexact Hb
  isplitl [Ho]; · rw [owedAt_end]; iexists _; iexact Ho
  isplitl [HB] <;> iassumption

/-- Some arrival from each partner, by which it is known to have passed the barrier once. -/
def witnessOf : Fin 5 → Fin 20
  | 0 => 0 | 1 => 1 | 2 => 4 | 3 => 5 | _ => 8
theorem way_witnessOf (i : Fin 5) : way (witnessOf i) = i := by revert i; decide
theorem witnessOf_lt (i : Fin 5) : (witnessOf i).val < 10 := by revert i; decide

/-- Partner `i` is signalled for the second time. -/
theorem st_signal (c : Dev nD) (i : Fin 5) (b b' : ℕ) (h : b = i.val ∧ b' = i.val + 1) (n : Dev nD) (hn : n = flip i c)
    {k' : PUnit → Prog (TpuEff nD τ sig (Elt F) Λ₀ .tc) α} {Q : α → sProp 𝕄} :
    St m K c 10 10 10 0 b
      ⊢ iprop((St m K c 10 10 10 0 b' -∗ run c (k' ⟨⟩) Q) -∗ run c (.op (.semSignal (Dev.tc n) barS 1) k') Q) := by
  obtain ⟨rfl, rfl⟩ := h
  subst hn
  have hi := i.isLt
  unfold St
  iintro ⟨#Hr, Hl, Hb, ⟨%W, Ho⟩, HB, Hx⟩ Hk
  ihave Hx := (ex_open m c (witnessOf i) (phase 10 10 10 0) (phase 10 10 10 0) (fun _ _ => rfl) 3 3
    (phase_3 (witnessOf i) (witnessOf_lt i) (witnessOf_lt i) (witnessOf_lt i) (Nat.zero_le _)) (phase_3 (witnessOf i) (witnessOf_lt i) (witnessOf_lt i) (witnessOf_lt i) (Nat.zero_le _))) $$ Hx
  icases Hx with ⟨Hx, Hback⟩
  ihave Hx := (Entails.of_eq (exRes_3 m c _)) $$ Hx
  icases Hx with ⟨Hx, #Hrb, Hx'⟩
  ihave Hx := Hback $$ [Hx Hx']
  · rw [exRes_3]; isplitl [Hx]; · iexact Hx
    isplitr; · iexact Hrb
    iexact Hx'
  ihave HB := (Entails.of_eq (barRes_step c i)) $$ HB
  icases HB with ⟨Ha, Hc, Ht, HB⟩
  ihave Hrb := (Entails.of_eq (show (reached ER (barCell (peer (witnessOf i) c)) 1 : sProp 𝕄) = reached ER (barCell (flip i c)) 1 by unfold peer; rw [way_witnessOf])) $$ Hrb
  iapply (Rounds.wp_signal 𝒱₀ ER (moeRd m) (c : Thread nD τ) none (dst := (flip i c : Thread nD τ)) (κ := K (flip i c, none)) (r := 1)
      (d := i) (W := W) (O₀ := owedAt c 10 i.val) (by rw [duties_bar m _ 1 (by decide)]; exact Finset.mem_univ _) (amount_bar m (flip i c) 1 i) 1 (owedAt c 10 (i.val + 1))
      (by unfold owedAt; rw [owedB_step, add_assoc]))
    $$ [Ho Ht]
  · isplitr; · iapply (inv_at m K (flip i c, none)); iexact Hr
    isplitl [Ho]; · iexact Ho
    isplitl [Ht]; · iexact Ht
    isplitr; · rw [payload_bar_one]; iempintro
    iexact Hrb
  iintro Ho
  iapply Hk
  isplitr; · iexact Hr
  isplitl [Hl]; · iexact Hl
  isplitl [Hb]; · iexact Hb
  isplitl [Ho]; · iexists W; iexact Ho
  isplitl [Ha Hc HB]
  · unfold barRes; rw [if_pos (by omega)]
    isplitl [Ha]; · iexact Ha
    isplitl [Hc] <;> iassumption
  iexact Hx

/-- All partners have signalled for the second time. -/
theorem st_meet (c : Dev nD) {k' : PUnit → Prog (TpuEff nD τ sig (Elt F) Λ₀ .tc) α} {Q : α → sProp 𝕄} :
    St m K c 10 10 10 0 5
      ⊢ iprop((St m K c 10 10 10 0 6 -∗ run c (k' ⟨⟩) Q) -∗ run c (.op (.semWait barS 5) k') Q) := by
  unfold St
  iintro ⟨#Hr, #Hl, Hb, ⟨%W, Ho⟩, HB, Hx⟩ Hk
  ihave HB := (Entails.of_eq (show (barRes (F := F) c 5) = _ from if_pos (by decide))) $$ HB
  icases HB with ⟨Ha, Hc, -⟩
  iapply (Rounds.wp_wait_rest_token 𝒱₀ ER (moeRd m) (c : Thread nD τ) none (κ := K (c, none))
      (wpE_semWait_eq 𝒱₀ (c : Thread nD τ) none Set.univ) (Set.mem_univ _) 1 (O := owedAt c 10 5) (W := W) (R := 1) (m := 0) (T := ∅)
      (by rw [expect_bar m c 1 (by decide)])) $$ [Hc Ho Ha]
  · isplitr; · iapply (inv_at m K (c, none)); iexact Hr
    isplitl [Hc]; · iexact Hc
    isplitl [Ho]; · iexact Ho
    isplitr; · iapply (mayWait_bar1 c); iexact Hl
    iexact Ha
  iintro ⟨Ho, Ha, -, -⟩
  iapply Hk
  isplitr; · iexact Hr
  isplitr; · iexact Hl
  isplitl [Hb]; · iexact Hb
  isplitl [Ho]
  · rw [show owedAt c 10 6 = owedAt c 10 5 by
      unfold owedAt owedB
      rw [show Finset.univ.filter (fun i : Fin 5 => 6 ≤ i.val) = Finset.univ.filter (fun i : Fin 5 => 5 ≤ i.val) by decide]]
    iexists _; iexact Ho
  isplitl [Ha]; · unfold barRes; rw [if_neg (by decide)]; iexact Ha
  iexact Hx

end Rules

end Cert.Moe
end
-- ==== Proof.Glue.lean ====
/-
# The buffers the parts of the body run over, and the rules for the running result
-/
module

public import proofs.«01_k».proof.Proof.Steps
public import proofs.«01_k».proof.Proof.Gen.KernelIdeal.Skeleton

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (Fin 2) (Elt F) ℕ UU ℕ

/-- What a part of the body takes before its words and values: the staged operands, the result, the four staging and landing
    buffers, the eight rows of semaphores. -/
abbrev Args (R : Type*) : Type _ :=
  (arg0 : Memref sig .tc .vmem S1024x512 .f32) → arg0.IsWhole → (arg1 : Memref sig .tc .vmem S512x128 .f32) → arg1.IsWhole →
  (arg2 : Memref sig .tc .vmem S1024x2 .i32) → arg2.IsWhole → (arg3 : Memref sig .tc .vmem S4x512x1024 .f32) → arg3.IsWhole →
  (arg4 : Memref sig .tc .vmem S1024x1024 .f32) → arg4.IsWhole → (arg5 : Memref sig .tc .vmem S992x512 .bf16) → arg5.IsWhole →
  (arg6 : Memref sig .tc .vmem S992x512 .bf16) → arg6.IsWhole → (arg7 : Memref sig .tc .vmem S992x512 .bf16) → arg7.IsWhole →
  (arg8 : Memref sig .tc .vmem S992x512 .bf16) → arg8.IsWhole → (arg9 : Memref sig .tc .vmem S992x512 .bf16) → arg9.IsWhole →
  (arg10 : Memref sig .tc .vmem S992x512 .bf16) → arg10.IsWhole → (arg11 : Memref sig .tc .vmem S992x512 .bf16) → arg11.IsWhole →
  (arg12 : Memref sig .tc .vmem S992x512 .bf16) → arg12.IsWhole →
  DmaSems sig S5 → DmaSems sig S5 → DmaSems sig S5 → DmaSems sig S5 → DmaSems sig S5 → DmaSems sig S5 → DmaSems sig S5 → DmaSems sig S5 → R

/-- A part over this kernel's buffers. -/
abbrev atArgs {R : Type*} (p : Args R) : R :=
  p (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _)
    (Memref.whole cc0_stg4_0) (Memref.isWhole_whole _) (Memref.whole cc0_scratch0) (Memref.isWhole_whole _)
    (Memref.whole cc0_scratch1) (Memref.isWhole_whole _) (Memref.whole cc0_scratch2) (Memref.isWhole_whole _)
    (Memref.whole cc0_scratch3) (Memref.isWhole_whole _) (Memref.whole cc0_scratch4) (Memref.isWhole_whole _)
    (Memref.whole cc0_scratch5) (Memref.isWhole_whole _) (Memref.whole cc0_scratch6) (Memref.isWhole_whole _)
    (Memref.whole cc0_scratch7) (Memref.isWhole_whole _)
    cc0_scratch8 cc0_scratch9 cc0_scratch10 cc0_scratch11 cc0_scratch12 cc0_scratch13 cc0_scratch14 cc0_scratch15

/-- The barrier, as the body names it. -/
abbrev barrier : Sems sig S_ := SemArray.scalar (sig.barrier 0 rfl)

theorem run_done {α : Type} (c : Dev nD) {a : α} {Q : α → sProp 𝕄} : Q a ⊢ run c (Prog.ret a) Q := by
  unfold run
  rw [wp_ret]
  exact fupd_intro

section Rules
variable (m : (ℓ : Loc nD τ sig) → Buf (Elt F) ℓ) (K : Dev nD × Cell → ℕ)

/-- Which state of the running result exchange `k` sends from. -/
def source (k : ℕ) : ℕ := if early k then k - 1 else k

theorem hist_snd (n : ℕ) : (hist m (n + 1)).2 = (hist m n).1 := rfl

theorem sent_eq (k : Fin 20) (c : Dev nD) : sent m k c = cut k (outRead k c (outAt m (source k.val) c)) := by
  unfold sent readFrom source outAt
  by_cases h : early k.val = true
  · rw [if_pos h, if_pos h]
    obtain ⟨n, hn⟩ := k
    cases n with
    | zero => exact absurd (show early 0 = true from h) (by decide)
    | succ n => rfl
  · rw [if_neg h, if_neg h]

variable {α : Type}

theorem out_load (c : Dev nD) (r : Rect S1024x1024) (f : OutC F) {hl : outM.view.LoadsAt r.toLoadRect}
    {k' : (r.toLoadRect.shape.Idx → Elt F .f32) → Prog (TpuEff nD τ sig (Elt F) Λ₀ .tc) α} {Q : α → sProp 𝕄} :
    (outPts c f : sProp 𝕄)
      ⊢ iprop((outPts c f -∗ run c (k' (outM.view.readAt (Elt F) r.toLoadRect f)) Q) -∗ run c (.op (.load outM r.toLoadRect hl) k') Q) := by
  unfold outPts
  iintro H Hk
  iapply (wp_load 𝒱₀ (c : Thread nD τ) none Set.univ (m := outM) (r := r.toLoadRect) (S := Finset.univ) (f := f) (Finset.subset_univ _)) $$ H
  iintro H
  iapply Hk
  iexact H

theorem out_store (c : Dev nD) (r : Rect S1024x1024) (f : OutC F) (g : OutC F) {w : r.shape.Idx → Elt F .f32}
    (hg : (outM.access r).write (Elt F) f w Finset.univ = g) {hx : (outM.access r).Stores Finset.univ} {hm}
    {k' : PUnit → Prog (TpuEff nD τ sig (Elt F) Λ₀ .tc) α} {Q : α → sProp 𝕄} :
    (outPts c f : sProp 𝕄)
      ⊢ iprop((outPts c g -∗ run c (k' ⟨⟩) Q) -∗ run c (.op (.store outM r w Finset.univ hx hm) k') Q) := by
  subst hg
  unfold outPts
  iintro H Hk
  iapply (wp_store 𝒱₀ (c : Thread nD τ) none Set.univ (m := outM) (r := r) (w := w) (Mk := Finset.univ) (S := Finset.univ) (f := f) (Finset.subset_univ _)) $$ H
  iintro H
  iapply Hk
  iexact H

/-- The slot of exchange `k` is filled, from the running result after `n` updates. -/
theorem st_cut (c : Dev nD) (k : Fin 20) (n st st' sd rv b : ℕ) (h : st = k.val ∧ st' = k.val + 1 ∧ sd ≤ k.val ∧ rv ≤ k.val ∧ n = source k.val)
    {w : (Sh k).Idx → Elt F .bf16} (hw : w = cut k (outRead k c (outAt m n c))) {hx : ((stageB k).access (slotR k)).Stores Finset.univ} {hm}
    {k' : PUnit → Prog (TpuEff nD τ sig (Elt F) Λ₀ .tc) α} {Q : α → sProp 𝕄} :
    St m K c st sd rv 0 b
      ⊢ iprop((St m K c st' sd rv 0 b -∗ run c (k' ⟨⟩) Q) -∗ run c (.op (.store (stageB k) (slotR k) w Finset.univ hx hm) k') Q) :=
  st_fill m K c k st st' sd rv b ⟨h.1, h.2.1, h.2.2.1, h.2.2.2.1⟩ (by rw [hw, sent_eq, h.2.2.2.2])

/-- The running result takes in what has arrived: added in the reduce-scatter; -/
theorem out_add (c : Dev nD) (k : Fin 20) (n n' : ℕ) (h : n = k.val ∧ n' = k.val + 1 ∧ k.val < 10) {w : (Sh k).Idx → Elt F .f32}
    (hw : w = addf (shapeCast (Sh k) (outM.view.readAt (Elt F) (updR k c).toLoadRect (outAt m n c)) (casts_self k))
      (extf .f32 (sent m k (peer k c) : Vec F (Sh k) .bf16) bitsLt_bf16_f32))
    {hx : (outM.access (updR k c)).Stores Finset.univ} {hm} {k' : PUnit → Prog (TpuEff nD τ sig (Elt F) Λ₀ .tc) α} {Q : α → sProp 𝕄} :
    (outPts c (outAt m n c) : sProp 𝕄)
      ⊢ iprop((outPts c (outAt m n' c) -∗ run c (k' ⟨⟩) Q) -∗ run c (.op (.store outM (updR k c) w Finset.univ hx hm) k') Q) := by
  obtain ⟨rfl, rfl, h⟩ := h
  refine out_store c (updR k c) _ _ ?_
  rw [outAt_succ, hw]; unfold update merge; rw [if_pos h]

/-- put in place in the all-gather. -/
theorem out_put (c : Dev nD) (k : Fin 20) (n n' : ℕ) (h : n = k.val ∧ n' = k.val + 1 ∧ 10 ≤ k.val) {w : (Sh k).Idx → Elt F .f32}
    (hw : w = extf .f32 (sent m k (peer k c) : Vec F (Sh k) .bf16) bitsLt_bf16_f32)
    {hx : (outM.access (updR k c)).Stores Finset.univ} {hm} {k' : PUnit → Prog (TpuEff nD τ sig (Elt F) Λ₀ .tc) α} {Q : α → sProp 𝕄} :
    (outPts c (outAt m n c) : sProp 𝕄)
      ⊢ iprop((outPts c (outAt m n' c) -∗ run c (k' ⟨⟩) Q) -∗ run c (.op (.store outM (updR k c) w Finset.univ hx hm) k') Q) := by
  obtain ⟨rfl, rfl, h⟩ := h
  refine out_store c (updR k c) _ _ ?_
  rw [outAt_succ, hw]; unfold update merge; rw [if_neg (by omega)]

end Rules

end Cert.Moe
end
-- ==== Proof.PartsA.lean ====
/-
# The first barrier, the device's own contribution, the first two exchanges started

One theorem per part of the body: what the part needs, what it leaves, one rule per effect.
-/
module

public import proofs.«01_k».proof.Proof.Glue

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (Fin 2) (Elt F) ℕ UU ℕ

variable (m : (ℓ : Loc nD τ sig) → Buf (Elt F) ℓ) (K : Dev nD × Cell → ℕ) (c : Dev nD)

/-! ## Before the first barrier -/

/-- What device `c` holds of exchange `k` before it knows the partner's slot. -/
def exPre (c : Dev nD) (k : Fin 20) : sProp 𝕄 :=
  iprop(stageAny c k ∗ dutyTok ER (sendCell k c) 0 0 ∗ dutyTok ER (recvCell k (peer k c)) 0 0
    ∗ atPos ER (sendCell k c) 0 ∅ 0 ∗ atPos ER (recvCell k c) 0 ∅ 0 ∗ cred (tallyAt (recvCell k c) 0 (credit k)))

/-- Device `c`'s state after `j` signals of the first barrier. -/
def Pre (c : Dev nD) (j : ℕ) : sProp 𝕄 :=
  iprop(records m K ∗ levAts L lv ∗ (∃ W, owes (c : Thread nD τ) (owedAt c 0 0 + owedB 0 c j) W)
    ∗ (atPos ER (barCell c) 0 ∅ 0 ∗ cred (tallyAt (barCell c) 0 5) ∗ cred (tallyAt (barCell c) 1 5)
      ∗ bigSep Finset.univ fun i : Fin 5 => dutyTok ER (barCell (flip i c)) 1 i)
    ∗ (bigSep (Finset.univ.filter fun i : Fin 5 => j ≤ i.val) fun i => iprop(dutyTok ER (barCell (flip i c)) 0 i ∗ barPay (flip i c) i))
    ∗ bigSep Finset.univ fun k => exPre c k)

/-- Partner by partner. -/
theorem by_way (Φ : Fin 20 → sProp 𝕄) :
    (bigSep Finset.univ fun i : Fin 5 => bigSep (Finset.univ.filter fun k => way k = i) Φ) = bigSep Finset.univ Φ := by
  rw [bigSep_congr (s := Finset.univ) (fun i _ => bigSep_filter Finset.univ (fun k => way k = i) Φ), bigSep_univ_comm]
  refine bigSep_congr fun k _ => ?_
  have e := bigSep_filter Finset.univ (fun i => way k = i) (fun _ => Φ k)
  rw [Finset.filter_eq, if_pos (Finset.mem_univ _), bigSep_singleton] at e
  exact e.symm

theorem barPay_all (c : Dev nD) : (bigSep Finset.univ fun i : Fin 5 => barPay (F := F) c i) = bigSep Finset.univ fun k => landAny (peer k c) k := by
  rw [← by_way]
  refine bigSep_congr fun i _ => ?_
  unfold barPay peer
  exact bigSep_congr fun k hk => by rw [(Finset.mem_filter.mp hk).2]

theorem pre_signal (i : Fin 5) (j j' : ℕ) (h : j = i.val ∧ j' = i.val + 1) (n : Dev nD) (hn : n = flip i c)
    {α : Type} {k' : PUnit → Prog (TpuEff nD τ sig (Elt F) Λ₀ .tc) α} {Q : α → sProp 𝕄} :
    Pre m K c j ⊢ iprop((Pre m K c j' -∗ run c (k' ⟨⟩) Q) -∗ run c (.op (.semSignal (Dev.tc n) barS 1) k') Q) := by
  obtain ⟨rfl, rfl⟩ := h
  subst hn
  unfold Pre
  iintro ⟨#Hr, Hl, ⟨%W, Ho⟩, HB, Ht, Hx⟩ Hk
  ihave Ht := (Entails.of_eq (show (bigSep (Finset.univ.filter fun j : Fin 5 => i.val ≤ j.val) fun i => iprop(dutyTok ER (barCell (flip i c)) 0 i ∗ barPay (F := F) (flip i c) i))
      = iprop((dutyTok ER (barCell (flip i c)) 0 i ∗ barPay (flip i c) i)
        ∗ bigSep (Finset.univ.filter fun j : Fin 5 => i.val + 1 ≤ j.val) fun i => iprop(dutyTok ER (barCell (flip i c)) 0 i ∗ barPay (flip i c) i)) by
    rw [filter_step, bigSep_insert (filter_fresh i)]; rfl)) $$ Ht
  icases Ht with ⟨⟨Ht, Hp⟩, Hts⟩
  iapply (Rounds.wp_signal 𝒱₀ ER (moeRd m) (c : Thread nD τ) none (dst := (flip i c : Thread nD τ)) (κ := K (flip i c, none)) (r := 0)
      (d := i) (W := W) (O₀ := owedAt c 0 0 + owedB 0 c i.val) (by rw [duties_bar m _ 0 (by decide)]; exact Finset.mem_univ _)
      (amount_bar m (flip i c) 0 i) 0 (owedAt c 0 0 + owedB 0 c (i.val + 1)) (by rw [owedB_step, add_assoc]))
    $$ [Ho Ht Hp]
  · isplitr; · iapply (inv_at m K (flip i c, none)); iexact Hr
    isplitl [Ho]; · iexact Ho
    isplitl [Ht]; · iexact Ht
    isplitl [Hp]; · rw [payload_bar_zero]; iexact Hp
    iapply (reached_at m K (flip i c, none)); iexact Hr
  iintro Ho
  iapply Hk
  isplitr; · iexact Hr
  isplitl [Hl]; · iexact Hl
  isplitl [Ho]; · iexists W; iexact Ho
  isplitl [HB]; · iexact HB
  isplitl [Hts] <;> iassumption

theorem exPre_one (k : Fin 20) : iprop(landAny (F := F) (peer k c) k ∗ exPre c k) ⊢ exRes m c k (phase 0 0 0 0 k) := by
  rw [phase_0 k (Nat.zero_le _) (Nat.zero_le _) (Nat.zero_le _) (Nat.zero_le _), exRes_0]
  unfold exPre
  iintro ⟨Hl, Hs, H⟩
  isplitl [Hs]; · iexact Hs
  isplitl [Hl] <;> iassumption

theorem exPre_all : (bigSep Finset.univ fun k => iprop(landAny (F := F) (peer k c) k ∗ exPre c k))
    ⊢ bigSep Finset.univ fun k => exRes m c k (phase 0 0 0 0 k) :=
  bigSep_mono fun k _ => exPre_one m c k

theorem pre_meet {α : Type} {k' : PUnit → Prog (TpuEff nD τ sig (Elt F) Λ₀ .tc) α} {Q : α → sProp 𝕄} :
    Pre m K c 5 ⊢ iprop((St m K c 0 0 0 0 0 -∗ run c (k' ⟨⟩) Q) -∗ run c (.op (.semWait barS 5) k') Q) := by
  unfold Pre
  iintro ⟨#Hr, #Hl, ⟨%W, Ho⟩, ⟨Ha, Hc, Hc', Ht'⟩, -, Hx⟩ Hk
  ihave Ho := (Entails.of_eq (show (owes (c : Thread nD τ) (owedAt c 0 0 + owedB 0 c 5) W : sProp 𝕄) = owes (c : Thread nD τ) (owedAt c 0 0) W by
    rw [owedB_end, add_zero])) $$ Ho
  iapply (Rounds.wp_wait_rest_token 𝒱₀ ER (moeRd m) (c : Thread nD τ) none (κ := K (c, none))
      (wpE_semWait_eq 𝒱₀ (c : Thread nD τ) none Set.univ) (Set.mem_univ _) 0 (O := owedAt c 0 0) (W := W) (R := 0) (m := 0) (T := ∅)
      (by rw [expect_bar m c 0 (by decide)])) $$ [Hc Ho Ha]
  · isplitr; · iapply (inv_at m K (c, none)); iexact Hr
    isplitl [Hc]; · iexact Hc
    isplitl [Ho]; · iexact Ho
    isplitr; · iapply (mayWait_bar0 c); iexact Hl
    iexact Ha
  iintro ⟨Ho, Ha, Hb, Hp⟩
  ihave Hp := (Entails.of_eq ((rest_bar_zero m c).trans (barPay_all c))) $$ Hp
  iapply Hk
  unfold St
  isplitr; · iexact Hr
  isplitr; · iexact Hl
  isplitl [Hb]; · iexact Hb
  isplitl [Ho]; · iexists _; iexact Ho
  isplitl [Ha Hc' Ht']
  · unfold barRes; rw [if_pos (by decide), Finset.filter_true_of_mem (fun _ _ => Nat.zero_le _)]
    isplitl [Ha]; · iexact Ha
    isplitl [Hc'] <;> iassumption
  ihave Hx := (Entails.of_eq (bigSep_sep' Finset.univ (fun k => landAny (F := F) (peer k c) k) (fun k => exPre c k)).symm) $$ [Hp Hx]
  · isplitl [Hp] <;> iassumption
  iapply (exPre_all m c)
  iexact Hx

/-! ## The operands -/

/-- The staged operands of device `c`. -/
def inPts (c : Dev nD) : sProp 𝕄 :=
  iprop((((c : Thread nD τ).loc cc0_stg0_0) ↦{fullShare} xIn m c) ∗ (((c : Thread nD τ).loc cc0_stg1_0) ↦{fullShare} routerIn m c)
    ∗ (((c : Thread nD τ).loc cc0_stg2_0) ↦{fullShare} routeIn m c) ∗ (((c : Thread nD τ).loc cc0_stg3_0) ↦{fullShare} expertIn m c))

theorem in_load {cs : CoreSpace} {S : Shape} {e : EltTy} (M : Memref sig .tc cs S e) (r : Rect S) (f : Buf (Elt F) (M.view.loc (c : Thread nD τ)))
    {hl : M.view.LoadsAt r.toLoadRect} {α : Type}
    {k' : (r.toLoadRect.shape.Idx → Elt F e) → Prog (TpuEff nD τ sig (Elt F) Λ₀ .tc) α} {Q : α → sProp 𝕄} :
    ((M.view.loc (c : Thread nD τ) ↦{fullShare} f) : sProp 𝕄)
      ⊢ iprop(((M.view.loc (c : Thread nD τ) ↦{fullShare} f) -∗ run c (k' (M.view.readAt (Elt F) r.toLoadRect f)) Q)
        -∗ run c (.op (.load M r.toLoadRect hl) k') Q) := by
  iintro H Hk
  iapply (wp_load 𝒱₀ (c : Thread nD τ) none Set.univ (m := M) (r := r.toLoadRect) (S := Finset.univ) (f := f) (Finset.subset_univ _)) $$ H
  iintro H
  iapply Hk
  iexact H

/-- Half `h` of expert `e`'s weights is read. -/
theorem load_E (e : Fin 4) (h : Fin 2)
    {hl : (Memref.whole cc0_stg3_0 : Memref sig .tc _ _ _).view.LoadsAt (Rect.unit (s := S4x512x1024) ![e.val, 0, 512 * h.val] S1x512x512.size (ldE_inb e h)).toLoadRect} {α : Type}
    {k' : _ → Prog (TpuEff nD τ sig (Elt F) Λ₀ .tc) α} {Q : α → sProp 𝕄} :
    ((((c : Thread nD τ).loc cc0_stg3_0) ↦{fullShare} expertIn m c) : sProp 𝕄)
      ⊢ iprop(((((c : Thread nD τ).loc cc0_stg3_0) ↦{fullShare} expertIn m c) -∗ run c (k' (ldE m c e h)) Q)
        -∗ run c (.op (.load (Memref.whole cc0_stg3_0) (Rect.unit (s := S4x512x1024) ![e.val, 0, 512 * h.val] S1x512x512.size (ldE_inb e h)).toLoadRect hl) k') Q) :=
  in_load c (Memref.whole cc0_stg3_0) _ (expertIn m c)

/-! ## The parts -/

theorem part1 (Q : _ → sProp 𝕄) :
    iprop(∀ w3 w4 w5 w6 w7 w8 w9 w10 w11 w12 w13 w14 w15 w16 w17 w18 w19 w20 w21, Q ⟨c, devW c, w3, w4, w5, w6, w7, w8, w9, w10, w11, w12, w13, w14, w15, w16, w17, w18, w19, w20, w21⟩) ⊢ run c (atArgs (k0_part1 (F := F))) Q := by
  unfold atArgs run devW
  rw [k0_part1_eq_skeleton]; unfold k0_part1_skel
  simp only [Prog.lift, Prog.bind_op, Prog.bind_ret, Prog.pure_eq_ret, wp_deviceId]
  rw [wp_ret]
  iintro H
  imodintro
  iapply H

theorem part2 (v3 v4 v5 v6 v7 v29 : BitVec 32) (Q : _ → sProp 𝕄) :
    iprop(Pre m K c 0 ∗ inPts m c ∗ (∀ r0 r1, (St m K c 0 0 0 0 0 ∗ inPts m c) -∗ Q ⟨r0, r1, barrier, vX m c, vExp m c, vSum m c⟩))
      ⊢ run c (atArgs (k0_part2 (F := F)) c (devW c) v3 v4 v5 v6 v7 v29) Q := by
  unfold atArgs
  rw [k0_part2_eq_skeleton]; unfold k0_part2_skel
  simp only [semSignalWord, semWaitWord, Prog.lift, Prog.bind_op, Prog.bind_ret, Prog.pure_eq_ret]
  unfold inPts
  iintro ⟨H, ⟨Hx, Hr, Hin⟩, Hk⟩
  iapply (pre_signal m K c 0 0 1 (by decide) _ (dev1 c)) $$ H
  iintro H
  iapply (pre_signal m K c 1 1 2 (by decide) _ (dev2 c)) $$ H
  iintro H
  iapply (pre_signal m K c 2 2 3 (by decide) _ (dev3 c)) $$ H
  iintro H
  iapply (pre_signal m K c 3 3 4 (by decide) _ (dev4 c)) $$ H
  iintro H
  iapply (pre_signal m K c 4 4 5 (by decide) _ (dev5 c)) $$ H
  iintro H
  iapply (pre_meet m K c) $$ H
  iintro H
  iapply (in_load c (Memref.whole cc0_stg0_0) _ (xIn m c)) $$ Hx
  iintro Hx
  iapply (in_load c (Memref.whole cc0_stg1_0) _ (routerIn m c)) $$ Hr
  iintro Hr
  unfold vX vExp vSum ldX ldR
  iapply (run_done c)
  iapply Hk
  isplitl [H]; · iexact H
  isplitl [Hx]; · iexact Hx
  isplitl [Hr] <;> iassumption

theorem part3 (Q : _ → sProp 𝕄) :
    iprop(inPts m c ∗ (inPts m c -∗ Q ⟨vI0 m c, vI1 m c, vW0 m c, vW1 m c, vC0 m c, vC1 m c, 4#32⟩))
      ⊢ run c (atArgs (k0_part3 (F := F)) (devW c) (vExp m c) (vSum m c)) Q := by
  unfold atArgs
  rw [k0_part3_eq_skeleton]; unfold k0_part3_skel
  simp only [Prog.lift, Prog.bind_op, Prog.bind_ret, Prog.pure_eq_ret]
  unfold inPts
  iintro ⟨⟨Hx, Hr, Hi, He⟩, Hk⟩
  iapply (in_load c (Memref.whole cc0_stg2_0) _ (routeIn m c)) $$ Hi
  iintro Hi
  iapply (in_load c (Memref.whole cc0_stg2_0) _ (routeIn m c)) $$ Hi
  iintro Hi
  unfold vI0 vI1 vW0 vW1 vC0 vC1 ldI0 ldI1
  iapply (run_done c)
  iapply Hk
  isplitl [Hx]; · iexact Hx
  isplitl [Hr]; · iexact Hr
  isplitl [Hi] <;> iassumption

theorem part4 (Q : _ → sProp 𝕄) :
    iprop(inPts m c ∗ (inPts m c -∗ Q ⟨vX0 m c, vX1 m c, vX2 m c, vX3 m c, vA01 m c, vE2 m c⟩))
      ⊢ run c (atArgs (k0_part4 (F := F)) (devW c) (vX m c) (vI0 m c) (vI1 m c) (vW0 m c) (vW1 m c) (vC0 m c) (vC1 m c) 4#32) Q := by
  unfold atArgs
  rw [k0_part4_eq_skeleton]; unfold k0_part4_skel
  simp only [Prog.lift, Prog.bind_op, Prog.bind_ret, Prog.pure_eq_ret]
  unfold inPts
  iintro ⟨⟨Hx, Hr, Hi, He⟩, Hk⟩
  iapply (load_E m c 0 0) $$ He
  iintro He
  iapply (load_E m c 1 0) $$ He
  iintro He
  iapply (load_E m c 2 0) $$ He
  iintro He
  unfold vX0 vX1 vX2 vX3 vA01 vE2
  iapply (run_done c)
  iapply Hk
  isplitl [Hx]; · iexact Hx
  isplitl [Hr]; · iexact Hr
  isplitl [Hi] <;> iassumption

theorem sent_zero (f : OutC F) : cut 0 (outRead 0 c (withLeft m c f)) = sent m 0 c := by
  rw [sent_eq, outRead_zero]; rfl

theorem part5 (f : OutC F) (v3 v14 : BitVec 32) (Q : _ → sProp 𝕄) :
    iprop(St m K c 0 0 0 0 0 ∗ inPts m c ∗ outPts c f ∗ ((St m K c 1 1 0 0 0 ∗ inPts m c ∗ outPts c (withLeft m c f)) -∗ Q (vB0 m c)))
      ⊢ run c (atArgs (k0_part5 (F := F)) c v3 v14 (vX0 m c) (vX2 m c) (vX3 m c) (vA01 m c) (vE2 m c)) Q := by
  unfold atArgs
  rw [k0_part5_eq_skeleton]; unfold k0_part5_skel
  simp only [Prog.lift, Prog.bind_op, Prog.bind_ret, Prog.pure_eq_ret]
  unfold inPts
  iintro ⟨H, ⟨Hx, Hr, Hi, He⟩, Ho, Hk⟩
  iapply (load_E m c 3 0) $$ He
  iintro He
  iapply (out_load c leftR f) $$ Ho
  iintro Ho
  iapply (out_store c leftR f (withLeft m c f) (w := halfA m c) rfl) $$ Ho
  iintro Ho
  iapply (out_load c (sendR 0 c) (withLeft m c f)) $$ Ho
  iintro Ho
  iapply (st_peek m K c 0 0 0 0 0 (by decide)) $$ H
  iintro %X H
  iapply (st_fill m K c 0 0 1 0 0 0 (by decide) (sent_zero m c f)) $$ H
  iintro H
  iapply (st_send m K c 0 1 0 1 0 0 (by decide) _ (dev6 c)) $$ H
  iintro H
  iapply (load_E m c 0 1) $$ He
  iintro He
  iapply (run_done c (a := vB0 m c))
  iapply Hk
  isplitl [H]; · iexact H
  isplitr [Ho]
  · isplitl [Hx]; · iexact Hx
    isplitl [Hr]; · iexact Hr
    isplitl [Hi] <;> iassumption
  iexact Ho

theorem left_both (f : OutC F) : (outM.access rightR).write (Elt F) (withLeft m c f) (halfB m c) Finset.univ = outAt m 0 c := by
  rw [outAt_zero]; exact withBoth_eq m c _ _

attribute [local irreducible] outAt sent in
theorem part6 (f : OutC F) (v8 v24 : BitVec 32) (Q : _ → sProp 𝕄) :
    iprop(St m K c 1 1 0 0 0 ∗ inPts m c ∗ outPts c (withLeft m c f) ∗ ((St m K c 2 1 0 0 0 ∗ inPts m c ∗ outPts c (outAt m 0 c)) -∗ Q ⟨⟩))
      ⊢ run c (atArgs (k0_part6 (F := F)) c v8 v24 (vX1 m c) (vX2 m c) (vX3 m c) (vB0 m c)) Q := by
  unfold atArgs
  rw [k0_part6_eq_skeleton]; unfold k0_part6_skel
  simp only [Prog.lift, Prog.bind_op, Prog.bind_ret, Prog.pure_eq_ret]
  unfold inPts
  iintro ⟨H, ⟨Hx, Hr, Hi, He⟩, Ho, Hk⟩
  iapply (load_E m c 1 1) $$ He
  iintro He
  iapply (load_E m c 2 1) $$ He
  iintro He
  iapply (load_E m c 3 1) $$ He
  iintro He
  iapply (out_load c rightR (withLeft m c f)) $$ Ho
  iintro Ho
  iapply (out_store c rightR (withLeft m c f) (outAt m 0 c) (w := halfB m c) (left_both m c f)) $$ Ho
  iintro Ho
  iapply (out_load c (sendR 1 c) (outAt m 0 c)) $$ Ho
  iintro Ho
  iapply (st_peek m K c 1 1 1 0 0 (by decide)) $$ H
  iintro %X H
  iapply (st_cut m K c 1 0 1 2 1 0 0 (by decide) rfl) $$ H
  iintro H
  iapply (run_done c)
  iapply Hk
  isplitl [H]; · iexact H
  isplitr [Ho]
  · isplitl [Hx]; · iexact Hx
    isplitl [Hr]; · iexact Hr
    isplitl [Hi] <;> iassumption
  iexact Ho

end Cert.Moe
end
-- ==== Proof.PartsB.lean ====
/-
# The first six steps of the reduce-scatter

One theorem per part of the body: what the part needs, what it leaves, one rule per effect.
-/
module

public import proofs.«01_k».proof.Proof.Glue

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (Fin 2) (Elt F) ℕ UU ℕ

variable (m : (ℓ : Loc nD τ sig) → Buf (Elt F) ℓ) (K : Dev nD × Cell → ℕ) (c : Dev nD)

attribute [local irreducible] outAt sent

theorem part7 (v3 v4 v14 v16 v24 : BitVec 32) (Q : (Σ' (v203 : BitVec 32), BitVec 32) → sProp 𝕄) :
    iprop(St m K c 2 1 0 0 0 ∗ outPts c (outAt m 0 c) ∗ (∀ r0 r1, (St m K c 3 2 1 0 0 ∗ outPts c (outAt m 1 c)) -∗ Q ⟨r0, r1⟩))
      ⊢ run c (atArgs (k0_part7 (F := F)) c v3 v4 v14 v16 v24) Q := by
  unfold atArgs
  rw [k0_part7_eq_skeleton]; unfold k0_part7_skel
  simp only [semSignalWord, semWaitWord, Prog.lift, Prog.bind_op, Prog.bind_ret, Prog.pure_eq_ret]
  iintro ⟨H, Ho, Hk⟩
  iapply (st_send m K c 1 2 1 2 0 0 (by decide) _ (dev7 c)) $$ H
  iintro H
  iapply (st_arrive m K c 0 2 2 0 1 0 (by decide)) $$ H
  iintro H
  iapply (out_load c (updR 0 c) (outAt m 0 c)) $$ Ho
  iintro Ho
  iapply (st_read m K c 0 2 2 1 0 (by decide)) $$ H
  iintro H
  iapply (out_load c (updR 0 c) (outAt m 0 c)) $$ Ho
  iintro Ho
  iapply (out_add m c 0 0 1 (by decide) rfl) $$ Ho
  iintro Ho
  iapply (out_load c (sendR 2 c) (outAt m 1 c)) $$ Ho
  iintro Ho
  iapply (st_peek m K c 2 2 2 1 0 (by decide)) $$ H
  iintro %X H
  iapply (st_cut m K c 2 1 2 3 2 1 0 (by decide) rfl) $$ H
  iintro H
  iapply (run_done c)
  iapply Hk
  isplitl [H] <;> iassumption

theorem part8 (v8 v9 v26 v205 : BitVec 32) (Q : PUnit → sProp 𝕄) :
    iprop(St m K c 3 2 1 0 0 ∗ outPts c (outAt m 1 c) ∗ ((St m K c 4 3 2 0 0 ∗ outPts c (outAt m 2 c)) -∗ Q ⟨⟩))
      ⊢ run c (atArgs (k0_part8 (F := F)) c v8 v9 v26 v205) Q := by
  unfold atArgs
  rw [k0_part8_eq_skeleton]; unfold k0_part8_skel
  simp only [semSignalWord, semWaitWord, Prog.lift, Prog.bind_op, Prog.bind_ret, Prog.pure_eq_ret]
  iintro ⟨H, Ho, Hk⟩
  iapply (st_send m K c 2 3 2 3 1 0 (by decide) _ (dev8 c)) $$ H
  iintro H
  iapply (st_arrive m K c 1 3 3 1 2 0 (by decide)) $$ H
  iintro H
  iapply (out_load c (updR 1 c) (outAt m 1 c)) $$ Ho
  iintro Ho
  iapply (st_read m K c 1 3 3 2 0 (by decide)) $$ H
  iintro H
  iapply (out_load c (updR 1 c) (outAt m 1 c)) $$ Ho
  iintro Ho
  iapply (out_add m c 1 1 2 (by decide) rfl) $$ Ho
  iintro Ho
  iapply (out_load c (sendR 3 c) (outAt m 2 c)) $$ Ho
  iintro Ho
  iapply (st_peek m K c 3 3 3 2 0 (by decide)) $$ H
  iintro %X H
  iapply (st_cut m K c 3 2 3 4 3 2 0 (by decide) rfl) $$ H
  iintro H
  iapply (run_done c)
  iapply Hk
  isplitl [H] <;> iassumption

theorem part9 (v4 v16 v18 v26 v203 v205 : BitVec 32) (Q : (Σ' (v271 : BitVec 32) (v273 : BitVec 32), FVec F S128x512 .bf16) → sProp 𝕄) :
    iprop(St m K c 4 3 2 0 0 ∗ outPts c (outAt m 2 c) ∗ (∀ r0 r1, (St m K c 4 4 3 0 0 ∗ outPts c (outAt m 3 c)) -∗ Q ⟨r0, r1, (k0_pay30 (outM.view.readAt (Elt F) (sendR 4 c).toLoadRect (outAt m 3 c)))⟩))
      ⊢ run c (atArgs (k0_part9 (F := F)) c v4 v16 v18 v26 v203 v205) Q := by
  unfold atArgs
  rw [k0_part9_eq_skeleton]; unfold k0_part9_skel
  simp only [semSignalWord, semWaitWord, Prog.lift, Prog.bind_op, Prog.bind_ret, Prog.pure_eq_ret]
  iintro ⟨H, Ho, Hk⟩
  iapply (st_send m K c 3 4 3 4 2 0 (by decide) _ (dev9 c)) $$ H
  iintro H
  iapply (st_arrive m K c 2 4 4 2 3 0 (by decide)) $$ H
  iintro H
  iapply (out_load c (updR 2 c) (outAt m 2 c)) $$ Ho
  iintro Ho
  iapply (st_read m K c 2 4 4 3 0 (by decide)) $$ H
  iintro H
  iapply (out_load c (updR 2 c) (outAt m 2 c)) $$ Ho
  iintro Ho
  iapply (out_add m c 2 2 3 (by decide) rfl) $$ Ho
  iintro Ho
  iapply (out_load c (sendR 4 c) (outAt m 3 c)) $$ Ho
  iintro Ho
  iapply (st_peek m K c 4 4 4 3 0 (by decide)) $$ H
  iintro %X H
  iapply (run_done c)
  iapply Hk
  isplitl [H] <;> iassumption

theorem part10 (v5 v9 v28 v273 : BitVec 32) (Q : (FVec F S128x512 .bf16) → sProp 𝕄) :
    iprop(St m K c 4 4 3 0 0 ∗ outPts c (outAt m 3 c) ∗ ((St m K c 5 5 4 0 0 ∗ outPts c (outAt m 4 c)) -∗ Q (k0_pay32 (outM.view.readAt (Elt F) (sendR 5 c).toLoadRect (outAt m 4 c)))))
      ⊢ run c (atArgs (k0_part10 (F := F)) c v5 v9 v28 v273 (k0_pay30 (outM.view.readAt (Elt F) (sendR 4 c).toLoadRect (outAt m 3 c)))) Q := by
  unfold atArgs
  rw [k0_part10_eq_skeleton]; unfold k0_part10_skel
  simp only [semSignalWord, semWaitWord, Prog.lift, Prog.bind_op, Prog.bind_ret, Prog.pure_eq_ret]
  iintro ⟨H, Ho, Hk⟩
  iapply (st_cut m K c 4 3 4 5 4 3 0 (by decide) rfl) $$ H
  iintro H
  iapply (st_send m K c 4 5 4 5 3 0 (by decide) _ (dev10 c)) $$ H
  iintro H
  iapply (st_arrive m K c 3 5 5 3 4 0 (by decide)) $$ H
  iintro H
  iapply (out_load c (updR 3 c) (outAt m 3 c)) $$ Ho
  iintro Ho
  iapply (st_read m K c 3 5 5 4 0 (by decide)) $$ H
  iintro H
  iapply (out_load c (updR 3 c) (outAt m 3 c)) $$ Ho
  iintro Ho
  iapply (out_add m c 3 3 4 (by decide) rfl) $$ Ho
  iintro Ho
  iapply (out_load c (sendR 5 c) (outAt m 4 c)) $$ Ho
  iintro Ho
  iapply (st_peek m K c 5 5 5 4 0 (by decide)) $$ H
  iintro %X H
  iapply (run_done c)
  iapply Hk
  isplitl [H] <;> iassumption

theorem part11 (v5 v10 v18 v20 v28 v271 v273 : BitVec 32) (Q : (Σ' (v339 : BitVec 32), BitVec 32) → sProp 𝕄) :
    iprop(St m K c 5 5 4 0 0 ∗ outPts c (outAt m 4 c) ∗ (∀ r0 r1, (St m K c 6 6 5 0 0 ∗ outPts c (outAt m 5 c)) -∗ Q ⟨r0, r1⟩))
      ⊢ run c (atArgs (k0_part11 (F := F)) c v5 v10 v18 v20 v28 v271 v273 (k0_pay32 (outM.view.readAt (Elt F) (sendR 5 c).toLoadRect (outAt m 4 c)))) Q := by
  unfold atArgs
  rw [k0_part11_eq_skeleton]; unfold k0_part11_skel
  simp only [semSignalWord, semWaitWord, Prog.lift, Prog.bind_op, Prog.bind_ret, Prog.pure_eq_ret]
  iintro ⟨H, Ho, Hk⟩
  iapply (st_cut m K c 5 4 5 6 5 4 0 (by decide) rfl) $$ H
  iintro H
  iapply (st_send m K c 5 6 5 6 4 0 (by decide) _ (dev11 c)) $$ H
  iintro H
  iapply (st_arrive m K c 4 6 6 4 5 0 (by decide)) $$ H
  iintro H
  iapply (out_load c (updR 4 c) (outAt m 4 c)) $$ Ho
  iintro Ho
  iapply (st_read m K c 4 6 6 5 0 (by decide)) $$ H
  iintro H
  iapply (out_load c (updR 4 c) (outAt m 4 c)) $$ Ho
  iintro Ho
  iapply (out_add m c 4 4 5 (by decide) rfl) $$ Ho
  iintro Ho
  iapply (run_done c)
  iapply Hk
  isplitl [H] <;> iassumption

theorem part12 (v6 v10 v30 v341 : BitVec 32) (Q : PUnit → sProp 𝕄) :
    iprop(St m K c 6 6 5 0 0 ∗ outPts c (outAt m 5 c) ∗ ((St m K c 7 7 6 0 0 ∗ outPts c (outAt m 6 c)) -∗ Q ⟨⟩))
      ⊢ run c (atArgs (k0_part12 (F := F)) c v6 v10 v30 v341) Q := by
  unfold atArgs
  rw [k0_part12_eq_skeleton]; unfold k0_part12_skel
  simp only [semSignalWord, semWaitWord, Prog.lift, Prog.bind_op, Prog.bind_ret, Prog.pure_eq_ret]
  iintro ⟨H, Ho, Hk⟩
  iapply (out_load c (sendR 6 c) (outAt m 5 c)) $$ Ho
  iintro Ho
  iapply (st_peek m K c 6 6 6 5 0 (by decide)) $$ H
  iintro %X H
  iapply (st_cut m K c 6 5 6 7 6 5 0 (by decide) rfl) $$ H
  iintro H
  iapply (st_send m K c 6 7 6 7 5 0 (by decide) _ (dev12 c)) $$ H
  iintro H
  iapply (st_arrive m K c 5 7 7 5 6 0 (by decide)) $$ H
  iintro H
  iapply (out_load c (updR 5 c) (outAt m 5 c)) $$ Ho
  iintro Ho
  iapply (st_read m K c 5 7 7 6 0 (by decide)) $$ H
  iintro H
  iapply (out_load c (updR 5 c) (outAt m 5 c)) $$ Ho
  iintro Ho
  iapply (out_add m c 5 5 6 (by decide) rfl) $$ Ho
  iintro Ho
  iapply (run_done c)
  iapply Hk
  isplitl [H] <;> iassumption

theorem part13 (v6 v11 v20 v30 v339 v341 : BitVec 32) (Q : (Σ' (v407 : BitVec 32) (v409 : BitVec 32), FVec F S64x512 .f32) → sProp 𝕄) :
    iprop(St m K c 7 7 6 0 0 ∗ outPts c (outAt m 6 c) ∗ (∀ r0 r1, (St m K c 8 8 7 0 0 ∗ outPts c (outAt m 6 c)) -∗ Q ⟨r0, r1, (k0_pay38 (outM.view.readAt (Elt F) (updR 6 c).toLoadRect (outAt m 6 c)) (sent m 6 (peer 6 c)))⟩))
      ⊢ run c (atArgs (k0_part13 (F := F)) c v6 v11 v20 v30 v339 v341) Q := by
  unfold atArgs
  rw [k0_part13_eq_skeleton]; unfold k0_part13_skel
  simp only [semSignalWord, semWaitWord, Prog.lift, Prog.bind_op, Prog.bind_ret, Prog.pure_eq_ret]
  iintro ⟨H, Ho, Hk⟩
  iapply (out_load c (sendR 7 c) (outAt m 6 c)) $$ Ho
  iintro Ho
  iapply (st_peek m K c 7 7 7 6 0 (by decide)) $$ H
  iintro %X H
  iapply (st_cut m K c 7 6 7 8 7 6 0 (by decide) rfl) $$ H
  iintro H
  iapply (st_send m K c 7 8 7 8 6 0 (by decide) _ (dev13 c)) $$ H
  iintro H
  iapply (st_arrive m K c 6 8 8 6 7 0 (by decide)) $$ H
  iintro H
  iapply (out_load c (updR 6 c) (outAt m 6 c)) $$ Ho
  iintro Ho
  iapply (st_read m K c 6 8 8 7 0 (by decide)) $$ H
  iintro H
  iapply (out_load c (updR 6 c) (outAt m 6 c)) $$ Ho
  iintro Ho
  iapply (run_done c)
  iapply Hk
  isplitl [H] <;> iassumption

end Cert.Moe
end
-- ==== Proof.PartsC.lean ====
/-
# The rest of the reduce-scatter, the second barrier, the start of the all-gather

One theorem per part of the body: what the part needs, what it leaves, one rule per effect.
-/
module

public import proofs.«01_k».proof.Proof.Glue

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (Fin 2) (Elt F) ℕ UU ℕ

variable (m : (ℓ : Loc nD τ sig) → Buf (Elt F) ℓ) (K : Dev nD × Cell → ℕ) (c : Dev nD)

attribute [local irreducible] outAt sent

theorem part14 (v7 v11 v22 v407 v409 : BitVec 32) (Q : (FVec F S64x512 .f32) → sProp 𝕄) :
    iprop(St m K c 8 8 7 0 0 ∗ outPts c (outAt m 6 c) ∗ ((St m K c 9 9 8 0 0 ∗ outPts c (outAt m 7 c)) -∗ Q (k0_pay40 (outM.view.readAt (Elt F) (updR 7 c).toLoadRect (outAt m 7 c)) (sent m 7 (peer 7 c)))))
      ⊢ run c (atArgs (k0_part14 (F := F)) c v7 v11 v22 v407 v409 (k0_pay38 (outM.view.readAt (Elt F) (updR 6 c).toLoadRect (outAt m 6 c)) (sent m 6 (peer 6 c)))) Q := by
  unfold atArgs
  rw [k0_part14_eq_skeleton]; unfold k0_part14_skel
  simp only [semSignalWord, semWaitWord, Prog.lift, Prog.bind_op, Prog.bind_ret, Prog.pure_eq_ret]
  iintro ⟨H, Ho, Hk⟩
  iapply (out_add m c 6 6 7 (by decide) rfl) $$ Ho
  iintro Ho
  iapply (out_load c (sendR 8 c) (outAt m 7 c)) $$ Ho
  iintro Ho
  iapply (st_peek m K c 8 8 8 7 0 (by decide)) $$ H
  iintro %X H
  iapply (st_cut m K c 8 7 8 9 8 7 0 (by decide) rfl) $$ H
  iintro H
  iapply (st_send m K c 8 9 8 9 7 0 (by decide) _ (dev14 c)) $$ H
  iintro H
  iapply (st_arrive m K c 7 9 9 7 8 0 (by decide)) $$ H
  iintro H
  iapply (out_load c (updR 7 c) (outAt m 7 c)) $$ Ho
  iintro Ho
  iapply (st_read m K c 7 9 9 8 0 (by decide)) $$ H
  iintro H
  iapply (run_done c)
  iapply Hk
  isplitl [H] <;> iassumption

theorem part15 (v7 v12 v22 v32 v407 v409 : BitVec 32) (Q : (Σ' (v475 : BitVec 32) (v477 : BitVec 32), FVec F S32x512 .f32) → sProp 𝕄) :
    iprop(St m K c 9 9 8 0 0 ∗ outPts c (outAt m 7 c) ∗ (∀ r0 r1, (St m K c 10 10 9 0 0 ∗ outPts c (outAt m 8 c)) -∗ Q ⟨r0, r1, (k0_pay42 (outM.view.readAt (Elt F) (updR 8 c).toLoadRect (outAt m 8 c)))⟩))
      ⊢ run c (atArgs (k0_part15 (F := F)) c v7 v12 v22 v32 v407 v409 (k0_pay40 (outM.view.readAt (Elt F) (updR 7 c).toLoadRect (outAt m 7 c)) (sent m 7 (peer 7 c)))) Q := by
  unfold atArgs
  rw [k0_part15_eq_skeleton]; unfold k0_part15_skel
  simp only [semSignalWord, semWaitWord, Prog.lift, Prog.bind_op, Prog.bind_ret, Prog.pure_eq_ret]
  iintro ⟨H, Ho, Hk⟩
  iapply (out_load c (updR 7 c) (outAt m 7 c)) $$ Ho
  iintro Ho
  iapply (out_add m c 7 7 8 (by decide) rfl) $$ Ho
  iintro Ho
  iapply (out_load c (sendR 9 c) (outAt m 8 c)) $$ Ho
  iintro Ho
  iapply (st_peek m K c 9 9 9 8 0 (by decide)) $$ H
  iintro %X H
  iapply (st_cut m K c 9 8 9 10 9 8 0 (by decide) rfl) $$ H
  iintro H
  iapply (st_send m K c 9 10 9 10 8 0 (by decide) _ (dev15 c)) $$ H
  iintro H
  iapply (st_arrive m K c 8 10 10 8 9 0 (by decide)) $$ H
  iintro H
  iapply (out_load c (updR 8 c) (outAt m 8 c)) $$ Ho
  iintro Ho
  iapply (run_done c)
  iapply Hk
  isplitl [H] <;> iassumption

theorem part16 (v3 v4 v5 v6 v12 v475 v477 : BitVec 32) (Q : PUnit → sProp 𝕄) :
    iprop(St m K c 10 10 9 0 0 ∗ outPts c (outAt m 8 c) ∗ ((St m K c 10 10 10 0 3 ∗ outPts c (outAt m 10 c)) -∗ Q ⟨⟩))
      ⊢ run c (atArgs (k0_part16 (F := F)) c v3 v4 v5 v6 v12 barrier v475 v477 (k0_pay42 (outM.view.readAt (Elt F) (updR 8 c).toLoadRect (outAt m 8 c)))) Q := by
  unfold atArgs
  rw [k0_part16_eq_skeleton]; unfold k0_part16_skel
  simp only [semSignalWord, semWaitWord, Prog.lift, Prog.bind_op, Prog.bind_ret, Prog.pure_eq_ret]
  iintro ⟨H, Ho, Hk⟩
  iapply (st_read m K c 8 10 10 9 0 (by decide)) $$ H
  iintro H
  iapply (out_load c (updR 8 c) (outAt m 8 c)) $$ Ho
  iintro Ho
  iapply (out_add m c 8 8 9 (by decide) rfl) $$ Ho
  iintro Ho
  iapply (st_arrive m K c 9 10 10 9 10 0 (by decide)) $$ H
  iintro H
  iapply (out_load c (updR 9 c) (outAt m 9 c)) $$ Ho
  iintro Ho
  iapply (st_read m K c 9 10 10 10 0 (by decide)) $$ H
  iintro H
  iapply (out_load c (updR 9 c) (outAt m 9 c)) $$ Ho
  iintro Ho
  iapply (out_add m c 9 9 10 (by decide) rfl) $$ Ho
  iintro Ho
  iapply (st_signal m K c 0 0 1 (by decide) _ (dev16 c)) $$ H
  iintro H
  iapply (st_signal m K c 1 1 2 (by decide) _ (dev17 c)) $$ H
  iintro H
  iapply (st_signal m K c 2 2 3 (by decide) _ (dev18 c)) $$ H
  iintro H
  iapply (run_done c)
  iapply Hk
  isplitl [H] <;> iassumption

theorem part17 (v7 v12 v475 v477 : BitVec 32) (Q : PUnit → sProp 𝕄) :
    iprop(St m K c 10 10 10 0 3 ∗ outPts c (outAt m 10 c) ∗ ((St m K c 12 11 10 0 6 ∗ outPts c (outAt m 10 c)) -∗ Q ⟨⟩))
      ⊢ run c (atArgs (k0_part17 (F := F)) c v7 v12 barrier v475 v477) Q := by
  unfold atArgs
  rw [k0_part17_eq_skeleton]; unfold k0_part17_skel
  simp only [semSignalWord, semWaitWord, Prog.lift, Prog.bind_op, Prog.bind_ret, Prog.pure_eq_ret]
  iintro ⟨H, Ho, Hk⟩
  iapply (st_signal m K c 3 3 4 (by decide) _ (dev19 c)) $$ H
  iintro H
  iapply (st_signal m K c 4 4 5 (by decide) _ (dev20 c)) $$ H
  iintro H
  iapply (st_meet m K c) $$ H
  iintro H
  iapply (out_load c (sendR 10 c) (outAt m 10 c)) $$ Ho
  iintro Ho
  iapply (st_peek m K c 10 10 10 10 6 (by decide)) $$ H
  iintro %X H
  iapply (st_cut m K c 10 10 10 11 10 10 6 (by decide) rfl) $$ H
  iintro H
  iapply (st_send m K c 10 11 10 11 10 6 (by decide) _ (dev21 c)) $$ H
  iintro H
  iapply (out_load c (sendR 11 c) (outAt m 10 c)) $$ Ho
  iintro Ho
  iapply (st_peek m K c 11 11 11 10 6 (by decide)) $$ H
  iintro %X H
  iapply (st_cut m K c 11 10 11 12 11 10 6 (by decide) rfl) $$ H
  iintro H
  iapply (run_done c)
  iapply Hk
  isplitl [H] <;> iassumption

theorem part18 (v7 v12 v22 v32 v475 v477 : BitVec 32) (Q : (BitVec 32) → sProp 𝕄) :
    iprop(St m K c 12 11 10 0 6 ∗ outPts c (outAt m 10 c) ∗ (∀ r0, (St m K c 12 12 12 0 6 ∗ outPts c (outAt m 11 c)) -∗ Q r0))
      ⊢ run c (atArgs (k0_part18 (F := F)) c v7 v12 v22 v32 v475 v477) Q := by
  unfold atArgs
  rw [k0_part18_eq_skeleton]; unfold k0_part18_skel
  simp only [semSignalWord, semWaitWord, Prog.lift, Prog.bind_op, Prog.bind_ret, Prog.pure_eq_ret]
  iintro ⟨H, Ho, Hk⟩
  iapply (st_send m K c 11 12 11 12 10 6 (by decide) _ (dev22 c)) $$ H
  iintro H
  iapply (st_arrive m K c 10 12 12 10 11 6 (by decide)) $$ H
  iintro H
  iapply (st_read m K c 10 12 12 11 6 (by decide)) $$ H
  iintro H
  iapply (out_load c (updR 10 c) (outAt m 10 c)) $$ Ho
  iintro Ho
  iapply (out_put m c 10 10 11 (by decide) rfl) $$ Ho
  iintro Ho
  iapply (st_arrive m K c 11 12 12 11 12 6 (by decide)) $$ H
  iintro H
  iapply (run_done c)
  iapply Hk
  isplitl [H] <;> iassumption

theorem part19 (v6 v11 v22 v32 v475 v477 v553 : BitVec 32) (Q : (Σ' (v575 : BitVec 32), BitVec 32) → sProp 𝕄) :
    iprop(St m K c 12 12 12 0 6 ∗ outPts c (outAt m 11 c) ∗ (∀ r0 r1, (St m K c 14 13 12 0 6 ∗ outPts c (outAt m 12 c)) -∗ Q ⟨r0, r1⟩))
      ⊢ run c (atArgs (k0_part19 (F := F)) c v6 v11 v22 v32 v475 v477 v553) Q := by
  unfold atArgs
  rw [k0_part19_eq_skeleton]; unfold k0_part19_skel
  simp only [semSignalWord, semWaitWord, Prog.lift, Prog.bind_op, Prog.bind_ret, Prog.pure_eq_ret]
  iintro ⟨H, Ho, Hk⟩
  iapply (st_read m K c 11 12 12 12 6 (by decide)) $$ H
  iintro H
  iapply (out_load c (updR 11 c) (outAt m 11 c)) $$ Ho
  iintro Ho
  iapply (out_put m c 11 11 12 (by decide) rfl) $$ Ho
  iintro Ho
  iapply (out_load c (sendR 12 c) (outAt m 12 c)) $$ Ho
  iintro Ho
  iapply (st_peek m K c 12 12 12 12 6 (by decide)) $$ H
  iintro %X H
  iapply (st_cut m K c 12 12 12 13 12 12 6 (by decide) rfl) $$ H
  iintro H
  iapply (st_send m K c 12 13 12 13 12 6 (by decide) _ (dev23 c)) $$ H
  iintro H
  iapply (out_load c (sendR 13 c) (outAt m 12 c)) $$ Ho
  iintro Ho
  iapply (st_peek m K c 13 13 13 12 6 (by decide)) $$ H
  iintro %X H
  iapply (st_cut m K c 13 12 13 14 13 12 6 (by decide) rfl) $$ H
  iintro H
  iapply (run_done c)
  iapply Hk
  isplitl [H] <;> iassumption

theorem part20 (v6 v11 v20 v30 v575 v577 : BitVec 32) (Q : (BitVec 32) → sProp 𝕄) :
    iprop(St m K c 14 13 12 0 6 ∗ outPts c (outAt m 12 c) ∗ (∀ r0, (St m K c 14 14 14 0 6 ∗ outPts c (outAt m 13 c)) -∗ Q r0))
      ⊢ run c (atArgs (k0_part20 (F := F)) c v6 v11 v20 v30 v575 v577) Q := by
  unfold atArgs
  rw [k0_part20_eq_skeleton]; unfold k0_part20_skel
  simp only [semSignalWord, semWaitWord, Prog.lift, Prog.bind_op, Prog.bind_ret, Prog.pure_eq_ret]
  iintro ⟨H, Ho, Hk⟩
  iapply (st_send m K c 13 14 13 14 12 6 (by decide) _ (dev24 c)) $$ H
  iintro H
  iapply (st_arrive m K c 12 14 14 12 13 6 (by decide)) $$ H
  iintro H
  iapply (st_read m K c 12 14 14 13 6 (by decide)) $$ H
  iintro H
  iapply (out_load c (updR 12 c) (outAt m 12 c)) $$ Ho
  iintro Ho
  iapply (out_put m c 12 12 13 (by decide) rfl) $$ Ho
  iintro Ho
  iapply (st_arrive m K c 13 14 14 13 14 6 (by decide)) $$ H
  iintro H
  iapply (run_done c)
  iapply Hk
  isplitl [H] <;> iassumption

end Cert.Moe
end
-- ==== Proof.PartsD.lean ====
/-
# The rest of the all-gather

One theorem per part of the body: what the part needs, what it leaves, one rule per effect.
-/
module

public import proofs.«01_k».proof.Proof.Glue

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (Fin 2) (Elt F) ℕ UU ℕ

variable (m : (ℓ : Loc nD τ sig) → Buf (Elt F) ℓ) (K : Dev nD × Cell → ℕ) (c : Dev nD)

attribute [local irreducible] outAt sent

theorem part21 (v5 v10 v20 v30 v575 v577 v615 : BitVec 32) (Q : (Σ' (v637 : BitVec 32), BitVec 32) → sProp 𝕄) :
    iprop(St m K c 14 14 14 0 6 ∗ outPts c (outAt m 13 c) ∗ (∀ r0 r1, (St m K c 16 15 14 0 6 ∗ outPts c (outAt m 14 c)) -∗ Q ⟨r0, r1⟩))
      ⊢ run c (atArgs (k0_part21 (F := F)) c v5 v10 v20 v30 v575 v577 v615) Q := by
  unfold atArgs
  rw [k0_part21_eq_skeleton]; unfold k0_part21_skel
  simp only [semSignalWord, semWaitWord, Prog.lift, Prog.bind_op, Prog.bind_ret, Prog.pure_eq_ret]
  iintro ⟨H, Ho, Hk⟩
  iapply (st_read m K c 13 14 14 14 6 (by decide)) $$ H
  iintro H
  iapply (out_load c (updR 13 c) (outAt m 13 c)) $$ Ho
  iintro Ho
  iapply (out_put m c 13 13 14 (by decide) rfl) $$ Ho
  iintro Ho
  iapply (out_load c (sendR 14 c) (outAt m 14 c)) $$ Ho
  iintro Ho
  iapply (st_peek m K c 14 14 14 14 6 (by decide)) $$ H
  iintro %X H
  iapply (st_cut m K c 14 14 14 15 14 14 6 (by decide) rfl) $$ H
  iintro H
  iapply (st_send m K c 14 15 14 15 14 6 (by decide) _ (dev25 c)) $$ H
  iintro H
  iapply (out_load c (sendR 15 c) (outAt m 14 c)) $$ Ho
  iintro Ho
  iapply (st_peek m K c 15 15 15 14 6 (by decide)) $$ H
  iintro %X H
  iapply (st_cut m K c 15 14 15 16 15 14 6 (by decide) rfl) $$ H
  iintro H
  iapply (run_done c)
  iapply Hk
  isplitl [H] <;> iassumption

theorem part22 (v5 v10 v18 v28 v637 v639 : BitVec 32) (Q : (BitVec 32) → sProp 𝕄) :
    iprop(St m K c 16 15 14 0 6 ∗ outPts c (outAt m 14 c) ∗ (∀ r0, (St m K c 16 16 15 0 6 ∗ outPts c (outAt m 15 c)) -∗ Q r0))
      ⊢ run c (atArgs (k0_part22 (F := F)) c v5 v10 v18 v28 v637 v639) Q := by
  unfold atArgs
  rw [k0_part22_eq_skeleton]; unfold k0_part22_skel
  simp only [semSignalWord, semWaitWord, Prog.lift, Prog.bind_op, Prog.bind_ret, Prog.pure_eq_ret]
  iintro ⟨H, Ho, Hk⟩
  iapply (st_send m K c 15 16 15 16 14 6 (by decide) _ (dev26 c)) $$ H
  iintro H
  iapply (st_arrive m K c 14 16 16 14 15 6 (by decide)) $$ H
  iintro H
  iapply (st_read m K c 14 16 16 15 6 (by decide)) $$ H
  iintro H
  iapply (out_load c (updR 14 c) (outAt m 14 c)) $$ Ho
  iintro Ho
  iapply (out_put m c 14 14 15 (by decide) rfl) $$ Ho
  iintro Ho
  iapply (run_done c)
  iapply Hk
  isplitl [H] <;> iassumption

theorem part23 (v4 v9 v18 v28 v637 v639 v677 : BitVec 32) (Q : (Σ' (v699 : BitVec 32) (v701 : BitVec 32) (v724 : BitVec 32), BitVec 32) → sProp 𝕄) :
    iprop(St m K c 16 16 15 0 6 ∗ outPts c (outAt m 15 c) ∗ (∀ r0 r1 r2 r3, (St m K c 18 17 16 0 6 ∗ outPts c (outAt m 16 c)) -∗ Q ⟨r0, r1, r2, r3⟩))
      ⊢ run c (atArgs (k0_part23 (F := F)) c v4 v9 v18 v28 v637 v639 v677) Q := by
  unfold atArgs
  rw [k0_part23_eq_skeleton]; unfold k0_part23_skel
  simp only [semSignalWord, semWaitWord, Prog.lift, Prog.bind_op, Prog.bind_ret, Prog.pure_eq_ret]
  iintro ⟨H, Ho, Hk⟩
  iapply (st_arrive m K c 15 16 16 15 16 6 (by decide)) $$ H
  iintro H
  iapply (st_read m K c 15 16 16 16 6 (by decide)) $$ H
  iintro H
  iapply (out_load c (updR 15 c) (outAt m 15 c)) $$ Ho
  iintro Ho
  iapply (out_put m c 15 15 16 (by decide) rfl) $$ Ho
  iintro Ho
  iapply (out_load c (sendR 16 c) (outAt m 16 c)) $$ Ho
  iintro Ho
  iapply (st_peek m K c 16 16 16 16 6 (by decide)) $$ H
  iintro %X H
  iapply (st_cut m K c 16 16 16 17 16 16 6 (by decide) rfl) $$ H
  iintro H
  iapply (st_send m K c 16 17 16 17 16 6 (by decide) _ (dev27 c)) $$ H
  iintro H
  iapply (out_load c (sendR 17 c) (outAt m 16 c)) $$ Ho
  iintro Ho
  iapply (st_peek m K c 17 17 17 16 6 (by decide)) $$ H
  iintro %X H
  iapply (st_cut m K c 17 16 17 18 17 16 6 (by decide) rfl) $$ H
  iintro H
  iapply (run_done c)
  iapply Hk
  isplitl [H] <;> iassumption

theorem part24 (v4 v9 v16 v26 v699 v701 v724 c0_i32_546 : BitVec 32) (Q : (BitVec 32) → sProp 𝕄) :
    iprop(St m K c 18 17 16 0 6 ∗ outPts c (outAt m 16 c) ∗ (∀ r0, (St m K c 18 18 17 0 6 ∗ outPts c (outAt m 17 c)) -∗ Q r0))
      ⊢ run c (atArgs (k0_part24 (F := F)) c v4 v9 v16 v26 v699 v701 v724 c0_i32_546) Q := by
  unfold atArgs
  rw [k0_part24_eq_skeleton]; unfold k0_part24_skel
  simp only [semSignalWord, semWaitWord, Prog.lift, Prog.bind_op, Prog.bind_ret, Prog.pure_eq_ret]
  iintro ⟨H, Ho, Hk⟩
  iapply (st_send m K c 17 18 17 18 16 6 (by decide) _ (dev28 c)) $$ H
  iintro H
  iapply (st_arrive m K c 16 18 18 16 17 6 (by decide)) $$ H
  iintro H
  iapply (st_read m K c 16 18 18 17 6 (by decide)) $$ H
  iintro H
  iapply (out_load c (updR 16 c) (outAt m 16 c)) $$ Ho
  iintro Ho
  iapply (out_put m c 16 16 17 (by decide) rfl) $$ Ho
  iintro Ho
  iapply (run_done c)
  iapply Hk
  isplitl [H] <;> iassumption

theorem part25 (v3 v16 v26 v699 v701 v739 : BitVec 32) (Q : (Σ' (v761 : BitVec 32) (v763 : BitVec 32), BitVec 32) → sProp 𝕄) :
    iprop(St m K c 18 18 17 0 6 ∗ outPts c (outAt m 17 c) ∗ (∀ r0 r1 r2, (St m K c 20 19 18 0 6 ∗ outPts c (outAt m 18 c)) -∗ Q ⟨r0, r1, r2⟩))
      ⊢ run c (atArgs (k0_part25 (F := F)) c v3 v16 v26 v699 v701 v739) Q := by
  unfold atArgs
  rw [k0_part25_eq_skeleton]; unfold k0_part25_skel
  simp only [semSignalWord, semWaitWord, Prog.lift, Prog.bind_op, Prog.bind_ret, Prog.pure_eq_ret]
  iintro ⟨H, Ho, Hk⟩
  iapply (st_arrive m K c 17 18 18 17 18 6 (by decide)) $$ H
  iintro H
  iapply (st_read m K c 17 18 18 18 6 (by decide)) $$ H
  iintro H
  iapply (out_load c (updR 17 c) (outAt m 17 c)) $$ Ho
  iintro Ho
  iapply (out_put m c 17 17 18 (by decide) rfl) $$ Ho
  iintro Ho
  iapply (out_load c (sendR 18 c) (outAt m 18 c)) $$ Ho
  iintro Ho
  iapply (st_peek m K c 18 18 18 18 6 (by decide)) $$ H
  iintro %X H
  iapply (st_cut m K c 18 18 18 19 18 18 6 (by decide) rfl) $$ H
  iintro H
  iapply (st_send m K c 18 19 18 19 18 6 (by decide) _ (dev29 c)) $$ H
  iintro H
  iapply (out_load c (sendR 19 c) (outAt m 18 c)) $$ Ho
  iintro Ho
  iapply (st_peek m K c 19 19 19 18 6 (by decide)) $$ H
  iintro %X H
  iapply (st_cut m K c 19 18 19 20 19 18 6 (by decide) rfl) $$ H
  iintro H
  iapply (run_done c)
  iapply Hk
  isplitl [H] <;> iassumption

theorem part26 (v3 v8 v14 v24 v761 v763 c1_i32_597 : BitVec 32) (Q : (BitVec 32) → sProp 𝕄) :
    iprop(St m K c 20 19 18 0 6 ∗ outPts c (outAt m 18 c) ∗ (∀ r0, (St m K c 20 20 19 0 6 ∗ outPts c (outAt m 19 c)) -∗ Q r0))
      ⊢ run c (atArgs (k0_part26 (F := F)) c v3 v8 v14 v24 v761 v763 c1_i32_597) Q := by
  unfold atArgs
  rw [k0_part26_eq_skeleton]; unfold k0_part26_skel
  simp only [semSignalWord, semWaitWord, Prog.lift, Prog.bind_op, Prog.bind_ret, Prog.pure_eq_ret]
  iintro ⟨H, Ho, Hk⟩
  iapply (st_send m K c 19 20 19 20 18 6 (by decide) _ (dev30 c)) $$ H
  iintro H
  iapply (st_arrive m K c 18 20 20 18 19 6 (by decide)) $$ H
  iintro H
  iapply (st_read m K c 18 20 20 19 6 (by decide)) $$ H
  iintro H
  iapply (out_load c (updR 18 c) (outAt m 18 c)) $$ Ho
  iintro Ho
  iapply (out_put m c 18 18 19 (by decide) rfl) $$ Ho
  iintro Ho
  iapply (run_done c)
  iapply Hk
  isplitl [H] <;> iassumption

theorem part27 (v801 : BitVec 32) (Q : PUnit → sProp 𝕄) :
    iprop(St m K c 20 20 19 0 6 ∗ outPts c (outAt m 19 c) ∗ ((St m K c 20 20 20 3 6 ∗ outPts c (outAt m 20 c)) -∗ Q ⟨⟩))
      ⊢ run c (atArgs (k0_part27 (F := F)) c v801) Q := by
  unfold atArgs
  rw [k0_part27_eq_skeleton]; unfold k0_part27_skel
  simp only [semSignalWord, semWaitWord, Prog.lift, Prog.bind_op, Prog.bind_ret, Prog.pure_eq_ret]
  iintro ⟨H, Ho, Hk⟩
  iapply (st_arrive m K c 19 20 20 19 20 6 (by decide)) $$ H
  iintro H
  iapply (st_read m K c 19 20 20 20 6 (by decide)) $$ H
  iintro H
  iapply (out_load c (updR 19 c) (outAt m 19 c)) $$ Ho
  iintro Ho
  iapply (out_put m c 19 19 20 (by decide) rfl) $$ Ho
  iintro Ho
  iapply (st_leave m K c 0 0 1 (by decide)) $$ H
  iintro H
  iapply (st_leave m K c 1 1 2 (by decide)) $$ H
  iintro H
  iapply (st_leave m K c 2 2 3 (by decide)) $$ H
  iintro H
  iapply (run_done c)
  iapply Hk
  isplitl [H] <;> iassumption

theorem part28 (Q : PUnit → sProp 𝕄) :
    iprop(St m K c 20 20 20 3 6 ∗ outPts c (outAt m 20 c) ∗ ((St m K c 20 20 20 8 6 ∗ outPts c (outAt m 20 c)) -∗ Q ⟨⟩))
      ⊢ run c (atArgs (k0_part28 (F := F)) ) Q := by
  unfold atArgs
  rw [k0_part28_eq_skeleton]; unfold k0_part28_skel
  simp only [semSignalWord, semWaitWord, Prog.lift, Prog.bind_op, Prog.bind_ret, Prog.pure_eq_ret]
  iintro ⟨H, Ho, Hk⟩
  iapply (st_leave m K c 3 3 4 (by decide)) $$ H
  iintro H
  iapply (st_leave m K c 4 4 5 (by decide)) $$ H
  iintro H
  iapply (st_leave m K c 5 5 6 (by decide)) $$ H
  iintro H
  iapply (st_leave m K c 6 6 7 (by decide)) $$ H
  iintro H
  iapply (st_leave m K c 7 7 8 (by decide)) $$ H
  iintro H
  iapply (run_done c)
  iapply Hk
  isplitl [H] <;> iassumption

theorem part29 (Q : PUnit → sProp 𝕄) :
    iprop(St m K c 20 20 20 8 6 ∗ outPts c (outAt m 20 c) ∗ ((St m K c 20 20 20 13 6 ∗ outPts c (outAt m 20 c)) -∗ Q ⟨⟩))
      ⊢ run c (atArgs (k0_part29 (F := F)) ) Q := by
  unfold atArgs
  rw [k0_part29_eq_skeleton]; unfold k0_part29_skel
  simp only [semSignalWord, semWaitWord, Prog.lift, Prog.bind_op, Prog.bind_ret, Prog.pure_eq_ret]
  iintro ⟨H, Ho, Hk⟩
  iapply (st_leave m K c 8 8 9 (by decide)) $$ H
  iintro H
  iapply (st_leave m K c 9 9 10 (by decide)) $$ H
  iintro H
  iapply (st_leave m K c 10 10 11 (by decide)) $$ H
  iintro H
  iapply (st_leave m K c 11 11 12 (by decide)) $$ H
  iintro H
  iapply (st_leave m K c 12 12 13 (by decide)) $$ H
  iintro H
  iapply (run_done c)
  iapply Hk
  isplitl [H] <;> iassumption

theorem part30 (Q : PUnit → sProp 𝕄) :
    iprop(St m K c 20 20 20 13 6 ∗ outPts c (outAt m 20 c) ∗ ((St m K c 20 20 20 18 6 ∗ outPts c (outAt m 20 c)) -∗ Q ⟨⟩))
      ⊢ run c (atArgs (k0_part30 (F := F)) ) Q := by
  unfold atArgs
  rw [k0_part30_eq_skeleton]; unfold k0_part30_skel
  simp only [semSignalWord, semWaitWord, Prog.lift, Prog.bind_op, Prog.bind_ret, Prog.pure_eq_ret]
  iintro ⟨H, Ho, Hk⟩
  iapply (st_leave m K c 13 13 14 (by decide)) $$ H
  iintro H
  iapply (st_leave m K c 14 14 15 (by decide)) $$ H
  iintro H
  iapply (st_leave m K c 15 15 16 (by decide)) $$ H
  iintro H
  iapply (st_leave m K c 16 16 17 (by decide)) $$ H
  iintro H
  iapply (st_leave m K c 17 17 18 (by decide)) $$ H
  iintro H
  iapply (run_done c)
  iapply Hk
  isplitl [H] <;> iassumption

end Cert.Moe
end
-- ==== Proof.Body.lean ====
/-
# The whole body

The parts in order, and the last two transfers seen to leave.
-/
module

public import proofs.«01_k».proof.Proof.PartsA
public import proofs.«01_k».proof.Proof.PartsB
public import proofs.«01_k».proof.Proof.PartsC
public import proofs.«01_k».proof.Proof.PartsD

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (Fin 2) (Elt F) ℕ UU ℕ

variable (m : (ℓ : Loc nD τ sig) → Buf (Elt F) ℓ) (K : Dev nD × Cell → ℕ) (c : Dev nD)

theorem run_bind {α β : Type} {p : Prog (TpuEff nD τ sig (Elt F) Λ₀ .tc) α} {k : α → Prog (TpuEff nD τ sig (Elt F) Λ₀ .tc) β} {Q : β → sProp 𝕄} :
    run c p (fun a => run c (k a) Q) ⊢ run c (p >>= k) Q := by
  unfold run
  rw [wp_bind]

theorem whole (f : OutC F) (Q : PUnit → sProp 𝕄) :
    iprop(Pre m K c 0 ∗ inPts m c ∗ outPts c f ∗ ((St m K c 20 20 20 20 6 ∗ inPts m c ∗ outPts c (outAt m 20 c)) -∗ Q ⟨⟩))
      ⊢ run c (atArgs (cc0_body (F := F))) Q := by
  unfold atArgs
  rw [cc0_body_eq_skeleton]; unfold cc0_body_skel
  iintro ⟨H, Hin, Ho, Hk⟩
  iapply (run_bind c)
  iapply (part1 c)
  iintro %w3 %w4 %w5 %w6 %w7 %w8 %w9 %w10 %w11 %w12 %w13 %w14 %w15 %w16 %w17 %w18 %w19 %w20 %w21
  iapply (run_bind c)
  iapply (part2 m K c _ _ _ _ _ _)
  isplitl [H]; · iexact H
  isplitl [Hin]; · iexact Hin
  iintro %r0 %r1 ⟨H, Hin⟩
  iapply (run_bind c)
  iapply (part3 m c)
  isplitl [Hin]; · iexact Hin
  iintro Hin
  iapply (run_bind c)
  iapply (part4 m c)
  isplitl [Hin]; · iexact Hin
  iintro Hin
  iapply (run_bind c)
  iapply (part5 m K c f _ _)
  isplitl [H]; · iexact H
  isplitl [Hin]; · iexact Hin
  isplitl [Ho]; · iexact Ho
  iintro ⟨H, Hin, Ho⟩
  iapply (run_bind c)
  iapply (part6 m K c f _ _)
  isplitl [H]; · iexact H
  isplitl [Hin]; · iexact Hin
  isplitl [Ho]; · iexact Ho
  iintro ⟨H, Hin, Ho⟩
  iapply (run_bind c)
  iapply (part7 m K c _ _ _ _ _)
  isplitl [H]; · iexact H
  isplitl [Ho]; · iexact Ho
  iintro %q7_r0 %q7_r1 ⟨H, Ho⟩
  iapply (run_bind c)
  iapply (part8 m K c _ _ _ _)
  isplitl [H]; · iexact H
  isplitl [Ho]; · iexact Ho
  iintro ⟨H, Ho⟩
  iapply (run_bind c)
  iapply (part9 m K c _ _ _ _ _ _)
  isplitl [H]; · iexact H
  isplitl [Ho]; · iexact Ho
  iintro %q9_r0 %q9_r1 ⟨H, Ho⟩
  iapply (run_bind c)
  iapply (part10 m K c _ _ _ _)
  isplitl [H]; · iexact H
  isplitl [Ho]; · iexact Ho
  iintro ⟨H, Ho⟩
  iapply (run_bind c)
  iapply (part11 m K c _ _ _ _ _ _ _)
  isplitl [H]; · iexact H
  isplitl [Ho]; · iexact Ho
  iintro %q11_r0 %q11_r1 ⟨H, Ho⟩
  iapply (run_bind c)
  iapply (part12 m K c _ _ _ _)
  isplitl [H]; · iexact H
  isplitl [Ho]; · iexact Ho
  iintro ⟨H, Ho⟩
  iapply (run_bind c)
  iapply (part13 m K c _ _ _ _ _ _)
  isplitl [H]; · iexact H
  isplitl [Ho]; · iexact Ho
  iintro %q13_r0 %q13_r1 ⟨H, Ho⟩
  iapply (run_bind c)
  iapply (part14 m K c _ _ _ _ _)
  isplitl [H]; · iexact H
  isplitl [Ho]; · iexact Ho
  iintro ⟨H, Ho⟩
  iapply (run_bind c)
  iapply (part15 m K c _ _ _ _ _ _)
  isplitl [H]; · iexact H
  isplitl [Ho]; · iexact Ho
  iintro %q15_r0 %q15_r1 ⟨H, Ho⟩
  iapply (run_bind c)
  iapply (part16 m K c _ _ _ _ _ _ _)
  isplitl [H]; · iexact H
  isplitl [Ho]; · iexact Ho
  iintro ⟨H, Ho⟩
  iapply (run_bind c)
  iapply (part17 m K c _ _ _ _)
  isplitl [H]; · iexact H
  isplitl [Ho]; · iexact Ho
  iintro ⟨H, Ho⟩
  iapply (run_bind c)
  iapply (part18 m K c _ _ _ _ _ _)
  isplitl [H]; · iexact H
  isplitl [Ho]; · iexact Ho
  iintro %q18_r0 ⟨H, Ho⟩
  iapply (run_bind c)
  iapply (part19 m K c _ _ _ _ _ _ _)
  isplitl [H]; · iexact H
  isplitl [Ho]; · iexact Ho
  iintro %q19_r0 %q19_r1 ⟨H, Ho⟩
  iapply (run_bind c)
  iapply (part20 m K c _ _ _ _ _ _)
  isplitl [H]; · iexact H
  isplitl [Ho]; · iexact Ho
  iintro %q20_r0 ⟨H, Ho⟩
  iapply (run_bind c)
  iapply (part21 m K c _ _ _ _ _ _ _)
  isplitl [H]; · iexact H
  isplitl [Ho]; · iexact Ho
  iintro %q21_r0 %q21_r1 ⟨H, Ho⟩
  iapply (run_bind c)
  iapply (part22 m K c _ _ _ _ _ _)
  isplitl [H]; · iexact H
  isplitl [Ho]; · iexact Ho
  iintro %q22_r0 ⟨H, Ho⟩
  iapply (run_bind c)
  iapply (part23 m K c _ _ _ _ _ _ _)
  isplitl [H]; · iexact H
  isplitl [Ho]; · iexact Ho
  iintro %q23_r0 %q23_r1 %q23_r2 %q23_r3 ⟨H, Ho⟩
  iapply (run_bind c)
  iapply (part24 m K c _ _ _ _ _ _ _ _)
  isplitl [H]; · iexact H
  isplitl [Ho]; · iexact Ho
  iintro %q24_r0 ⟨H, Ho⟩
  iapply (run_bind c)
  iapply (part25 m K c _ _ _ _ _ _)
  isplitl [H]; · iexact H
  isplitl [Ho]; · iexact Ho
  iintro %q25_r0 %q25_r1 %q25_r2 ⟨H, Ho⟩
  iapply (run_bind c)
  iapply (part26 m K c _ _ _ _ _ _ _)
  isplitl [H]; · iexact H
  isplitl [Ho]; · iexact Ho
  iintro %q26_r0 ⟨H, Ho⟩
  iapply (run_bind c)
  iapply (part27 m K c _)
  isplitl [H]; · iexact H
  isplitl [Ho]; · iexact Ho
  iintro ⟨H, Ho⟩
  iapply (run_bind c)
  iapply (part28 m K c)
  isplitl [H]; · iexact H
  isplitl [Ho]; · iexact Ho
  iintro ⟨H, Ho⟩
  iapply (run_bind c)
  iapply (part29 m K c)
  isplitl [H]; · iexact H
  isplitl [Ho]; · iexact Ho
  iintro ⟨H, Ho⟩
  iapply (run_bind c)
  iapply (part30 m K c)
  isplitl [H]; · iexact H
  isplitl [Ho]; · iexact Ho
  iintro ⟨H, Ho⟩
  iapply (st_leave m K c 18 18 19 (by decide)) $$ H
  iintro H
  iapply (st_leave m K c 19 19 20 (by decide)) $$ H
  iintro H
  iapply (run_done c)
  iapply Hk
  isplitl [H]; · iexact H
  isplitl [Hin] <;> iassumption

end Cert.Moe
end
-- ==== Proof.Start.lean ====
/-
# The body between the launch and the end

What the launch deals a device becomes the state the body starts from; what the body leaves is closed.
-/
module

public import Idealize.ShloMosaic.Lib.Rounds.Family
public import proofs.«01_k».proof.Proof.Slots
public import proofs.«01_k».proof.Proof.Body

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (Fin 2) (Elt F) ℕ UU ℕ

variable (m : (ℓ : Loc nD τ sig) → Buf (Elt F) ℓ) (K : Dev nD × Cell → ℕ) (c : Dev nD)

/-! ## The data of the launch -/

/-- What the launch deals device `c`, the cells' invariants under the names `K`. -/
def ghost (K : Dev nD × Cell → ℕ) (c : Dev nD) : sProp 𝕄 :=
  iprop(records m K ∗ atPos ER (barCell c) 0 ∅ 0
    ∗ (bigSep Finset.univ fun i : Fin 5 => dutyTok ER (barCell (flip i c)) 0 i) ∗ (bigSep Finset.univ fun i : Fin 5 => dutyTok ER (barCell (flip i c)) 1 i)
    ∗ (bigSep Finset.univ fun k : Fin 20 => dutyTok ER (sendCell k c) 0 0) ∗ (bigSep Finset.univ fun k : Fin 20 => dutyTok ER (recvCell k (peer k c)) 0 0)
    ∗ (bigSep Finset.univ fun k : Fin 20 => atPos ER (sendCell k c) 0 ∅ 0) ∗ (bigSep Finset.univ fun k : Fin 20 => atPos ER (recvCell k c) 0 ∅ 0))

/-- What its body starts from, beside its buffers. -/
def start (c : Dev nD) : sProp 𝕄 :=
  iprop((∃ K, ghost m K c) ∗ cred (tallyAt (barCell c) 0 5) ∗ cred (tallyAt (barCell c) 1 5)
    ∗ (bigSep Finset.univ fun k : Fin 20 => cred (tallyAt (recvCell k c) 0 (credit k))) ∗ levAts L lv)

def Φ₀ (c : Dev nD) : sProp 𝕄 := iprop(start m c ∗ scratch c)
/-- After the body: the scratch buffers whole, every cell closed at zero. -/
def Φ₁ (c : Dev nD) : sProp 𝕄 :=
  iprop(scratch (F := F) c ∗ (bigSep Finset.univ fun k : Fin 20 => semVal (sendCell k c) 0) ∗ (bigSep Finset.univ fun k : Fin 20 => semVal (recvCell k c) 0)
    ∗ semVal (barCell c) 0)

def dats (_ : Fin 1) (c : Dev nD) : Dat τ (Elt F) (Fin 2) ℕ UU ℕ cfg0 c where
  A w := m ((cfg0.win w).arr.view.loc (c : Thread nD τ))
  after w _ := match w with
    | ⟨0, _⟩ => xIn m c
    | ⟨1, _⟩ => routerIn m c
    | ⟨2, _⟩ => routeIn m c
    | ⟨3, _⟩ => expertIn m c
    | ⟨4, _⟩ => outAt m 20 c
  Φ t := match t with
    | ⟨0, _⟩ => Φ₀ m c
    | ⟨_ + 1, _⟩ => Φ₁ c
  q _ := fullShare
  owed t := match t with
    | ⟨0, _⟩ => O₀ c
    | ⟨_ + 1, _⟩ => 0

def t₀ : Fin cfg0.N := t0_0
theorem fin_N (t : Fin cfg0.N) : t = t₀ := fin_N0 t

theorem bigSep_W (Φ : Fin cfg0.W → sProp 𝕄) : bigSep Finset.univ Φ = iprop(Φ (0 : Fin 5) ∗ Φ (1 : Fin 5) ∗ Φ (2 : Fin 5) ∗ Φ (3 : Fin 5) ∗ Φ (4 : Fin 5)) :=
  bigSep_W0 Φ

theorem owns_whole (c : Dev nD) (b : Ref sig .tc) (X : b.ty.Contents (Elt F)) :
    (owns (Ix := Fin 2) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-! ## Into the body and out of it -/

/-- What a device hands its partners are its own landing slots. -/
theorem own_slots (c : Dev nD) : (bigSep Finset.univ fun k => landAny (F := F) c k) ⊢ bigSep Finset.univ fun i : Fin 5 => barPay (flip i c) i := by
  rw [← by_way]
  refine Entails.of_eq (bigSep_congr fun i _ => ?_)
  unfold barPay
  rw [flip_flip]

theorem pre_of (W : Waits sig (Fin 2)) : iprop(ghost m K c ∗ cred (tallyAt (barCell c) 0 5) ∗ cred (tallyAt (barCell c) 1 5)
    ∗ (bigSep Finset.univ fun k : Fin 20 => cred (tallyAt (recvCell k c) 0 (credit k))) ∗ levAts L lv ∗ owes (c : Thread nD τ) (O₀ c) W
    ∗ (bigSep Finset.univ fun k => stageAny c k) ∗ (bigSep Finset.univ fun k => landAny c k)) ⊢ Pre m K c 0 := by
  unfold ghost Pre exPre
  rw [Finset.filter_true_of_mem (fun i _ => Nat.zero_le _)]
  simp only [bigSep_sep']
  iintro ⟨⟨Hr, Hab, Ht0, Ht1, Hts, Htr, Has, Har⟩, Hc0, Hc1, Hcr, Hl, Ho, HS, HL⟩
  isplitl [Hr]; · iexact Hr
  isplitl [Hl]; · iexact Hl
  isplitl [Ho]; · iexists W; unfold O₀; iexact Ho
  isplitl [Hab Hc0 Hc1 Ht1]
  · isplitl [Hab]; · iexact Hab
    isplitl [Hc0]; · iexact Hc0
    isplitl [Hc1] <;> iassumption
  isplitl [Ht0 HL]
  · isplitl [Ht0]; · iexact Ht0
    iapply (own_slots (F := F) c); iexact HL
  isplitl [HS]; · iexact HS
  isplitl [Hts]; · iexact Hts
  isplitl [Htr]; · iexact Htr
  isplitl [Has]; · iexact Has
  isplitl [Har] <;> iassumption

/-- What an exchange leaves. -/
theorem ex_done (k : Fin 20) : exRes m c k (phase 20 20 20 20 k)
    ⊢ iprop(stageAny c k ∗ landAny c k ∗ atPos ER (sendCell k c) 1 ∅ 0 ∗ atPos ER (recvCell k c) 1 ∅ 0) := by
  rw [phase_4 k k.isLt k.isLt k.isLt k.isLt, exRes_4]
  unfold stageSent landSent stageAny landAny
  iintro ⟨Hs, Hl, H1, H2⟩
  isplitl [Hs]; · iexists _; iexact Hs
  isplitl [Hl]; · iexists _; iexact Hl
  isplitl [H1] <;> iassumption

theorem ex_done_all : (bigSep Finset.univ fun k => exRes m c k (phase 20 20 20 20 k))
    ⊢ iprop((bigSep Finset.univ fun k => stageAny c k) ∗ (bigSep Finset.univ fun k => landAny c k)
      ∗ (bigSep Finset.univ fun k => atPos ER (sendCell k c) 1 ∅ 0) ∗ (bigSep Finset.univ fun k => atPos ER (recvCell k c) 1 ∅ 0)) := by
  rw [← bigSep_sep', ← bigSep_sep', ← bigSep_sep']
  exact bigSep_mono fun k _ => ex_done m c k

theorem along {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem with_inv (b : Bool) (k : Fin 20) : iprop(records m K ∗ atPos ER (kcell (c, some (b, k))) 1 ∅ 0)
    ⊢ iprop(cellInv ER (moeRd m) (K (c, some (b, k))) (kcell (c, some (b, k))) ∗ atPos ER (kcell (c, some (b, k))) 1 ∅ 0) := by
  iintro ⟨#H, Ha⟩
  isplitr; · iapply (inv_at m K (c, some (b, k))); iexact H
  iexact Ha

theorem close_dma (b : Bool) : iprop(records m K ∗ bigSep Finset.univ fun k : Fin 20 => atPos ER (kcell (c, some (b, k))) 1 ∅ 0)
    ⊢ (|={Set.univ}=> bigSep Finset.univ fun k : Fin 20 => semVal (kcell (c, some (b, k))) 0 : sProp 𝕄) :=
  (along fun k _ => with_inv m K c b k).trans (Rounds.cells_close ER (moeRd m) Finset.univ (fun k => kcell (c, some (b, k))) (fun k => K (c, some (b, k)))
    (fun _ _ => Set.mem_univ _) (fun _ _ h => h) (fun _ => 1) (fun k _ => by cases b <;> exact duties_dma_later m c _))

abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

def bodyPre (c : Dev nD) : sProp 𝕄 :=
  iprop(Φ₀ m c ∗ (dats m 0 c).owesAt (0 : Fin 2) t₀.castSucc
    ∗ (∃ d, stg c cc0_stg0_0 ((dats m 0 c).before (0 : Fin 5) t₀ d))
    ∗ (∃ d, stg c cc0_stg1_0 ((dats m 0 c).before (1 : Fin 5) t₀ d))
    ∗ (∃ d, stg c cc0_stg2_0 ((dats m 0 c).before (2 : Fin 5) t₀ d))
    ∗ (∃ d, stg c cc0_stg3_0 ((dats m 0 c).before (3 : Fin 5) t₀ d))
    ∗ (∃ d, stg c cc0_stg4_0 ((dats m 0 c).before (4 : Fin 5) t₀ d)))

def bodyPost (c : Dev nD) : sProp 𝕄 :=
  iprop(Φ₁ c ∗ (dats m 0 c).owesAt (0 : Fin 2) t₀.succ ∗ stg c cc0_stg0_0 (xIn m c) ∗ stg c cc0_stg1_0 (routerIn m c) ∗ stg c cc0_stg2_0 (routeIn m c) ∗ stg c cc0_stg3_0 (expertIn m c) ∗ stg c cc0_stg4_0 (outAt m 20 c))

theorem close_all (W : Waits sig (Fin 2)) (r : sProp 𝕄) : iprop(St m K c 20 20 20 20 6 ∗ scratchRest c)
    ⊢ |={Set.univ}=> iprop(Φ₁ (F := F) c ∗ ∃ W, owes (c : Thread nD τ) 0 W) := by
  unfold St barRes
  rw [if_neg (by decide), owedAt_end]
  iintro ⟨⟨#Hr, -, -, Ho, Hb, Hx⟩, Hrest⟩
  ihave Hx := (ex_done_all m c) $$ Hx
  icases Hx with ⟨HS, HL, H1, H2⟩
  imod (close_dma m K c false) $$ [H1] with H1
  · isplitr; · iexact Hr
    iexact H1
  imod (close_dma m K c true) $$ [H2] with H2
  · isplitr; · iexact Hr
    iexact H2
  imod (Rounds.cell_close ER (moeRd m) (Set.mem_univ (K (c, none))) (fun h => h) (R := 2) (duties_bar_later m c)) $$ [Hb] with Hb
  · isplitr; · iapply (inv_at m K (c, none)); iexact Hr
    iexact Hb
  imodintro
  unfold Φ₁
  isplitr [Ho]
  · isplitl [HS HL Hrest]
    · iapply (scratch_join (F := F) c)
      isplitl [HS]; · iexact HS
      isplitl [HL] <;> iassumption
    isplitl [H1]; · iexact H1
    isplitl [H2]; · iexact H2
    iexact Hb
  iexact Ho

theorem fetches (w : Fin cfg0.W) (h : w.val < 4) : (cfg0.win w).fetch t₀ = true := by
  revert w; decide +kernel

theorem sound_body (c : Dev nD) : bodyPre m c ⊢ run c (atArgs (cc0_body (F := F))) (fun _ => bodyPost m c) := by
  unfold bodyPre Φ₀ start
  iintro ⟨⟨⟨⟨%K, Hg⟩, Hc0, Hc1, Hcr, Hlev⟩, Hscr⟩, Ho, ⟨%d0, %g0, %hg0, H0⟩, ⟨%d1, %g1, %hg1, H1⟩, ⟨%d2, %g2, %hg2, H2⟩, ⟨%d3, %g3, %hg3, H3⟩,
    ⟨%d4, %g4, %hg4, H4⟩⟩
  have hx0 : g0 = xIn m c := by rw [hg0]; unfold Dat.before; rw [if_pos (fetches (0 : Fin 5) (by decide))]; rfl
  subst hx0
  have hx1 : g1 = routerIn m c := by rw [hg1]; unfold Dat.before; rw [if_pos (fetches (1 : Fin 5) (by decide))]; rfl
  subst hx1
  have hx2 : g2 = routeIn m c := by rw [hg2]; unfold Dat.before; rw [if_pos (fetches (2 : Fin 5) (by decide))]; rfl
  subst hx2
  have hx3 : g3 = expertIn m c := by rw [hg3]; unfold Dat.before; rw [if_pos (fetches (3 : Fin 5) (by decide))]; rfl
  subst hx3
  unfold Dat.owesAt Pipeline.owesWithin
  icases Ho with ⟨%W, %hW, HO⟩
  ihave HO := (Entails.of_eq (show (owes (c : Thread nD τ) ((dats m 0 c).owed t₀.castSucc) W : sProp 𝕄) = owes (c : Thread nD τ) (O₀ c) W from rfl)) $$ HO
  ihave Hscr := (scratch_cut (F := F) c) $$ Hscr
  icases Hscr with ⟨HS, HL, Hrest⟩
  ihave HP := (pre_of m K c W) $$ [Hg Hc0 Hc1 Hcr Hlev HO HS HL]
  · isplitl [Hg]; · iexact Hg
    isplitl [Hc0]; · iexact Hc0
    isplitl [Hc1]; · iexact Hc1
    isplitl [Hcr]; · iexact Hcr
    isplitl [Hlev]; · iexact Hlev
    isplitl [HO]; · iexact HO
    isplitl [HS] <;> iassumption
  iapply (Idealize.SL.Sem.wp_fupd)
  iapply (whole m K c g4 _)
  isplitl [HP]; · iexact HP
  isplitl [H0 H1 H2 H3]
  · unfold inPts
    isplitl [H0]; · iexact H0
    isplitl [H1]; · iexact H1
    isplitl [H2] <;> iassumption
  isplitl [H4]; · unfold outPts; iexact H4
  iintro ⟨H, Hin, Hout⟩
  imod (close_all m K c W iprop(emp)) $$ [H Hrest] with H
  · isplitl [H] <;> iassumption
  icases H with ⟨HΦ, ⟨%W', HO⟩⟩
  imodintro
  unfold inPts outPts
  icases Hin with ⟨H0, H1, H2, H3⟩
  unfold bodyPost Dat.owesAt Pipeline.owesWithin
  isplitl [HΦ]; · iexact HΦ
  isplitl [HO]
  · iexists W'
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  isplitl [H3]
  · iexists _; isplitr; · (ipureintro; rfl)
    iexact H3
  iexists _; isplitr; · (ipureintro; rfl)
  iexact Hout

attribute [local irreducible] cc0_body outAt xIn routerIn routeIn expertIn start scratch in
set_option maxRecDepth 8000 in
/-- The library's obligation on the body. -/
theorem body_obligation (c : Dev nD) : BodyObligation (dats (F := F) m 0 c) (defs₀ (F := F)) 𝒱₀ (0 : Fin 2) Set.univ := fun t => by
  rw [fin_N t]
  rw [bigSep_W, bigSep_W]
  simp only [owns_whole]
  show bodyPre m c ⊢ wp frame (wpE (defs₀ (F := F)) 𝒱₀ c none) Set.univ (atArgs (cc0_body (F := F))) (fun _ => bodyPost m c)
  exact sound_body m c

end Cert.Moe
end
-- ==== Proof.Launch.lean ====
/-
# The launch

The cells are opened, the tokens dealt to the devices that pay, and the run of the whole program follows.
-/
module

public import Idealize.ShloMosaic.Lib.Pipeline.CollectiveSegs
public import proofs.«01_k».proof.Proof.Start

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (Fin 2) (Elt F) ℕ UU ℕ

variable (m : (ℓ : Loc nD τ sig) → Buf (Elt F) ℓ) (K : Dev nD × Cell → ℕ) (c : Dev nD)

/-! ## Sums over a device's cells -/

theorem bigSep_cells (Φ : Cell → sProp 𝕄) : bigSep Finset.univ Φ = iprop(Φ none ∗ (bigSep Finset.univ fun k => Φ (some (false, k)))
    ∗ bigSep Finset.univ fun k => Φ (some (true, k))) := by
  rw [bigSep_univ_at Φ none, show (Finset.univ : Finset Cell).erase none = Finset.univ.map Function.Embedding.some from by decide +kernel, bigSep_map,
    bigSep_univ_prod, bigSep_univ_eq_bigSepL [false, true] (by decide) (by decide)]
  rfl

/-- Partner by partner, a family over all devices is the same family at the partners. -/
theorem at_partners (Φ : Fin 5 → Dev nD → sProp 𝕄) :
    (bigSep Finset.univ fun c : Dev nD => bigSep Finset.univ fun i : Fin 5 => Φ i c)
      = bigSep Finset.univ fun c : Dev nD => bigSep Finset.univ fun i : Fin 5 => Φ i (flip i c) := by
  rw [bigSep_univ_comm, bigSep_univ_comm (fun c i => Φ i (flip i c))]
  exact bigSep_congr fun i _ => bigSep_univ_equiv (flipEquiv i) (Φ i)

theorem at_peers (Φ : Fin 20 → Dev nD → sProp 𝕄) :
    (bigSep Finset.univ fun c : Dev nD => bigSep Finset.univ fun k : Fin 20 => Φ k c)
      = bigSep Finset.univ fun c : Dev nD => bigSep Finset.univ fun k : Fin 20 => Φ k (peer k c) := by
  rw [bigSep_univ_comm, bigSep_univ_comm (fun c k => Φ k (peer k c))]
  exact bigSep_congr fun k _ => bigSep_univ_equiv (flipEquiv (way k)) (Φ k)

/-! ## The launch element -/

abbrev osem : Bool × Fin 20 → SemLoc sig := fun p => cellSem (some p)

theorem ownSemFacts : Pipeline.OwnSemFacts cfg0.spec osem := by decide +kernel

theorem kcell_injective : Function.Injective kcell := by
  rintro ⟨c, k⟩ ⟨c', k'⟩ h
  have h1 : c = c' := congrArg (fun g : GSem nD τ sig => g.1.1) h
  have h2 : k = k' := cellSem_inj (congrArg Prod.snd h)
  rw [h1, h2]
def ourCells : Finset (GSem nD τ sig) := Finset.univ.map ⟨kcell, kcell_injective⟩

/-- A device's duty tokens: of its barrier's two rounds, and of its transfer cells. -/
abbrev Tok : Type := (Fin 2 × Fin 5) ⊕ (Bool × Fin 20)
def tokOf (x : Dev nD × Tok) : GSem nD τ sig × ℕ × Fin 5 := match x.2 with
  | .inl (r, i) => (barCell x.1, r.val, i)
  | .inr p => (kcell (x.1, some p), 0, 0)
theorem tokOf_injective : Function.Injective tokOf := by
  rintro ⟨c, t⟩ ⟨c', t'⟩ h
  have h1 : c = c' := by
    have := congrArg (fun x : GSem nD τ sig × ℕ × Fin 5 => x.1.1.1) h
    rcases t with ⟨r, i⟩ | p <;> rcases t' with ⟨r', i'⟩ | p' <;> exact this
  subst h1
  have hs : (tokOf (c, t)).1.2 = (tokOf (c, t')).1.2 := congrArg (fun x : GSem nD τ sig × ℕ × Fin 5 => x.1.2) h
  have hr : (tokOf (c, t)).2.1 = (tokOf (c, t')).2.1 := congrArg (fun x : GSem nD τ sig × ℕ × Fin 5 => x.2.1) h
  have hi : (tokOf (c, t)).2.2 = (tokOf (c, t')).2.2 := congrArg (fun x : GSem nD τ sig × ℕ × Fin 5 => x.2.2) h
  rcases t with ⟨r, i⟩ | p <;> rcases t' with ⟨r', i'⟩ | p'
  · have e1 : r = r' := Fin.ext hr
    have e2 : i = i' := hi
    rw [e1, e2]
  · have e : cellSem none = cellSem (some p') := hs
    exact absurd (cellSem_inj e) (by simp)
  · have e : cellSem (some p) = cellSem none := hs
    exact absurd (cellSem_inj e) (by simp)
  · have e : cellSem (some p) = cellSem (some p') := hs
    rw [Option.some.inj (cellSem_inj e)]
def ourToks : Finset (GSem nD τ sig × ℕ × Fin 5) := Finset.univ.map ⟨tokOf, tokOf_injective⟩

def u₀ : UU :=
  (initOf (Pipeline.cells cfgs cellOf_inj) (Pipeline.launchToks cfgs cellOf_inj), initOf ourCells ourToks)

/-- The tokens of device `c`'s own cells. -/
def toks (c : Dev nD) : sProp 𝕄 :=
  iprop(((bigSep Finset.univ fun i : Fin 5 => dutyTok ER (barCell c) 0 i) ∗ (bigSep Finset.univ fun i : Fin 5 => dutyTok ER (barCell c) 1 i))
    ∗ (bigSep Finset.univ fun k : Fin 20 => dutyTok ER (sendCell k c) 0 0) ∗ (bigSep Finset.univ fun k : Fin 20 => dutyTok ER (recvCell k c) 0 0))

/-- What the launch element gives device `c`; -/
def G (c : Dev nD) : sProp 𝕄 :=
  iprop((bigSep Finset.univ fun x : Cell => roundState ER (moeRd m) (kcell (c, x)) 0)
    ∗ (bigSep Finset.univ fun x : Cell => iprop(atPos ER (kcell (c, x)) 0 ∅ 0 ∗ reached ER (kcell (c, x)) 0)) ∗ toks c)
/-- what the global step makes of it. -/
def G' (c : Dev nD) : sProp 𝕄 := iprop(∃ K, ghost m K c)

theorem by_cell (Φ : GSem nD τ sig → sProp 𝕄) :
    bigSep ourCells Φ = bigSep Finset.univ fun c : Dev nD => bigSep Finset.univ fun x : Cell => Φ (kcell (c, x)) := by
  unfold ourCells; rw [bigSep_map, bigSep_univ_prod]; rfl

theorem by_tok : bigSep ourToks (fun x => (dutyTok ER x.1 x.2.1 x.2.2 : sProp 𝕄)) = bigSep Finset.univ fun c : Dev nD => toks c := by
  unfold ourToks; rw [bigSep_map, bigSep_univ_prod]
  refine bigSep_congr fun c _ => ?_
  unfold toks
  rw [bigSep_univ_sum, bigSep_univ_prod, bigSep_univ_prod, bigSep_univ_eq_bigSepL [(0 : Fin 2), 1] (by decide) (by decide),
    bigSep_univ_eq_bigSepL [false, true] (by decide) (by decide)]
  rfl

theorem fund_cells : BI.own (ER (initOf ourCells ourToks)) ⊢ (|==> bigSep Finset.univ (G m) : sProp 𝕄) := by
  iintro HX
  imod (Rounds.fund ER (moeRd m) ourCells ourToks) $$ HX with ⟨Hst, Hr, Hat, Htok⟩
  imodintro
  ihave Hst' := (Entails.of_eq (by_cell fun g => roundState ER (moeRd m) g 0)) $$ Hst
  ihave Hat' := (Entails.of_eq (by_cell (F := F) fun g => atPos ER g 0 ∅ 0)) $$ Hat
  ihave Hr' := (Entails.of_eq (by_cell (F := F) fun g => reached ER g 0)) $$ Hr
  ihave Htok' := (Entails.of_eq (by_tok (F := F))) $$ Htok
  unfold G; simp only [bigSep_sep']
  isplitl [Hst']; · iexact Hst'
  isplitl [Hat' Hr']
  · isplitl [Hat'] <;> iassumption
  iexact Htok'

theorem ownSems0_eq (c : Dev nD) : (Pipeline.ownSems0 (Ix := Fin 2) (Name := ℕ) (U := UU) (Lvl := ℕ) (Val := Elt F) (τ := τ) osem c : sProp 𝕄)
    = iprop((bigSep Finset.univ fun k : Fin 20 => semVal (sendCell k c) 0) ∗ (bigSep Finset.univ fun k : Fin 20 => semVal (recvCell k c) 0)) := by
  unfold Pipeline.ownSems0
  rw [bigSep_univ_prod, bigSep_univ_eq_bigSepL [false, true] (by decide) (by decide)]
  rfl
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Fin 2) (Name := ℕ) (U := UU) (Lvl := ℕ) (Val := Elt F) (τ := τ) osem c ∗ unscopedSems0 c)
      ⊢ (bigSep Finset.univ fun x : Cell => semVal (kcell (c, x)) 0 : sProp 𝕄) := by
  rw [ownSems0_eq, unscopedSems0_eq, bigSep_cells]
  iintro ⟨⟨HS, HV⟩, HB⟩
  isplitl [HB]; · iexact HB
  isplitl [HS]; · iexact HS
  iexact HV

theorem make_invs (c : Dev nD) : iprop((bigSep Finset.univ fun x : Cell => semVal (kcell (c, x)) 0) ∗ bigSep Finset.univ fun x : Cell => roundState ER (moeRd m) (kcell (c, x)) 0)
    ⊢ (|={Set.univ}=> bigSep Finset.univ fun x : Cell => iprop(∃ κ : ℕ, cellInv ER (moeRd m) κ (kcell (c, x))) : sProp 𝕄) := by
  rw [← bigSep_sep']
  exact (bigSep_mono fun x _ => (Rounds.body_intro ER (moeRd m) (kcell (c, x))).trans inv_alloc).trans (bigSep_fupd _ _)

theorem core_alloc (c : Dev nD) :
    iprop(Pipeline.ownSems0 (Ix := Fin 2) (Name := ℕ) (U := UU) (Lvl := ℕ) (Val := Elt F) (τ := τ) osem c ∗ unscopedSems0 c ∗ G m c)
      ⊢ |={Set.univ}=> iprop((bigSep Finset.univ fun x : Cell => iprop(∃ κ : ℕ, cellInv ER (moeRd m) κ (kcell (c, x))))
          ∗ (bigSep Finset.univ fun x : Cell => iprop(atPos ER (kcell (c, x)) 0 ∅ 0 ∗ reached ER (kcell (c, x)) 0)) ∗ toks c) := by
  unfold G
  iintro ⟨Hos, Hus, Hst, Hat, Htok⟩
  ihave Hv := (sems0_eq (F := F) c) $$ [Hos Hus]
  · isplitl [Hos] <;> iassumption
  imod (make_invs m c) $$ [Hv Hst] with Hinv
  · isplitl [Hv] <;> iassumption
  imodintro
  isplitl [Hinv]; · iexact Hinv
  isplitl [Hat]; · iexact Hat
  iexact Htok

/-- What stays with device `c`: its positions, and the tokens of the duties it pays. -/
def linear (c : Dev nD) : sProp 𝕄 :=
  iprop((bigSep Finset.univ fun x : Cell => atPos ER (kcell (c, x)) 0 ∅ 0)
    ∗ ((bigSep Finset.univ fun i : Fin 5 => dutyTok ER (barCell (flip i c)) 0 i) ∗ (bigSep Finset.univ fun i : Fin 5 => dutyTok ER (barCell (flip i c)) 1 i))
    ∗ (bigSep Finset.univ fun k : Fin 20 => dutyTok ER (sendCell k c) 0 0) ∗ (bigSep Finset.univ fun k : Fin 20 => dutyTok ER (recvCell k (peer k c)) 0 0))

theorem ghost_intro (c : Dev nD) : iprop(records m K ∗ linear c) ⊢ G' m c := by
  unfold linear G' ghost
  rw [bigSep_cells]
  iintro ⟨Hr, ⟨Hb, Hs, Hv⟩, ⟨Ht0, Ht1⟩, Hts, Htr⟩
  iexists K
  isplitl [Hr]; · iexact Hr
  isplitl [Hb]; · iexact Hb
  isplitl [Ht0]; · iexact Ht0
  isplitl [Ht1]; · iexact Ht1
  isplitl [Hts]; · iexact Hts
  isplitl [Htr]; · iexact Htr
  isplitl [Hs]; · iexact Hs
  iexact Hv

/-- The tokens dealt to the partners that pay. -/
theorem toks_dealt : iprop((bigSep Finset.univ fun c : Dev nD => bigSep Finset.univ fun x : Cell => atPos ER (kcell (c, x)) 0 ∅ 0)
    ∗ bigSep Finset.univ fun c : Dev nD => (toks c : sProp 𝕄)) ⊢ bigSep Finset.univ fun c : Dev nD => linear c := by
  unfold toks linear
  simp only [bigSep_sep']
  rw [at_partners (F := F) (fun i c => dutyTok ER (barCell c) 0 i), at_partners (F := F) (fun i c => dutyTok ER (barCell c) 1 i),
    at_peers (F := F) (fun k c => dutyTok ER (recvCell k c) 0 0)]

theorem ghost_all : iprop(records m K ∗ bigSep Finset.univ fun c : Dev nD => linear c) ⊢ bigSep Finset.univ (G' m) :=
  along fun c _ => ghost_intro m K c

theorem regroup :
    (bigSep Finset.univ fun c : Dev nD => iprop((bigSep Finset.univ fun x : Cell => iprop(∃ κ : ℕ, cellInv ER (moeRd m) κ (kcell (c, x))))
          ∗ (bigSep Finset.univ fun x : Cell => iprop(atPos ER (kcell (c, x)) 0 ∅ 0 ∗ reached ER (kcell (c, x)) 0)) ∗ toks c) : sProp 𝕄)
      ⊢ bigSep Finset.univ (G' m) := by
  simp only [bigSep_sep']
  rw [← bigSep_univ_prod (fun x : Dev nD × Cell => iprop(∃ κ : ℕ, cellInv ER (moeRd m) κ (kcell x))),
    ← bigSep_univ_prod (fun x : Dev nD × Cell => (reached ER (kcell x) 0 : sProp 𝕄))]
  iintro ⟨HI, ⟨Hat, #HR⟩, Htok⟩
  ihave HK := (BI.bigSep_exists_pi Finset.univ (fun (x : Dev nD × Cell) (κ : ℕ) => (cellInv ER (moeRd m) κ (kcell x) : sProp 𝕄))) $$ HI
  icases HK with ⟨%K, #HI⟩
  ihave Hl := (toks_dealt (F := F)) $$ [Hat Htok]
  · isplitl [Hat] <;> iassumption
  iapply (ghost_all m K)
  isplitr
  · unfold records; isplitl; · iexact HI
    iexact HR
  iexact Hl

/-- The global step: every device's semaphores at once. -/
theorem glob : (bigSep Finset.univ fun c => iprop(Pipeline.ownSems0 (Ix := Fin 2) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- What the devices together owe one cell, where each owes one cell of a family, its partner's. -/
theorem owed_family (s : SemLoc sig) (e : Dev nD ≃ Dev nD) (r ι : Fin 2) (n : ℕ) (c : Dev nD) :
    ∑ d : Dev nD, (tallyAt (((e d : Dev nD) : Thread nD τ), s) r n : CellTallies nD τ sig (Fin 2)) ((c : Thread nD τ), s) ι = if ι = r then n else 0 := by
  rw [Finset.sum_eq_single (e.symm c)]
  · rw [tallyAt_apply, Equiv.apply_symm_apply]; simp
  · intro d _ hd
    rw [tallyAt_apply, if_neg]
    rintro ⟨h, -⟩
    have h' : c = e d := congrArg (fun g : GSem nD τ sig => g.1.1) h
    exact hd (by rw [h', Equiv.symm_apply_apply])
  · intro h; exact absurd (Finset.mem_univ _) h

theorem owed_bar (i : Fin 5) (r ι : Fin 2) (c : Dev nD) :
    ∑ d : Dev nD, (tallyAt (barCell (flip i d)) r 1 : CellTallies nD τ sig (Fin 2)) (barCell c) ι = if ι = r then 1 else 0 :=
  owed_family (.reg barS) (flipEquiv i) r ι 1 c
theorem owed_recv (k : Fin 20) (ι : Fin 2) (c : Dev nD) :
    ∑ d : Dev nD, (tallyAt (recvCell k (peer k d)) 0 (credit k) : CellTallies nD τ sig (Fin 2)) (recvCell k c) ι = if ι = 0 then credit k else 0 :=
  owed_family (.dma (recvS k)) (flipEquiv (way k)) 0 ι (credit k) c

theorem owed_other (s s' : SemLoc sig) (h : s ≠ s') (d c : Dev nD) (r ι : Fin 2) (n : ℕ) :
    (tallyAt ((d : Thread nD τ), s) r n : CellTallies nD τ sig (Fin 2)) ((c : Thread nD τ), s') ι = 0 := by
  rw [tallyAt_apply, if_neg]
  rintro ⟨e, -⟩
  exact h (congrArg Prod.snd e).symm

theorem owed_apply (d : Dev nD) (g : GSem nD τ sig) (ι : Fin 2) : O₀ d g ι
    = ((∑ k : Fin 20, (tallyAt (recvCell k (peer k d)) 0 (credit k) : CellTallies nD τ sig (Fin 2)) g ι)
      + ∑ i : Fin 5, (tallyAt (barCell (flip i d)) 1 1 : CellTallies nD τ sig (Fin 2)) g ι)
      + ∑ i : Fin 5, (tallyAt (barCell (flip i d)) 0 1 : CellTallies nD τ sig (Fin 2)) g ι := by
  unfold O₀ owedAt owedX owedB
  rw [Finset.filter_true_of_mem (fun i _ => Nat.zero_le _), Finset.filter_true_of_mem (fun i _ => Nat.zero_le _)]
  simp only [Pi.add_apply, Finsupp.add_apply, Finset.sum_apply, Finsupp.finsetSum_apply]

theorem launch_bar (c : Dev nD) :
    tallyOn (barCell c) (launchCredit (Pipeline.owing O₀) 0 (barCell c)) = (tallyAt (barCell c) 0 5 + tallyAt (barCell c) 1 5 : CellTallies nD τ sig (Fin 2)) := by
  have e : launchCredit (Pipeline.owing O₀) 0 (barCell c) = (Finsupp.single 0 5 + Finsupp.single 1 5 : Tally (Fin 2)) := by
    refine Finsupp.ext fun ι => ?_
    rw [Pipeline.launchCredit_owing, Finset.sum_congr rfl fun d _ => owed_apply d _ ι, Finset.sum_add_distrib, Finset.sum_add_distrib,
      Finset.sum_comm (f := fun d k => (tallyAt (recvCell k (peer k d)) 0 (credit k) : CellTallies nD τ sig (Fin 2)) (barCell c) ι),
      Finset.sum_comm (f := fun d i => (tallyAt (barCell (flip i d)) 1 1 : CellTallies nD τ sig (Fin 2)) (barCell c) ι),
      Finset.sum_comm (f := fun d i => (tallyAt (barCell (flip i d)) 0 1 : CellTallies nD τ sig (Fin 2)) (barCell c) ι),
      Finset.sum_eq_zero fun k _ => Finset.sum_eq_zero fun d _ => owed_other _ _ (fun h => by cases h) (peer k d) c 0 ι _,
      Finset.sum_congr rfl fun i _ => owed_bar i 1 ι c, Finset.sum_congr rfl fun i _ => owed_bar i 0 ι c]
    rw [Finsupp.add_apply, Finsupp.single_apply, Finsupp.single_apply]
    revert ι; decide
  rw [e]
  unfold tallyAt tallyOn
  exact Pi.single_add (f := fun _ : GSem nD τ sig => Tally (Fin 2)) _ _ _

theorem launch_recv (c : Dev nD) (k : Fin 20) :
    tallyOn (recvCell k c) (launchCredit (Pipeline.owing O₀) 0 (recvCell k c)) = (tallyAt (recvCell k c) 0 (credit k) : CellTallies nD τ sig (Fin 2)) := by
  unfold tallyAt; refine congrArg _ (Finsupp.ext fun ι => ?_)
  rw [Pipeline.launchCredit_owing, Finset.sum_congr rfl fun d _ => owed_apply d _ ι, Finset.sum_add_distrib, Finset.sum_add_distrib,
    Finset.sum_comm (f := fun d j => (tallyAt (recvCell j (peer j d)) 0 (credit j) : CellTallies nD τ sig (Fin 2)) (recvCell k c) ι),
    Finset.sum_eq_zero fun d _ => Finset.sum_eq_zero fun i _ => owed_other _ _ (fun h => by cases h) (flip i d) c 1 ι _,
    Finset.sum_eq_zero fun d _ => Finset.sum_eq_zero fun i _ => owed_other _ _ (fun h => by cases h) (flip i d) c 0 ι _,
    Finset.sum_eq_single k, owed_recv k ι c, add_zero, add_zero, Finsupp.single_apply]
  · exact if_congr eq_comm rfl rfl
  · intro j _ hj
    refine Finset.sum_eq_zero fun d _ => owed_other _ _ (fun h => hj ?_) (peer j d) c 0 ι _
    have h' : cellSem (some (true, j)) = cellSem (some (true, k)) := h
    have := cellSem_inj h'
    simpa using this
  · intro h; exact absurd (Finset.mem_univ _) h

theorem cred_bar (c : Dev nD) : (cred (tallyOn (barCell c) (launchCredit (Pipeline.owing O₀) 0 (barCell c))) : sProp 𝕄)
    ⊢ iprop(cred (tallyAt (barCell c) 0 5) ∗ cred (tallyAt (barCell c) 1 5)) := by
  rw [launch_bar]; exact (cred_add _ _).1

def recvSems : Finset (SemLoc sig) := Finset.univ.map ⟨fun k : Fin 20 => cellSem (some (true, k)), fun a b h => by simpa using cellSem_inj h⟩

theorem cred_recv (c : Dev nD) : (bigSep ((Finset.univ : Finset (SemLoc sig)).erase (.reg barS)) fun sm => cred (tallyOn ((c : Thread nD τ), sm) (launchCredit (Pipeline.owing O₀) 0 ((c : Thread nD τ), sm))) : sProp 𝕄)
    ⊢ bigSep Finset.univ fun k : Fin 20 => cred (tallyAt (recvCell k c) 0 (credit k)) := by
  rw [show (bigSep Finset.univ fun k : Fin 20 => cred (tallyAt (recvCell k c) 0 (credit k)) : sProp 𝕄)
    = bigSep recvSems fun sm => cred (tallyOn ((c : Thread nD τ), sm) (launchCredit (Pipeline.owing O₀) 0 ((c : Thread nD τ), sm))) from ?_]
  · refine bigSep_subset ?_
    intro s hs
    obtain ⟨k, -, rfl⟩ := Finset.mem_map.mp hs
    exact Finset.mem_erase.mpr ⟨(fun h => by cases h), Finset.mem_univ _⟩
  · unfold recvSems
    rw [bigSep_map]
    exact bigSep_congr fun k _ => congrArg cred (launch_recv c k).symm

theorem creds (c : Dev nD) :
    (Pipeline.launchCred O₀ c : sProp 𝕄) ⊢ iprop((cred (tallyAt (barCell c) 0 5) ∗ cred (tallyAt (barCell c) 1 5))
      ∗ bigSep Finset.univ fun k : Fin 20 => cred (tallyAt (recvCell k c) 0 (credit k))) := by
  unfold Pipeline.launchCred
  rw [bigSep_univ_at _ (SemLoc.reg barS)]
  iintro ⟨Hb, Hr⟩
  isplitl [Hb]
  · iapply (cred_bar (F := F) c); iexact Hb
  iapply (cred_recv (F := F) c); iexact Hr

/-! ## The side conditions -/

variable (ρ : Dev nD → PrngReg)

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨⟨H0, H1⟩, HN⟩
  imodintro
  unfold start G'
  isplitl
  · isplitl [HG]; · iexact HG
    isplitl [H0]; · iexact H0
    isplitl [H1]; · iexact H1
    isplitl [HN]; · iexact HN
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, Hr⟩
  isplitl [Hs]; · iexact Hs
  iexact Hr

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest0_eq, ownSems0_eq, unscopedSems0_eq]
  unfold Φ₁ scratch
  iintro ⟨Hr, HzS, HzV, HzB⟩
  isplitl [HzB]; · iexact HzB
  isplitl [HzS HzV]
  · isplitl [HzS] <;> iassumption
  iexact Hr

theorem stage_sem (w : Fin cfg0.W) (s) : which (((cfg0.win w).sem s)) = none := by
  revert w s; decide +kernel

theorem waits (c : Dev nD) : (levAts L lv : sProp 𝕄) ⊢ Pipeline.cellsWaits cfgs (dats m) (0 : Fin 2) 0 c :=
  Pipeline.cellsWaits_intro cfgs (dats m) (0 : Fin 2) 0 c fun w s t =>
    mayWait_stage c _ (stage_sem w s) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m 0 c).arrAt w cfg0.N

def Done : PUnit × MemSt nD τ sig (Elt F) → Prop := fun r =>
  ∀ c : Dev nD, ∀ w : Fin cfg0.W, r.2.mem ((cfg0.win w).arr.view.loc (c : Thread nD τ)) = finalA m c w

set_option maxRecDepth 8000 in
/-- Every weakly fair run ends, each device's arrays at the contents computed and every counter at zero. -/
theorem run_main : θ_run defs (onTc (τ := τ) (main (F := F))) ⟨m, fun _ => 0, ρ⟩ (fun r => Done m r ∧ r.2.sem = fun _ => 0) :=
  Pipeline.θ_run_region_owing_glob_pf (fun p => (cfgs p).toPCfg) (fun p => (cfgs p).toPCfg_adm) (dats m) (0 : Fin 2) cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An operand's array ends as it began. -/
theorem finalA_in (c : Dev nD) (w : Fin cfg0.W) (h : (cfg0.win w).isOut = false) : finalA m c w = m ((cfg0.win w).arr.view.loc (c : Thread nD τ)) :=
  (dats (F := F) m 0 c).arrAt_in w h _

end Cert.Moe
end
-- ==== Proof.Frames.lean ====
/-
# The frames

What a run of the kernel leaves, read at its four arguments and its result; and what a run of the reference leaves.
-/
module

public import proofs.«01_k».proof.Defs
public import proofs.«01_k».proof.Proof.Launch
public import proofs.«01_k».proof.Proof.Gen.Kernel
public import proofs.«01_k».proof.Proof.Gen.ReferenceIdeal
public import proofs.«01_k».proof.Proof.Gen.ReferenceIdeal.Run

@[expose] public section

noncomputable section

namespace Cert.Moe

open Cert.KernelIdeal Cert.KernelIdeal.Gen
open Idealize.ShloMosaic
open Idealize.ShloMosaic.TcCoe
open Idealize.SL.Sem

variable {F : FTy → Type} [FloatOps F]
variable (m : (ℓ : Loc nD τ sig) → Buf (Elt F) ℓ) (ρ : Dev nD → PrngReg) (c : Dev nD)

attribute [local irreducible] outAt

/-- The result array ends at the twentieth contents of the result block. -/
theorem finalA_out : finalA m c (4 : Fin 5) = outAt m 20 c := by
  have h : (win0_4.blk (0 : Fin 1)).view.read (Elt F) (finalA m c (4 : Fin 5)) = outAt m 20 c := by
    unfold finalA
    rw [show cfg0.N = ((0 : Fin 1) : Fin cfg0.N).val + 1 from rfl, (dats m 0 c).arrAt_succ (4 : Fin 5) (0 : Fin 1),
      show (cfg0.win (4 : Fin 5)).flush (0 : Fin 1) = true from by decide, if_pos rfl]
    exact View.read_write_univ _ _
  have hz : (fun a => (win0_4.index (0 : Fin 1)) a * main_v1.ty.shape.size a) = fun _ => 0 :=
    funext fun a => by fin_cases a <;> decide
  rw [← h]
  exact (Memref.read_access_unit_zero (Elt F) main_v1 hz (fun a => by fin_cases a <;> decide) _).symm

/-- Each device's arguments end unchanged. -/
theorem Done.arguments {r : PUnit × MemSt nD τ sig (Elt F)} (h : Done m r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  ⟨(h c (0 : Fin 5)).trans (finalA_in m c 0 rfl), (h c (1 : Fin 5)).trans (finalA_in m c 1 rfl),
    (h c (2 : Fin 5)).trans (finalA_in m c 2 rfl), (h c (3 : Fin 5)).trans (finalA_in m c 3 rfl)⟩

/-- Each device's result ends at the twentieth contents of its result block. -/
theorem Done.result {r : PUnit × MemSt nD τ sig (Elt F)} (h : Done m r) (c : Dev nD) :
    r.2.mem ((c.tc : Thread nD τ).loc main_v1) = outAt m 20 c := (h c (4 : Fin 5)).trans (finalA_out m c)

/-- The run and its frame, over any float values. -/
theorem frame_any : θ_run defs (onTc (τ := τ) (main (F := F))) ⟨m, fun _ => 0, ρ⟩ (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) ∧ r.2.sem = fun _ => 0) :=
  (θ_run Cert.KernelIdeal.defs _ _).mono (fun _ h => ⟨fun c => h.1.arguments m c, h.2⟩) (run_main m ρ)

set_option maxRecDepth 8000 in
/-- The kernel and its idealization have one body. -/
theorem defs₀_eq : Cert.Kernel.defs₀ (F := F) = Cert.KernelIdeal.defs₀ := by
  unfold Cert.Kernel.defs₀ Cert.KernelIdeal.defs₀
  refine congrArg Defs.onTc (funext fun f => funext fun x => ?_)
  match f, x with
  | 0, (_, _) => rfl

set_option maxRecDepth 8000 in
/-- The kernel's own program is the same text. -/
theorem frame_kernel : Cert.quiescent_Kernel := fun m ρ _ => by
  unfold Cert.Kernel.defs
  rw [defs₀_eq]
  exact frame_any (F := Bits) m ρ

theorem frame_ideal : Cert.quiescent_KernelIdeal := fun m ρ _ => frame_any (F := Ideal) m ρ

theorem frame_reference : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run (F := Ideal) m ρ)

end Cert.Moe
end
-- ==== Proof.Total.lean ====
/-
# The exchanges add up

Over the extended reals a rounding changes nothing. So a reduce-scatter step adds the partner's rows into the rows
that a device keeps, an all-gather step copies the partner's rows, and after all twenty exchanges every device holds,
at every place, the sum over the devices of what each had there at the start.
-/
module

public import proofs.«01_k».proof.Proof.Glue
public import Idealize.ShloMosaic.PureOps.Ideal
public import Idealize.ShloMosaic.Lib.Writes
public import Idealize.ShloMosaic.Lib.Pipeline.Value

@[expose] public section

noncomputable section

namespace Cert.Moe

open Cert.KernelIdeal Cert.KernelIdeal.Gen
open Idealize.ShloMosaic
open Idealize.ShloMosaic.TcCoe

variable (m : (ℓ : Loc nD τ sig) → Buf (Elt Ideal) ℓ)

/-! ## One exchange, at one place -/

/-- Place `i` is among the rows of exchange `k` that begin at row `r`. -/
def Within (k : Fin 20) (r : ℕ) (i : S1024x1024.Idx) : Prop :=
  (r ≤ (i 0 : ℕ) ∧ (i 0 : ℕ) < r + rows k) ∧ col k ≤ (i 1 : ℕ) ∧ (i 1 : ℕ) < col k + 512

theorem mem_upd {k : Fin 20} {c : Dev nD} {i : S1024x1024.Idx} : i ∈ (outM.access (updR k c)).set ↔ Within k (updRow k c) i := by
  rw [out_set, Rect.mem_set_unit, Fin.forall_fin_two]
  simp only [updOff_eq]
  exact Iff.rfl

/-- What device `c` holds at place `i` after `n` exchanges; -/
def held (n : ℕ) (c : Dev nD) (i : S1024x1024.Idx) : EReal := outAt m n c i
/-- what it had there at the start. -/
def given (c : Dev nD) (i : S1024x1024.Idx) : EReal := outInit m c i

/-- Outside of its rows an exchange changes nothing. -/
theorem outside (k : Fin 20) (c : Dev nD) (i : S1024x1024.Idx) (h : ¬ Within k (updRow k c) i) :
    held m (k.val + 1) c i = held m k.val c i := by
  unfold held
  rw [outAt_succ]
  unfold update
  exact View.write_of_not_mem _ _ _ fun hi => h (mem_upd.mp hi)

/-- The value that exchange `k` leaves at a place of its rows. -/
theorem inside_read (k : Fin 20) (c : Dev nD) (i : S1024x1024.Idx) (h : Within k (updRow k c) i) :
    held m (k.val + 1) c i = if k.val < 10 then held m k.val c i + held m (source k.val) (peer k c) i
      else held m (source k.val) (peer k c) i := by
  obtain ⟨x, -, rfl⟩ := Finset.mem_map.mp (mem_upd.mpr h)
  have hs : (outM.access (sendR k (peer k c))).emb x = (outM.access (updR k c)).emb x := by
    refine funext fun a => Fin.ext ?_
    show sendOff k (peer k c) a + 1 * (x a : ℕ) = updOff k c a + 1 * (x a : ℕ)
    rw [sendOff_peer]
  unfold held
  rw [outAt_succ, sent_eq]
  unfold update
  rw [View.write_emb_of_mem _ _ (Finset.mem_univ x)]
  unfold merge cut outRead
  simp only [shapeCast_self]
  by_cases hk : k.val < 10
  · rw [if_pos hk, if_pos hk]
    show held m k.val c ((outM.access (updR k c)).emb x) + held m (source k.val) (peer k c) ((outM.access (sendR k (peer k c))).emb x) = _
    rw [hs]; rfl
  · rw [if_neg hk, if_neg hk]
    show held m (source k.val) (peer k c) ((outM.access (sendR k (peer k c))).emb x) = _
    rw [hs]; rfl

/-! ## The two halves do not mix -/

/-- Place `i` is in half `h` of the columns. -/
def InHalf (h : Fin 2) (i : S1024x1024.Idx) : Prop := 512 * h.val ≤ (i 1 : ℕ) ∧ (i 1 : ℕ) < 512 * h.val + 512

/-- The exchange of turn `t` in half `h`. -/
def ex (t : Fin 10) (h : Fin 2) : Fin 20 := ⟨2 * t.val + h.val, by omega⟩

theorem col_ex (t : Fin 10) (h : Fin 2) : col (ex t h) = 512 * h.val := by revert t h; decide +kernel

theorem within_ex {t : Fin 10} {h : Fin 2} {r : ℕ} {i : S1024x1024.Idx} (hi : InHalf h i) :
    Within (ex t h) r i ↔ r ≤ (i 0 : ℕ) ∧ (i 0 : ℕ) < r + rows (ex t h) := by
  unfold Within
  rw [col_ex]
  exact ⟨And.left, fun hr => ⟨hr, hi⟩⟩

theorem not_within {t : Fin 10} {h g : Fin 2} (hg : g ≠ h) {r : ℕ} {i : S1024x1024.Idx} (hi : InHalf h i) : ¬ Within (ex t g) r i := by
  unfold Within
  rw [col_ex]
  unfold InHalf at hi
  have : g.val ≠ h.val := fun e => hg (Fin.ext e)
  omega

/-- The half whose turn comes first sees the state at the beginning of the turn, and so does the second. -/
theorem at_ex (t : Fin 10) (h : Fin 2) (c : Dev nD) (i : S1024x1024.Idx) (hi : InHalf h i) :
    held m (ex t h).val c i = held m (2 * t.val) c i := by
  match h with
  | 0 => rfl
  | 1 => exact outside m (ex t 0) c i (not_within (by decide) hi)

theorem after_ex (t : Fin 10) (h : Fin 2) (c : Dev nD) (i : S1024x1024.Idx) (hi : InHalf h i) :
    held m (2 * t.val + 2) c i = held m ((ex t h).val + 1) c i := by
  match h with
  | 0 => exact outside m (ex t 1) c i (not_within (by decide) hi)
  | 1 => rfl

/-- What the partner sent is what it held at the beginning of the turn. -/
theorem source_ex (t : Fin 10) (h : Fin 2) (c : Dev nD) (i : S1024x1024.Idx) (hi : InHalf h i) :
    held m (source (ex t h).val) c i = held m (2 * t.val) c i := by
  have hs : source (ex t h).val = (ex t h).val ∨ ((ex t h).val = 2 * t.val + 1 ∧ source (ex t h).val = 2 * t.val)
      ∨ ∃ t' : Fin 10, t.val = t'.val + 1 ∧ h = 0 ∧ source (ex t h).val = (ex t' 1).val := by
    clear hi i c
    revert t h; decide +kernel
  obtain e | ⟨-, e⟩ | ⟨t', ht, rfl, e⟩ := hs
  · rw [e]; exact at_ex m t h c i hi
  · rw [e]
  · rw [e, ht]
    exact (outside m (ex t' 1) c i (not_within (by decide) hi)).symm

/-- A turn of half `h`, within its rows; -/
theorem turn_in (t : Fin 10) (h : Fin 2) (c : Dev nD) (i : S1024x1024.Idx) (hi : InHalf h i)
    (hr : updRow (ex t h) c ≤ (i 0 : ℕ) ∧ (i 0 : ℕ) < updRow (ex t h) c + rows (ex t h)) :
    held m (2 * t.val + 2) c i = if t.val < 5 then held m (2 * t.val) c i + held m (2 * t.val) (peer (ex t h) c) i
      else held m (2 * t.val) (peer (ex t h) c) i := by
  rw [after_ex m t h c i hi, inside_read m (ex t h) c i ((within_ex hi).mpr hr), at_ex m t h c i hi, source_ex m t h _ i hi]
  have : ((ex t h).val < 10) = (t.val < 5) := propext (by clear hr hi i c; revert t h; decide +kernel)
  simp only [this]

/-- and outside of them. -/
theorem turn_out (t : Fin 10) (h : Fin 2) (c : Dev nD) (i : S1024x1024.Idx) (hi : InHalf h i)
    (hr : ¬ (updRow (ex t h) c ≤ (i 0 : ℕ) ∧ (i 0 : ℕ) < updRow (ex t h) c + rows (ex t h))) :
    held m (2 * t.val + 2) c i = held m (2 * t.val) c i := by
  rw [after_ex m t h c i hi, outside m (ex t h) c i (fun w => hr ((within_ex hi).mp w)), at_ex m t h c i hi]

/-! ## The reduce-scatter -/

/-- The exchange that begins half `h`. -/
abbrev first (h : Fin 2) : Fin 20 := ex 0 h

/-- The row lies in the part that device `c` works on after `s` steps. -/
def Keeps (h : Fin 2) (s : ℕ) (c : Dev nD) (r : ℕ) : Prop := base (first h) s c ≤ r ∧ r < base (first h) s c + 1024 / 2 ^ s

/-- The devices whose contributions device `c` has after `s` steps. -/
def group (h : Fin 2) : ℕ → Dev nD → Finset (Dev nD)
  | 0, c => {c}
  | s + 1, c => group h s c ∪ group h s (flip (way (rsOf (first h) s)) c)

theorem group_disjoint (h : Fin 2) (s : Fin 5) (c : Dev nD) :
    Disjoint (group h s.val c) (group h s.val (flip (way (rsOf (first h) s.val)) c)) := by
  revert h s c; decide +kernel

theorem group_all (h : Fin 2) (c : Dev nD) : group h 5 c = Finset.univ := by
  revert h c; decide +kernel

theorem rs_way (t : Fin 5) (h : Fin 2) : way (ex ⟨t.val, by omega⟩ h) = way (rsOf (first h) t.val) := by
  revert t h; decide +kernel

theorem rs_rows (t : Fin 5) (h : Fin 2) (c : Dev nD) : updRow (ex ⟨t.val, by omega⟩ h) c = base (first h) (t.val + 1) c
    ∧ rows (ex ⟨t.val, by omega⟩ h) = 1024 / 2 ^ (t.val + 1)
    ∧ base (first h) t.val (flip (way (rsOf (first h) t.val)) c) = base (first h) t.val c
    ∧ base (first h) t.val c ≤ base (first h) (t.val + 1) c
    ∧ base (first h) (t.val + 1) c + 1024 / 2 ^ (t.val + 1) ≤ base (first h) t.val c + 1024 / 2 ^ t.val := by
  revert t h c; decide +kernel

/-- After `s` steps a device holds, in the rows it works on, the sum over its group. -/
theorem reduced (h : Fin 2) (i : S1024x1024.Idx) (hi : InHalf h i) : ∀ s : ℕ, s ≤ 5 → ∀ c : Dev nD, Keeps h s c (i 0 : ℕ) →
    held m (2 * s) c i = ∑ d ∈ group h s c, given m d i := by
  intro s
  induction s with
  | zero => intro _ c _; exact (Finset.sum_singleton (fun d => given m d i) c).symm
  | succ s ih =>
    intro hs c hk
    obtain ⟨h1, h2, h3, h4, h5⟩ := rs_rows ⟨s, by omega⟩ h c
    have hw := rs_way ⟨s, by omega⟩ h
    simp only at h1 h2 h3 h4 h5 hw
    unfold Keeps at hk
    have e := turn_in m ⟨s, by omega⟩ h c i hi (by rw [h1, h2]; exact hk)
    simp only at e
    rw [if_pos (by omega : s < 5)] at e
    have kc : Keeps h s c (i 0 : ℕ) := by unfold Keeps; omega
    have kp : Keeps h s (flip (way (rsOf (first h) s)) c) (i 0 : ℕ) := by unfold Keeps; rw [h3]; exact kc
    rw [show 2 * (s + 1) = 2 * s + 2 from rfl, e]
    unfold peer
    rw [hw, ih (by omega) c kc, ih (by omega) _ kp]
    exact (Finset.sum_union (group_disjoint h ⟨s, by omega⟩ c)).symm

/-! ## The all-gather -/

theorem ag_rows (j : Fin 5) (h : Fin 2) (c : Dev nD) : updRow (ex ⟨5 + j.val, by omega⟩ h) c
      = base (first h) (5 - j.val) (peer (ex ⟨5 + j.val, by omega⟩ h) c)
    ∧ rows (ex ⟨5 + j.val, by omega⟩ h) = 1024 / 2 ^ (5 - j.val)
    ∧ 1024 / 2 ^ (4 - j.val) = 2 * (1024 / 2 ^ (5 - j.val))
    ∧ ((base (first h) (5 - j.val) c = base (first h) (4 - j.val) c
        ∧ base (first h) (5 - j.val) (peer (ex ⟨5 + j.val, by omega⟩ h) c) = base (first h) (4 - j.val) c + 1024 / 2 ^ (5 - j.val))
      ∨ (base (first h) (5 - j.val) (peer (ex ⟨5 + j.val, by omega⟩ h) c) = base (first h) (4 - j.val) c
        ∧ base (first h) (5 - j.val) c = base (first h) (4 - j.val) c + 1024 / 2 ^ (5 - j.val))) := by
  revert j h c; decide +kernel

/-- After `j` steps of the all-gather a device holds the whole sum in all that it has gathered. -/
theorem gathered (h : Fin 2) (i : S1024x1024.Idx) (hi : InHalf h i) : ∀ j : ℕ, j ≤ 5 → ∀ c : Dev nD, Keeps h (5 - j) c (i 0 : ℕ) →
    held m (2 * (5 + j)) c i = ∑ d : Dev nD, given m d i := by
  intro j
  induction j with
  | zero => intro _ c hk; rw [← group_all h c]; exact reduced m h i hi 5 le_rfl c hk
  | succ j ih =>
    intro hj c hk
    obtain ⟨h1, h2, h3, h4⟩ := ag_rows ⟨j, by omega⟩ h c
    simp only at h1 h2 h3 h4
    rw [show 5 - (j + 1) = 4 - j from by omega] at hk
    unfold Keeps at hk ih
    rw [show 2 * (5 + (j + 1)) = 2 * (5 + j) + 2 from rfl]
    by_cases hr : updRow (ex ⟨5 + j, by omega⟩ h) c ≤ (i 0 : ℕ) ∧ (i 0 : ℕ) < updRow (ex ⟨5 + j, by omega⟩ h) c + rows (ex ⟨5 + j, by omega⟩ h)
    · have e := turn_in m ⟨5 + j, by omega⟩ h c i hi hr
      simp only at e
      rw [if_neg (by omega : ¬ 5 + j < 5)] at e
      rw [e]
      exact ih (by omega) _ (by rw [h1, h2] at hr; exact hr)
    · have e := turn_out m ⟨5 + j, by omega⟩ h c i hi hr
      simp only at e
      rw [e]
      refine ih (by omega) c ?_
      rw [h1, h2] at hr
      omega

/-- Every device ends with the sum over the devices. -/
theorem total (c : Dev nD) (i : S1024x1024.Idx) : held m 20 c i = ∑ d : Dev nD, given m d i := by
  have h0 : (i 0 : ℕ) < 1024 := (i 0).isLt
  have h1 : (i 1 : ℕ) < 1024 := (i 1).isLt
  have hk : ∀ h : Fin 2, Keeps h (5 - 5) c (i 0 : ℕ) := fun h => ⟨by unfold base; simp, by unfold base; simpa using h0⟩
  by_cases hc : (i 1 : ℕ) < 512
  · exact gathered m 0 i ⟨by simp, by simpa using hc⟩ 5 le_rfl c (hk 0)
  · exact gathered m 1 i ⟨by simp; omega, by simpa using h1⟩ 5 le_rfl c (hk 1)

end Cert.Moe
end
-- ==== Proof.Mixture.lean ====
/-
# The mixture of experts, in the extended reals

The functions that both programs compute, written on plain indices, and the equation between the two ways to write the
result. The kernel sums, over all experts, the expert's product with the token times the weight which the token gives to
that expert; the reference weighs the products of the two experts that the token names. A name outside 0..127 is no
expert: its probability and its product are zero. Where the scores are real numbers the weights are real and not
negative, so they can be taken out of the sums.
-/
module

public import Idealize.ShloMosaic.PureOps.Ideal
public import Idealize.ShloMosaic.PureOps.Ideal.Laws

@[expose] public section

noncomputable section

namespace Cert.Moe

open Idealize.ShloMosaic
open scoped BigOperators

/-! ## The functions -/

/-- The score that token `x` gives to expert `e`; -/
def score (x : Fin 512 → EReal) (w : Fin 512 → Fin 128 → EReal) (e : Fin 128) : EReal := ∑ k, x k * w k e
theorem score_eq (x : Fin 512 → EReal) (w : Fin 512 → Fin 128 → EReal) : score x w = fun e => ∑ k, x k * w k e := rfl
/-- the greatest; -/
def best (x : Fin 512 → EReal) (w : Fin 512 → Fin 128 → EReal) : EReal := Finset.univ.fold max ⊥ (score x w)
/-- the exponential of the score's distance to it; -/
def grown (x : Fin 512 → EReal) (w : Fin 512 → Fin 128 → EReal) (e : Fin 128) : EReal := Ideal.exp (score x w e - best x w)
/-- the expert's probability. -/
def prob (x : Fin 512 → EReal) (w : Fin 512 → Fin 128 → EReal) (e : Fin 128) : EReal := Ideal.div (grown x w e) (∑ e, grown x w e)

/-- The element of `f` that the word `i` names, zero if it names none. -/
def named (f : Fin 128 → EReal) (i : BitVec 32) : EReal := if h : i.toNat < 128 then f ⟨i.toNat, h⟩ else 0

/-- The weight of the first of two probabilities. -/
def share (g g' : EReal) : EReal := Ideal.div g (g + g')

/-- The product of token `x` with a column of an expert's weights. -/
def product (x : Fin 512 → EReal) (v : Fin 512 → EReal) : EReal := ∑ k, x k * v k

/-- The weight `a` where the word `i` names expert `e`. -/
def marked (i : BitVec 32) (a : EReal) (e : Fin 128) : EReal := if i = BitVec.ofNat 32 e.val then a else 0

/-! ## A name and its mark -/

theorem names_iff (i : BitVec 32) (e : Fin 128) : i = BitVec.ofNat 32 e.val ↔ i.toNat = e.val := by
  rw [← BitVec.toNat_inj, BitVec.toNat_ofNat, Nat.mod_eq_of_lt (by omega)]

/-- A sum in which only the named expert counts. -/
theorem sum_named (f : Fin 128 → EReal) (i : BitVec 32) : ∑ e, (if i = BitVec.ofNat 32 e.val then f e else 0) = named f i := by
  unfold named
  split
  · next h =>
    rw [Finset.sum_eq_single (⟨i.toNat, h⟩ : Fin 128)]
    · exact if_pos ((names_iff i _).mpr rfl)
    · exact fun e _ he => if_neg fun hi => he (Fin.ext ((names_iff i e).mp hi).symm)
    · exact fun hn => absurd (Finset.mem_univ _) hn
  · next h =>
    exact Finset.sum_eq_zero fun e _ => if_neg fun hi => h (by rw [(names_iff i e).mp hi]; exact e.isLt)

theorem named_mul (a : EReal) (f : Fin 128 → EReal) (i : BitVec 32) : named (fun e => a * f e) i = a * named f i := by
  unfold named
  split
  · rfl
  · exact (mul_zero a).symm

/-! ## Real numbers -/

/-- A sum of real numbers is real. -/
theorem sum_real {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The greatest of real numbers, of which there is at least one, is real. -/
theorem fold_real {n : ℕ} (f : Fin (n + 1) → ℝ) : ∃ r : ℝ, Finset.univ.fold max (⊥ : EReal) (fun i => (f i : EReal)) = r := by
  have hs : ∀ s : Finset (Fin (n + 1)), s.fold max (⊥ : EReal) (fun i => (f i : EReal)) = ⊥ ∧ s = ∅
      ∨ ∃ r : ℝ, s.fold max (⊥ : EReal) (fun i => (f i : EReal)) = r := by
    intro s
    induction s using Finset.induction_on with
    | empty => exact Or.inl ⟨rfl, rfl⟩
    | insert a s ha ih =>
      right
      rw [Finset.fold_insert ha]
      obtain ⟨e, -⟩ | ⟨r, e⟩ := ih
      · exact ⟨f a, by rw [e]; exact max_bot_right _⟩
      · exact ⟨max (f a) r, by rw [e]; exact (EReal.coe_strictMono.monotone.map_max).symm⟩
  obtain ⟨-, e⟩ | h := hs Finset.univ
  · exact absurd e (Finset.univ_nonempty (α := Fin (n + 1))).ne_empty
  · exact h

variable {x : Fin 512 → EReal} {w : Fin 512 → Fin 128 → EReal}

/-- Of a real token and a real router the probabilities are positive real numbers. -/
theorem prob_real (hx : ∀ k, ∃ r : ℝ, x k = r) (hw : ∀ k e, ∃ r : ℝ, w k e = r) (e : Fin 128) : ∃ r : ℝ, 0 < r ∧ prob x w e = r := by
  choose xr hx using hx
  choose wr hw using hw
  have hs : score x w = fun e => ((∑ k, xr k * wr k e : ℝ) : EReal) := by
    funext e
    unfold score
    rw [← sum_real]
    exact Finset.sum_congr rfl fun k _ => by rw [hx, hw, EReal.coe_mul]
  obtain ⟨b, hb⟩ : ∃ r : ℝ, best x w = r := by unfold best; rw [hs]; exact fold_real _
  have hg : grown x w = fun e => ((Real.exp (∑ k, xr k * wr k e - b) : ℝ) : EReal) := by
    funext e
    unfold grown
    rw [hb, hs, ← EReal.coe_sub]
    rfl
  have hp : 0 < ∑ e : Fin 128, Real.exp (∑ k, xr k * wr k e - b) := Finset.sum_pos (fun _ _ => Real.exp_pos _) Finset.univ_nonempty
  refine ⟨Real.exp (∑ k, xr k * wr k e - b) * (∑ e : Fin 128, Real.exp (∑ k, xr k * wr k e - b))⁻¹, mul_pos (Real.exp_pos _) (inv_pos.mpr hp), ?_⟩
  unfold prob Ideal.div
  rw [hg, sum_real, if_neg (fun h => hp.ne' (EReal.coe_eq_zero.mp h)), ← EReal.coe_inv, ← EReal.coe_mul]

/-- The probability of a named expert is positive; that of no expert is zero. -/
theorem named_real {p : Fin 128 → EReal} (hp : ∀ e, ∃ r : ℝ, 0 < r ∧ p e = r) (i : BitVec 32) :
    ∃ r : ℝ, 0 ≤ r ∧ (i.toNat < 128 → 0 < r) ∧ named p i = r := by
  unfold named
  split
  · next h =>
    obtain ⟨r, hr, e⟩ := hp ⟨i.toNat, h⟩
    exact ⟨r, hr.le, fun _ => hr, e⟩
  · next h => exact ⟨0, le_rfl, fun h' => absurd h' h, rfl⟩

/-- The weights are real and not negative if one of the two probabilities is positive. -/
theorem share_real {g g' : EReal} {r r' : ℝ} (hg : g = r) (hg' : g' = r') (h : 0 ≤ r) (h' : 0 ≤ r') (hp : 0 < r + r') :
    ∃ a : ℝ, 0 ≤ a ∧ share g g' = a := by
  refine ⟨r * (r + r')⁻¹, mul_nonneg h (inv_nonneg.mpr hp.le), ?_⟩
  unfold share Ideal.div
  rw [hg, hg', ← EReal.coe_add, if_neg (fun e => hp.ne' (EReal.coe_eq_zero.mp e)), ← EReal.coe_inv, ← EReal.coe_mul]

/-! ## The equation -/

/-- A real factor that is not negative comes out of a sum. -/
theorem mul_sum_real {ι : Type} (s : Finset ι) {a : EReal} (h : 0 ≤ a) (ht : a ≠ ⊤) (f : ι → EReal) : ∑ i ∈ s, a * f i = a * ∑ i ∈ s, f i := by
  classical
  induction s using Finset.induction_on with
  | empty => simp
  | insert b s hb ih => rw [Finset.sum_insert hb, Finset.sum_insert hb, ih, EReal.left_distrib_of_nonneg_of_ne_top h ht]

theorem product_scaled {a : EReal} (h : 0 ≤ a) (ht : a ≠ ⊤) (x v : Fin 512 → EReal) : ∑ k, (a * x k) * v k = a * product x v := by
  unfold product
  rw [← mul_sum_real Finset.univ h ht]
  exact Finset.sum_congr rfl fun k _ => mul_assoc _ _ _

/-- The two ways to write a token's result agree. -/
theorem mixture {p : Fin 128 → EReal} (hp : ∀ e, ∃ r : ℝ, 0 < r ∧ p e = r) (x : Fin 512 → EReal) (v : Fin 128 → Fin 512 → EReal) (i i' : BitVec 32) :
    ∑ e, ∑ k, ((marked i (share (named p i) (named p i')) e + marked i' (share (named p i') (named p i)) e) * x k) * v e k
      = share (named p i) (named p i') * named (fun e => product x (v e)) i + share (named p i') (named p i) * named (fun e => product x (v e)) i' := by
  obtain ⟨r, h, hpos, hg⟩ := named_real hp i
  obtain ⟨r', h', hpos', hg'⟩ := named_real hp i'
  by_cases hin : i.toNat < 128 ∨ i'.toNat < 128
  · have hs : 0 < r + r' := by
      obtain hi | hi := hin
      · exact add_pos_of_pos_of_nonneg (hpos hi) h'
      · exact add_pos_of_nonneg_of_pos h (hpos' hi)
    obtain ⟨a, ha, ea⟩ := share_real hg hg' h h' hs
    obtain ⟨a', ha', ea'⟩ := share_real hg' hg h' h (by rwa [add_comm])
    rw [ea, ea']
    have hm : ∀ (j : BitVec 32) {b : ℝ}, 0 ≤ b → ∀ e, 0 ≤ marked j b e ∧ marked j b e ≠ ⊤ := by
      intro j b hb e
      unfold marked
      split
      · exact ⟨EReal.coe_nonneg.mpr hb, EReal.coe_ne_top b⟩
      · exact ⟨le_rfl, EReal.zero_ne_top⟩
    have he : ∀ e, ∑ k, ((marked i a e + marked i' a' e) * x k) * v e k
        = (if i = BitVec.ofNat 32 e.val then (a : EReal) * product x (v e) else 0) + (if i' = BitVec.ofNat 32 e.val then (a' : EReal) * product x (v e) else 0) := by
      intro e
      have h1 := hm i ha e
      have h2 := hm i' ha' e
      rw [product_scaled (add_nonneg h1.1 h2.1) (EReal.add_ne_top h1.2 h2.2), EReal.right_distrib_of_nonneg h1.1 h2.1]
      unfold marked
      rw [ite_mul, ite_mul, zero_mul]
    rw [Finset.sum_congr rfl fun e _ => he e, Finset.sum_add_distrib, sum_named (fun e => (a : EReal) * product x (v e)),
      sum_named (fun e => (a' : EReal) * product x (v e)), named_mul, named_mul]
  · have hi : ¬ i.toNat < 128 := fun h => hin (Or.inl h)
    have hi' : ¬ i'.toNat < 128 := fun h => hin (Or.inr h)
    have h0 : ∀ (j : BitVec 32) (_ : ¬ j.toNat < 128) (b : EReal) e, marked j b e = 0 := fun j hj b e =>
      if_neg fun hje => hj (by rw [(names_iff j e).mp hje]; exact e.isLt)
    have n0 : ∀ (j : BitVec 32) (_ : ¬ j.toNat < 128) (f : Fin 128 → EReal), named f j = 0 := fun j hj f => dif_neg hj
    rw [n0 i hi (fun e => product x (v e)), n0 i' hi' (fun e => product x (v e)), mul_zero, mul_zero, add_zero]
    refine Finset.sum_eq_zero fun e _ => Finset.sum_eq_zero fun k _ => ?_
    rw [h0 i hi, h0 i' hi', add_zero, zero_mul, zero_mul]

end Cert.Moe
end
-- ==== Proof.Share.lean ====
/-
# A device's own contribution, read at an index

Device `d` holds the four experts `4 d`, …, `4 d + 3`. Before any exchange its result block holds, for every token, the
sum of the products with those four experts, each taken with the weight that the token gives to the expert.
-/
module

public import proofs.«01_k».proof.Proof.Total
public import proofs.«01_k».proof.Proof.Mixture
public import Idealize.ShloMosaic.Lib.Pointwise

@[expose] public section

noncomputable section

namespace Cert.Moe

open Cert.KernelIdeal Cert.KernelIdeal.Gen
open Idealize.ShloMosaic
open Idealize.ShloMosaic.TcCoe

variable (m : (ℓ : Loc nD τ sig) → Buf (Elt Ideal) ℓ)

/-! ## The loaded values are the arguments' -/

theorem load_at (r : Ref sig .tc) (R : Rect r.ty.shape) (f : r.ty.Contents (Elt Ideal)) (j : R.shape.Idx) :
    (Memref.whole r).view.readAt (Elt Ideal) R.toLoadRect f j = f (R.emb j) := rfl

theorem emb_unit {s : Shape} (off size : Fin s.rank → ℕ) (h : ∀ a, off a + size a ≤ s.size a) (j : (Rect.unit (s := s) off size h).shape.Idx) (y : s.Idx)
    (hy : ∀ a, (y a).val = off a + (j a).val) : (Rect.unit (s := s) off size h).emb j = y :=
  funext fun a => Fin.ext (((show off a + 1 * (j a).val = off a + (j a).val by rw [one_mul])).trans (hy a).symm)

theorem xIn_eq (c : Dev nD) : xIn m c = m (c.tc.loc main_arg0) :=
  Memref.read_access_unit_zero (Elt Ideal) main_arg0 (funext fun a => by fin_cases a <;> decide) (fun a => by fin_cases a <;> decide) _
theorem routerIn_eq (c : Dev nD) : routerIn m c = m (c.tc.loc main_arg1) :=
  Memref.read_access_unit_zero (Elt Ideal) main_arg1 (funext fun a => by fin_cases a <;> decide) (fun a => by fin_cases a <;> decide) _
theorem routeIn_eq (c : Dev nD) : routeIn m c = m (c.tc.loc main_arg2) :=
  Memref.read_access_unit_zero (Elt Ideal) main_arg2 (funext fun a => by fin_cases a <;> decide) (fun a => by fin_cases a <;> decide) _
theorem expertIn_eq (c : Dev nD) : expertIn m c = m (c.tc.loc main_arg3) :=
  Memref.read_access_unit_zero (Elt Ideal) main_arg3 (funext fun a => by fin_cases a <;> decide) (fun a => by fin_cases a <;> decide) _

theorem ldX_at (c : Dev nD) (t : Fin 1024) (k : Fin 512) : ldX m c (ix2 t k) = m (c.tc.loc main_arg0) (ix2 t k) := by
  unfold ldX
  rw [xIn_eq]
  refine (load_at cc0_stg0_0 _ _ _).trans (congrArg _ (emb_unit _ _ _ _ _ fun a => ?_))
  match a with
  | ⟨0, _⟩ => exact (Nat.zero_add _).symm
  | ⟨1, _⟩ => exact (Nat.zero_add _).symm
theorem ldR_at (c : Dev nD) (k : Fin 512) (e : Fin 128) : ldR m c (ix2 k e) = m (c.tc.loc main_arg1) (ix2 k e) := by
  unfold ldR
  rw [routerIn_eq]
  refine (load_at cc0_stg1_0 _ _ _).trans (congrArg _ (emb_unit _ _ _ _ _ fun a => ?_))
  match a with
  | ⟨0, _⟩ => exact (Nat.zero_add _).symm
  | ⟨1, _⟩ => exact (Nat.zero_add _).symm
theorem ldI0_at (c : Dev nD) (t : Fin 1024) : ldI0 m c (ix2 t 0) = m (c.tc.loc main_arg2) (ix2 t 0) := by
  unfold ldI0
  rw [routeIn_eq]
  refine (load_at cc0_stg2_0 _ _ _).trans (congrArg _ (emb_unit _ _ _ _ _ fun a => ?_))
  match a with
  | ⟨0, _⟩ => exact (Nat.zero_add _).symm
  | ⟨1, _⟩ => exact (Nat.zero_add _).symm
theorem ldI1_at (c : Dev nD) (t : Fin 1024) : ldI1 m c (ix2 t 0) = m (c.tc.loc main_arg2) (ix2 t 1) := by
  unfold ldI1
  rw [routeIn_eq]
  refine (load_at cc0_stg2_0 _ _ _).trans (congrArg _ (emb_unit _ _ _ _ _ fun a => ?_))
  match a with
  | ⟨0, _⟩ => exact (Nat.zero_add _).symm
  | ⟨1, _⟩ => rfl
theorem ldE_at (c : Dev nD) (e : Fin 4) (h : Fin 2) (k u : Fin 512) :
    ldE m c e h (ix3 0 k u) = m (c.tc.loc main_arg3) (ix3 e k ⟨512 * h.val + u.val, by omega⟩) := by
  unfold ldE
  rw [expertIn_eq]
  refine (load_at cc0_stg3_0 _ _ _).trans (congrArg _ (emb_unit _ _ _ _ _ fun a => ?_))
  match a with
  | ⟨0, _⟩ => rfl
  | ⟨1, _⟩ => exact (Nat.zero_add _).symm
  | ⟨2, _⟩ => rfl

/-! ## The weights -/

theorem devW_mul : ∀ (d : Dev nD) (e : Fin 4), Scalar.addi (Scalar.muli (devW d) 4#32) (BitVec.ofNat 32 e.val) = BitVec.ofNat 32 (4 * d.val + e.val) := by
  decide +kernel

/-- Expert `e` of device `d`, among all. -/
def expert (d : Dev nD) (e : Fin 4) : Fin 128 := ⟨4 * d.val + e.val, by have := d.isLt; have : nD = 32 := rfl; omega⟩

theorem select_eq (i j : BitVec 32) (a b : EReal) : Scalar.select (IntOp.cmpi .eq i j) a b = if i = j then a else b := by
  unfold Scalar.select IntOp.cmpi
  by_cases h : i = j
  · subst h; simp
  · have hb : (i == j) = false := by simpa using h
    simp [h, hb]

theorem select_expert (d : Dev nD) (e : Fin 4) (l : BitVec 32) (hl : BitVec.ofNat 32 e.val = l) (i : BitVec 32) (a : EReal) :
    Scalar.select (IntOp.cmpi .eq i (Scalar.addi (Scalar.muli (devW d) 4#32) l)) a 0 = marked i a (expert d e) := by
  rw [← hl, devW_mul, select_eq]
  rfl

/-- The name of an expert, from the other side. -/
theorem select_name (f : Fin 128 → EReal) (i : BitVec 32) : ∑ e : Fin 128, Scalar.select (IntOp.cmpi .eq (BitVec.ofNat 32 e.val) i) (f e) 0 = named f i := by
  rw [← sum_named]
  exact Finset.sum_congr rfl fun e _ => by rw [select_eq]; simp only [eq_comm]

theorem neg_inf : Ideal.ofBits FTy.f32 4286578688#32 = (⊥ : EReal) := by simp [Ideal.ofBits, Ideal.ieee]

/-- Device `c`'s probabilities for token `t`. -/
def probs (c : Dev nD) (t : Fin 1024) : Fin 128 → EReal :=
  prob (fun k => m (c.tc.loc main_arg0) (ix2 t k)) fun k e => m (c.tc.loc main_arg1) (ix2 k e)

theorem exp_at (c : Dev nD) (t : Fin 1024) (e : Fin 128) :
    vExp m c (ix2 t e) = grown (fun k => m (c.tc.loc main_arg0) (ix2 t k)) (fun k e => m (c.tc.loc main_arg1) (ix2 k e)) e := by
  unfold vExp
  pointwise [k0_pay1, k0_pay2, dot_S1024x512_S512x128_S1024x128_1_0_0_1_n_n]
  simp only [ldX_at, ldR_at, neg_inf, grown, best, score_eq]

theorem sum_at (c : Dev nD) (t : Fin 1024) (e : Fin 128) :
    vSum m c (ix2 t e) = ∑ e, grown (fun k => m (c.tc.loc main_arg0) (ix2 t k)) (fun k e => m (c.tc.loc main_arg1) (ix2 k e)) e := by
  unfold vSum
  pointwise [k0_pay3]
  exact Finset.sum_congr rfl fun e _ => exp_at m c t e

theorem probs_at (c : Dev nD) (t : Fin 1024) (e : Fin 128) : Ideal.div (vExp m c (ix2 t e)) (vSum m c (ix2 t e)) = probs m c t e := by
  rw [exp_at, sum_at]
  rfl

/-- The names of token `t`, read by device `c`. -/
abbrev name0 (c : Dev nD) (t : Fin 1024) : BitVec 32 := m (c.tc.loc main_arg2) (ix2 t 0)
abbrev name1 (c : Dev nD) (t : Fin 1024) : BitVec 32 := m (c.tc.loc main_arg2) (ix2 t 1)

/-- The weights of its two experts. -/
def weight0 (c : Dev nD) (t : Fin 1024) : EReal := share (named (probs m c t) (name0 m c t)) (named (probs m c t) (name1 m c t))
def weight1 (c : Dev nD) (t : Fin 1024) : EReal := share (named (probs m c t) (name1 m c t)) (named (probs m c t) (name0 m c t))

theorem weight0_at (c : Dev nD) (t : Fin 1024) : vW0 m c (ix2 t 0) = weight0 m c t := by
  unfold vW0
  pointwise [k0_pay10, k0_pay9, k0_pay8, k0_pay7, k0_pay4, k0_pay5, k0_pay6]
  simp only [ldI0_at, ldI1_at, probs_at, select_name]
  rfl
theorem weight1_at (c : Dev nD) (t : Fin 1024) : vW1 m c (ix2 t 0) = weight1 m c t := by
  unfold vW1
  pointwise [k0_pay11, k0_pay9, k0_pay8, k0_pay7, k0_pay4, k0_pay5, k0_pay6]
  simp only [ldI0_at, ldI1_at, probs_at, select_name]
  rw [add_comm]
  rfl

/-- The weight that token `t` gives to expert `e`. -/
def factor (c : Dev nD) (t : Fin 1024) (e : Fin 128) : EReal := marked (name0 m c t) (weight0 m c t) e + marked (name1 m c t) (weight1 m c t) e

theorem factor0_at (c : Dev nD) (t : Fin 1024) : vC0 m c (ix2 t 0) = factor m c t (expert c 0) := by
  have h0 := weight0_at m c t
  have h1 := weight1_at m c t
  unfold vW0 at h0
  unfold vW1 at h1
  unfold vC0
  pointwise [k0_pay12]
  rw [h0, h1, select_expert c 0 0#32 rfl, select_expert c 0 0#32 rfl]
  pointwise [k0_pay5, k0_pay6]
  rw [ldI0_at, ldI1_at]
  rfl
theorem factor1_at (c : Dev nD) (t : Fin 1024) : vC1 m c (ix2 t 0) = factor m c t (expert c 1) := by
  have h0 := weight0_at m c t
  have h1 := weight1_at m c t
  unfold vW0 at h0
  unfold vW1 at h1
  unfold vC1
  pointwise [k0_pay13]
  rw [h0, h1, select_expert c 1 1#32 rfl, select_expert c 1 1#32 rfl]
  pointwise [k0_pay5, k0_pay6]
  rw [ldI0_at, ldI1_at]
  rfl

/-! ## The contribution -/

/-- Device `c`'s contribution to column `h` of token `t`. -/
def own (c : Dev nD) (t h : Fin 1024) : EReal :=
  ∑ e : Fin 4, ∑ k : Fin 512, (factor m c t (expert c e) * m (c.tc.loc main_arg0) (ix2 t k)) * m (c.tc.loc main_arg3) (ix3 e k h)

section
attribute [local irreducible] ldX ldI0 ldI1 ldE ldR vExp vSum vC0 vC1 vW0 vW1 devW

theorem factor2_at (c : Dev nD) (t : Fin 1024) :
    Scalar.select (IntOp.cmpi .eq (ldI0 m c (ix2 t 0)) (Scalar.addi (Scalar.muli (devW c) 4#32) 2#32)) (vW0 m c (ix2 t 0)) 0
      + Scalar.select (IntOp.cmpi .eq (ldI1 m c (ix2 t 0)) (Scalar.addi (Scalar.muli (devW c) 4#32) 2#32)) (vW1 m c (ix2 t 0)) 0 = factor m c t (expert c 2) := by
  rw [select_expert c 2 2#32 rfl, select_expert c 2 2#32 rfl, ldI0_at, ldI1_at, weight0_at, weight1_at]
  rfl
theorem factor3_at (c : Dev nD) (t : Fin 1024) :
    Scalar.select (IntOp.cmpi .eq (ldI0 m c (ix2 t 0)) (Scalar.addi (Scalar.muli (devW c) 4#32) 3#32)) (vW0 m c (ix2 t 0)) 0
      + Scalar.select (IntOp.cmpi .eq (ldI1 m c (ix2 t 0)) (Scalar.addi (Scalar.muli (devW c) 4#32) 3#32)) (vW1 m c (ix2 t 0)) 0 = factor m c t (expert c 3) := by
  rw [select_expert c 3 3#32 rfl, select_expert c 3 3#32 rfl, ldI0_at, ldI1_at, weight0_at, weight1_at]
  rfl

theorem left_at (c : Dev nD) (t : Fin 1024) (u : Fin 512) : halfA m c (ix2 t u) = own m c t ⟨u.val, by omega⟩ := by
  pointwise [halfA, vX2, vX3, vA01, vE2, vX, k0_pay20, k0_pay16, k0_pay17, k0_pay18, k0_pay19, k0_pay14, k0_pay15, k0_pay1, vI0, vI1, k0_pay5, k0_pay6,
    dot_S1024x512_S512x512_S1024x512_1_0_0_1_n_n]
  simp only [factor0_at, factor1_at, factor2_at, factor3_at, ldX_at, ldE_at]
  unfold own
  rw [Fin.sum_univ_four]
  simp
theorem right_at (c : Dev nD) (t : Fin 1024) (u : Fin 512) : halfB m c (ix2 t u) = own m c t ⟨512 + u.val, by omega⟩ := by
  pointwise [halfB, vX0, vX1, vX2, vX3, vB0, vX, k0_pay14, k0_pay15, k0_pay23, k0_pay16, k0_pay17, k0_pay22, k0_pay1, vI0, vI1, k0_pay5, k0_pay6,
    dot_S1024x512_S512x512_S1024x512_1_0_0_1_n_n]
  simp only [factor0_at, factor1_at, factor2_at, factor3_at, ldX_at, ldE_at]
  unfold own
  rw [Fin.sum_univ_four]
  simp
end

/-- What device `c` starts the exchanges with is its contribution. -/
theorem given_own (c : Dev nD) (t h : Fin 1024) : given m c (ix2 t h) = own m c t h := by
  unfold given outInit
  by_cases hh : h.val < 512
  · rw [withBoth_left m c _ _ hh]
    have he : leftR.emb (ix2 t ⟨h.val, hh⟩) = ix2 t h := emb_unit _ _ _ _ _ fun a => by
      match a with
      | ⟨0, _⟩ => exact (Nat.zero_add _).symm
      | ⟨1, _⟩ => exact (Nat.zero_add _).symm
    have hw := View.write_emb_of_mem (v := outM.access leftR) (m (c.tc.loc cc0_stg4_0)) (halfA m c) (Finset.mem_univ (ix2 t ⟨h.val, hh⟩))
    exact (congrArg _ he.symm).trans (hw.trans (left_at m c t ⟨h.val, hh⟩))
  · have hl : h.val - 512 < 512 := by omega
    have he : rightR.emb (ix2 t ⟨h.val - 512, hl⟩) = ix2 t h := emb_unit _ _ _ _ _ fun a => by
      match a with
      | ⟨0, _⟩ => exact (Nat.zero_add _).symm
      | ⟨1, _⟩ => show h.val = 512 + (h.val - 512); omega
    have hw := View.write_emb_of_mem (v := outM.access rightR) (withLeft m c (m (c.tc.loc cc0_stg4_0))) (halfB m c) (Finset.mem_univ (ix2 t ⟨h.val - 512, hl⟩))
    refine (congrArg _ he.symm).trans (hw.trans ((right_at m c t ⟨h.val - 512, hl⟩).trans ?_))
    congr 1
    exact Fin.ext (show 512 + (h.val - 512) = h.val by omega)

end Cert.Moe
end
-- ==== Proof.RefValue.lean ====
/-
# The reference's result, read at an index

A token's result is the weighted sum of its products with the two experts that it names: the reference looks the two
probabilities and the two experts' weights up, and reads zero where the name is out of range.
-/
module

public import proofs.«01_k».proof.Proof.Gen.ReferenceIdeal.Run
public import proofs.«01_k».proof.Proof.Mixture
public import Idealize.ShloMosaic.Lib.Pointwise

@[expose] public section

noncomputable section

namespace Cert.Moe

open Cert.ReferenceIdeal Cert.ReferenceIdeal.Gen
open Idealize.ShloMosaic
open Idealize.ShloMosaic.TcCoe

/-! ## The two look-ups -/

/-- The probability looked up for token `t`. -/
theorem lookup_prob {α : Type} (p : S1024x128.Idx → α) (idx : IVec S1024x2 32) (t : Fin 1024) :
    Host.gather gather_S1024x128_S1024x2_S1024_n_01_n_n_01_1_11 p idx (ix1 t)
      = p (ix2 ⟨min (idx (ix2 t 0)).toInt.toNat 1023, by omega⟩ ⟨min (idx (ix2 t 1)).toInt.toNat 127, by omega⟩) := by
  unfold Host.gather
  congr 1
  funext a
  refine Fin.ext ?_
  show GatherDims.start _ (ix1 t) idx a + GatherDims.batchCoord _ (ix1 t) a + GatherDims.offCoord _ (ix1 t) a = _
  have hc : a ∈ gather_S1024x128_S1024x2_S1024_n_01_n_n_01_1_11.collapsedSliceDims := by
    match a with
    | ⟨0, _⟩ => exact List.mem_cons_self
    | ⟨1, _⟩ => exact List.mem_cons_of_mem _ List.mem_cons_self
  rw [GatherDims.batchCoord_eq_zero _ _ _ List.not_mem_nil, GatherDims.offCoord_eq_zero _ _ _ (fun h => ((GatherDims.mem_sKept _ _).mp h).1 hc)]
  simp only [Nat.add_zero]
  have hm : a ∈ gather_S1024x128_S1024x2_S1024_n_01_n_n_01_1_11.startIndexMap := hc
  unfold GatherDims.start
  rw [dif_pos hm]
  match a with
  | ⟨0, _⟩ =>
    have hi : gather_S1024x128_S1024x2_S1024_n_01_n_n_01_1_11.siIdx (ix1 t) ⟨_, List.idxOf_lt_length_iff.2 hm⟩ = ix2 t 0 := by
      funext b
      match b with
      | ⟨0, _⟩ => rfl
      | ⟨1, _⟩ => rfl
    rw [hi]
    rfl
  | ⟨1, _⟩ =>
    have hi : gather_S1024x128_S1024x2_S1024_n_01_n_n_01_1_11.siIdx (ix1 t) ⟨_, List.idxOf_lt_length_iff.2 hm⟩ = ix2 t 1 := by
      funext b
      match b with
      | ⟨0, _⟩ => rfl
      | ⟨1, _⟩ => rfl
    rw [hi]
    rfl

/-- The weights looked up for token `t`. -/
theorem lookup_expert {α : Type} (w : S128x512x1024.Idx → α) (idx : IVec S1024x1 32) (t : Fin 1024) (k : Fin 512) (h : Fin 1024) :
    Host.gather gather_S128x512x1024_S1024x1_S1024x512x1024_12_0_n_n_0_1_15121024 w idx (ix3 t k h)
      = w (ix3 ⟨min (idx (ix2 t 0)).toInt.toNat 127, by omega⟩ k h) := by
  unfold Host.gather
  congr 1
  funext a
  refine Fin.ext ?_
  show GatherDims.start _ (ix3 t k h) idx a + GatherDims.batchCoord _ (ix3 t k h) a + GatherDims.offCoord _ (ix3 t k h) a = _
  rw [GatherDims.batchCoord_eq_zero _ _ _ List.not_mem_nil, Nat.add_zero]
  match a with
  | ⟨0, h0⟩ =>
    have hm : (⟨0, h0⟩ : Fin 3) ∈ gather_S128x512x1024_S1024x1_S1024x512x1024_12_0_n_n_0_1_15121024.startIndexMap := List.mem_cons_self
    rw [GatherDims.offCoord_eq_zero _ _ _ (fun h => ((GatherDims.mem_sKept _ _).mp h).1 hm), Nat.add_zero]
    unfold GatherDims.start
    rw [dif_pos hm]
    have hi : gather_S128x512x1024_S1024x1_S1024x512x1024_12_0_n_n_0_1_15121024.siIdx (ix3 t k h) ⟨_, List.idxOf_lt_length_iff.2 hm⟩ = ix2 t 0 := by
      funext b
      match b with
      | ⟨0, _⟩ => rfl
      | ⟨1, _⟩ => rfl
    rw [hi]
    rfl
  | ⟨1, h1⟩ =>
    have hn : (⟨1, h1⟩ : Fin 3) ∉ gather_S128x512x1024_S1024x1_S1024x512x1024_12_0_n_n_0_1_15121024.startIndexMap :=
      show (1 : Fin 3) ∉ [(0 : Fin 3)] by decide +kernel
    unfold GatherDims.start
    rw [dif_neg hn]
    exact Nat.zero_add _
  | ⟨2, h2⟩ =>
    have hn : (⟨2, h2⟩ : Fin 3) ∉ gather_S128x512x1024_S1024x1_S1024x512x1024_12_0_n_n_0_1_15121024.startIndexMap :=
      show (2 : Fin 3) ∉ [(0 : Fin 3)] by decide +kernel
    unfold GatherDims.start
    rw [dif_neg hn]
    exact Nat.zero_add _

/-! ## The range test -/

/-- A word names an expert when it lies between 0 and 127, read signed. -/
theorem in_range (i : BitVec 32) : IntOp.andi (IntOp.cmpi .sge i 0#32) (IntOp.cmpi .sle i 127#32) = BitVec.ofBool (decide (i.toNat < 128)) := by
  show BitVec.ofBool ((0#32).sle i) &&& BitVec.ofBool (i.sle 127#32) = _
  rw [BitVec.ofBool_and_ofBool]
  congr 1
  rw [Bool.eq_iff_iff, Bool.and_eq_true, decide_eq_true_iff]
  simp only [BitVec.sle, decide_eq_true_iff, BitVec.toInt_eq_toNat_cond, BitVec.toNat_ofNat]
  have := i.isLt
  split <;> omega

theorem fold_one (f : Fin 1 → BitVec 1) : Finset.fold IntOp.andi 1#1 f Finset.univ = IntOp.andi (f 0) 1#1 := rfl
theorem fold_two (f : Fin 2 → BitVec 1) : Finset.fold IntOp.andi 1#1 f Finset.univ = IntOp.andi (f 0) (IntOp.andi (f 1) 1#1) := rfl
theorem andi_one (b : BitVec 1) : IntOp.andi b 1#1 = b := by revert b; decide +kernel

/-- Token `t` is a row of the table. -/
theorem row_in_range (t : Fin 1024) : IntOp.andi (IntOp.cmpi .sge (BitVec.ofNat 32 t.val) 0#32) (IntOp.cmpi .sle (BitVec.ofNat 32 t.val) 1023#32) = 1#1 := by
  revert t
  decide +kernel

theorem row_clamped (t : Fin 1024) (h : min (BitVec.ofNat 32 t.val).toInt.toNat 1023 < 1024) : (⟨min (BitVec.ofNat 32 t.val).toInt.toNat 1023, h⟩ : Fin 1024) = t := by
  refine Fin.ext ?_
  revert t
  decide +kernel

theorem test_one (i : BitVec 32) : Finset.fold IntOp.andi 1#1 (fun _ : Fin 1 => IntOp.andi (IntOp.cmpi .sge i 0#32) (IntOp.cmpi .sle i 127#32)) Finset.univ
    = BitVec.ofBool (decide (i.toNat < 128)) := by
  rw [fold_one, andi_one, in_range]

theorem test_two (t : Fin 1024) (i : BitVec 32) (l : Fin 2 → BitVec 32) (hl : l = ![1023#32, 127#32]) :
    Finset.fold IntOp.andi 1#1 (fun x : Fin 2 => IntOp.andi (IntOp.cmpi .sge (if _h : x.val < 1 then BitVec.ofNat 32 t.val else i) 0#32)
      (IntOp.cmpi .sle (if _h : x.val < 1 then BitVec.ofNat 32 t.val else i) (l x))) Finset.univ
    = BitVec.ofBool (decide (i.toNat < 128)) := by
  rw [fold_two, andi_one, hl]
  show IntOp.andi (IntOp.andi (IntOp.cmpi .sge (BitVec.ofNat 32 t.val) 0#32) (IntOp.cmpi .sle (BitVec.ofNat 32 t.val) 1023#32))
    (IntOp.andi (IntOp.cmpi .sge i 0#32) (IntOp.cmpi .sle i 127#32)) = _
  rw [row_in_range, in_range]
  generalize BitVec.ofBool (decide (i.toNat < 128)) = b
  revert b
  decide +kernel

theorem select_prop {α : Type} (p : Prop) [Decidable p] (a b : α) : Scalar.select (BitVec.ofBool (decide p)) a b = if p then a else b := by
  unfold Scalar.select
  by_cases h : p <;> simp [h]

theorem lits (l : Fin 2 → BitVec 32) (h0 : l 0 = 1023#32) (h1 : l 1 = 127#32) : l = ![1023#32, 127#32] := by
  funext x
  match x with
  | ⟨0, _⟩ => exact h0
  | ⟨1, _⟩ => exact h1

theorem named_clamped (f : Fin 128 → EReal) (i : BitVec 32) : (if i.toNat < 128 then f ⟨min i.toInt.toNat 127, by omega⟩ else 0) = named f i := by
  unfold named
  split
  · next h =>
    congr 1
    refine Fin.ext ?_
    show min i.toInt.toNat 127 = i.toNat
    rw [BitVec.toInt_eq_toNat_cond]
    split <;> omega
  · rfl

theorem sum_if {ι : Type} (s : Finset ι) (p : Prop) [Decidable p] (f : ι → EReal) : ∑ k ∈ s, (if p then f k else 0) = if p then ∑ k ∈ s, f k else 0 := by
  split
  · rfl
  · exact Finset.sum_const_zero

/-! ## The result -/

variable (m : (ℓ : Loc nD τ sig) → Buf (Elt Ideal) ℓ)

/-- The reference's result for token `t`, in terms of the token `X t`, the router `R`, the names `I t` and the weights `W`. -/
def expected (X : S1024x512.Idx → EReal) (R : S512x128.Idx → EReal) (I : S1024x2.Idx → BitVec 32) (W : S128x512x1024.Idx → EReal) (t h : Fin 1024) : EReal :=
  share (named (prob (fun k => X (ix2 t k)) fun k e => R (ix2 k e)) (I (ix2 t 0))) (named (prob (fun k => X (ix2 t k)) fun k e => R (ix2 k e)) (I (ix2 t 1)))
      * named (fun e => product (fun k => X (ix2 t k)) fun k => W (ix3 e k h)) (I (ix2 t 0))
    + share (named (prob (fun k => X (ix2 t k)) fun k e => R (ix2 k e)) (I (ix2 t 1))) (named (prob (fun k => X (ix2 t k)) fun k e => R (ix2 k e)) (I (ix2 t 0)))
      * named (fun e => product (fun k => X (ix2 t k)) fun k => W (ix3 e k h)) (I (ix2 t 1))

theorem bits_bot : Ideal.ofBits FTy.f32 4286578688#32 = (⊥ : EReal) := by simp [Ideal.ofBits, Ideal.ieee]

set_option maxRecDepth 8192 in
set_option maxHeartbeats 4000000 in
theorem result_reference (c : Dev nD) (t h : Fin 1024) : Cert.ReferenceIdeal.Value.res_main_v76 m c (ix2 t h)
    = expected (m (c.tc.loc main_arg0)) (m (c.tc.loc main_arg1)) (m (c.tc.loc main_arg2)) (m (c.tc.loc main_arg3)) t h := by
  unfold Cert.ReferenceIdeal.Value.res_main_v76
  have h0 : (fun x : Fin 2 => lit0 (S2.rowMajor (ix1 x))) = ![1023#32, 127#32] := lits _ rfl rfl
  have h1 : (fun x : Fin 2 => lit1 (S2.rowMajor (ix1 x))) = ![1023#32, 127#32] := lits _ rfl rfl
  generalize lit0 = l0 at h0 ⊢
  generalize lit1 = l1 at h1 ⊢
  generalize m ((c.tc : Thread nD τ).loc main_arg0) = X
  generalize m ((c.tc : Thread nD τ).loc main_arg1) = R
  generalize m ((c.tc : Thread nD τ).loc main_arg2) = I
  generalize m ((c.tc : Thread nD τ).loc main_arg3) = W
  pointwise [dot_S1024x512_S1024x512x1024_S1024x1024_1_1_n_2_0_0, dot_S1024x512_S512x128_S1024x128_1_0_0_1_n_n, lookup_prob, lookup_expert]
  simp only [test_one, test_two t _ _ h0, test_two t _ _ h1, select_prop, row_clamped, sum_if, bits_bot]
  unfold expected share
  rw [add_comm (named _ (I (ix2 t 1)))]
  simp only [← named_clamped, prob, grown, best, score_eq, product]

end Cert.Moe
end
-- ==== Proof.Value.lean ====
/-
# The result is the reference's

The sum of the devices' contributions runs over all experts, so it is the reference's weighted sum of the two products
(`mixture`), on every device. The tokens and the router are taken as finite; the experts' weights and the names are not
restricted.
-/
module

public import proofs.«01_k».proof.Proof.Frames
public import proofs.«01_k».proof.Proof.Share
public import proofs.«01_k».proof.Proof.RefValue
public import Idealize.ShloMosaic.Lib.ReduceAll
public import Idealize.ShloMosaic.Lib.Layout

@[expose] public section

noncomputable section

namespace Cert.Moe

open Cert.KernelIdeal Cert.KernelIdeal.Gen
open Idealize.ShloMosaic
open Idealize.ShloMosaic.TcCoe
open Idealize.SL.Sem
open scoped BigOperators

/-! ## The precondition -/

theorem facts_kernel : Cert.Pre_finite_KernelIdeal.Facts where
  bcast_S_S1024x512 := by decide
  reducesTo_S1024x512_S_d0_1 := by decide
  h_S_ := by decide
  bcast_S_S512x128 := by decide
  reducesTo_S512x128_S_d0_1 := by decide

theorem facts_reference : Cert.Pre_finite_ReferenceIdeal.Facts where
  bcast_S_S1024x512 := by decide
  reducesTo_S1024x512_S_d0_1 := by decide
  h_S_ := by decide
  bcast_S_S512x128 := by decide
  reducesTo_S512x128_S_d0_1 := by decide

theorem bits_top : Ideal.ofBits FTy.f32 0x7F800000#32 = (⊤ : EReal) := by simp [Ideal.ofBits, Ideal.ieee]

/-- An extended real whose absolute value is below infinity is a real number. -/
theorem real_of_below {v : EReal} (h : Ideal.cmp .olt (max v (-v)) (⊤ : EReal) = 1#1) : ∃ r : ℝ, v = r := by
  have hl : max v (-v) < ⊤ := by
    by_contra hn
    have h0 : Ideal.cmp .olt (max v (-v)) (⊤ : EReal) = 0#1 := by
      unfold Ideal.cmp
      simp [hn]
    rw [h0] at h
    exact absurd h (by decide)
  induction v using EReal.rec with
  | bot => exact absurd hl (by simp)
  | coe r => exact ⟨r, rfl⟩
  | top => exact absurd hl (by simp)

/-- The precondition says that the tokens and the router hold real numbers. -/
theorem finite_args [Cert.Pre_finite_KernelIdeal.Facts] (X : S1024x512.Idx → EReal) (R : S512x128.Idx → EReal) (I : IVec S1024x2 32) (W : S4x512x1024.Idx → EReal)
    (h : Cert.Pre_finite_KernelIdeal.fn (F := Ideal) X R I W = fun _ => 1#1) : (∀ i, ∃ r : ℝ, X i = r) ∧ ∀ i, ∃ r : ℝ, R i = r := by
  haveI : Subsingleton Cert.Pre_finite_KernelIdeal.S_.Idx := ⟨fun a b => funext fun x => x.elim0⟩
  have h0 := congrFun h (fun a => a.elim0)
  obtain ⟨hX, hR⟩ := IntOp.andi_eq_one.mp h0
  constructor
  · intro i
    have hi := Host.reduce_andi_all _ _ _ _ _ hX i
    exact real_of_below ((congrArg (Ideal.cmp .olt (max (X i) (-X i))) bits_top.symm).trans hi)
  · intro i
    have hi := Host.reduce_andi_all _ _ _ _ _ hR i
    exact real_of_below ((congrArg (Ideal.cmp .olt (max (R i) (-R i))) bits_top.symm).trans hi)

/-! ## The value -/

/-- A sum over the devices and their experts runs over all experts. -/
theorem sum_experts (f : Fin 128 → EReal) : ∑ d : Dev nD, ∑ e : Fin 4, f (expert d e) = ∑ e, f e := by
  rw [← Fintype.sum_prod_type' (fun (d : Fin 32) (e : Fin 4) => f (expert d e))]
  exact Fintype.sum_equiv (finProdFinEquiv (m := 32) (n := 4)) _ _ fun p => congrArg f (Fin.ext (Nat.add_comm _ _))

variable {m : (ℓ : Loc nD τ sig) → Buf (Elt Ideal) ℓ}

/-- Where every device holds the tokens `X`, the router `R`, the names `I` and its block of the weights `W`, the contributions add up to the reference's result. -/
theorem sum_own {X : S1024x512.Idx → EReal} {R : S512x128.Idx → EReal} {I : IVec S1024x2 32} {W : (⟨3, ![128, 512, 1024]⟩ : Shape).Idx → EReal}
    (hX : ∀ d : Dev nD, m (d.tc.loc main_arg0) = X) (hR : ∀ d : Dev nD, m (d.tc.loc main_arg1) = R) (hI : ∀ d : Dev nD, m (d.tc.loc main_arg2) = I)
    (hW : ∀ d : Dev nD, m (d.tc.loc main_arg3) = Layout.block ⟨3, ![4, 512, 1024]⟩ ⟨3, ![128, 512, 1024]⟩ 0 32 d W)
    (fX : ∀ i, ∃ r : ℝ, X i = r) (fR : ∀ i, ∃ r : ℝ, R i = r) (t h : Fin 1024) :
    ∑ d : Dev nD, own m d t h = expected X R I W t h := by
  have hb : ∀ (d : Dev nD) (e : Fin 4) (k : Fin 512), m (d.tc.loc main_arg3) (ix3 e k h) = W (ix3 (expert d e) k h) := by
    intro d e k
    rw [hW]
    refine congrArg W (funext fun a => Fin.ext ?_)
    match a with
    | ⟨0, _⟩ => show d.val * 4 + e.val = 4 * d.val + e.val; omega
    | ⟨1, _⟩ => rfl
    | ⟨2, _⟩ => rfl
  have hp := fun e => prob_real (x := fun k => X (ix2 t k)) (w := fun k e => R (ix2 k e)) (fun k => fX _) (fun k e => fR _) e
  have hm := mixture hp (fun k => X (ix2 t k)) (fun e k => W (ix3 e k h)) (I (ix2 t 0)) (I (ix2 t 1))
  refine Eq.trans ?_ hm
  rw [← sum_experts]
  refine Finset.sum_congr rfl fun d _ => ?_
  unfold own
  refine Finset.sum_congr rfl fun e _ => Finset.sum_congr rfl fun k _ => ?_
  rw [hb]
  unfold factor weight0 weight1 probs name0 name1
  rw [hX, hR, hI]

attribute [local irreducible] outAt Cert.ReferenceIdeal.Value.res_main_v76 own expected

/-- Both programs run, and every device ends with the reference's result. -/
theorem value [hF : Cert.Pre_finite_KernelIdeal.Facts] : Cert.algebraic_KernelIdeal_ReferenceIdeal_pre_finite_KernelIdeal := by
  intro m g m' g' hpre hargs
  have hv : ∀ c : Dev nD, outAt m 20 c = Cert.ReferenceIdeal.Value.res_main_v76 m' 0 := by
    intro c
    obtain ⟨fX, fR⟩ := finite_args _ _ _ _ (hpre c)
    rw [(hargs c).1] at fX
    rw [(hargs c).2.1] at fR
    have hat : ∀ t h : Fin 1024, outAt m 20 c (ix2 t h) = Cert.ReferenceIdeal.Value.res_main_v76 m' 0 (ix2 t h) := fun t h =>
      (total m c (ix2 t h)).trans ((Finset.sum_congr rfl fun d _ => given_own m d t h).trans
        ((sum_own (fun d => (hargs d).1) (fun d => (hargs d).2.1) (fun d => (hargs d).2.2.1) (fun d => (hargs d).2.2.2) fX fR t h).trans
          (result_reference m' 0 t h).symm))
    funext i
    have hi : i = ix2 (i 0) (i 1) := by
      funext a
      match a with
      | ⟨0, _⟩ => rfl
      | ⟨1, _⟩ => rfl
    rw [hi]
    exact hat (i 0) (i 1)
  refine ⟨Cert.ReferenceIdeal.Value.res_main_v76 m' 0, ?_, ?_⟩
  · exact (θ_run Cert.KernelIdeal.defs _ _).mono (fun r h c => ⟨(h.1.result m c).trans (hv c), h.1.arguments m c⟩) (run_main m g)
  · exact (θ_run Cert.ReferenceIdeal.defs _ _).mono (fun r h => h 0) (Cert.ReferenceIdeal.Value.run (F := Ideal) m' g')

end Cert.Moe
end
-- ==== Proof.lean ====
/-
# The claims

The three frames, that the ideal program is the kernel, and that its result is the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Value

@[expose] public section

noncomputable section

namespace Cert.Proof

theorem claim : Cert.Claim :=
  ⟨Cert.Kernel.Gen.facts, Cert.KernelIdeal.Gen.facts, Cert.ReferenceIdeal.Gen.facts, Cert.Moe.facts_kernel, Cert.Moe.facts_reference,
    Cert.Moe.frame_kernel, Cert.Moe.frame_ideal, fun m g _ => Cert.Moe.frame_ideal m g trivial,
    Cert.Moe.frame_reference, fun m g _ => Cert.Moe.frame_reference m g trivial, trivial,
    Cert.Moe.value (hF := Cert.Moe.facts_kernel)⟩

end Cert.Proof

end
